-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_dispatched : Cert.Pre_dispatched.Facts] (m : (ℓ : Loc Cert.Kernel3.nD Cert.Kernel3.τ Cert.Kernel3.sig) → Buf (Elt Bits) ℓ) : Prop :=
  ∀ c : Dev Cert.Kernel3.nD,
    (Cert.Pre_dispatched.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_dispatched : Cert.Pre_dispatched.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_dispatched.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_dispatched [hPre_dispatched : Cert.Pre_dispatched.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_dispatched.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_dispatched : Cert.Pre_dispatched.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_dispatched : Cert.Pre_dispatched.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_dispatched [hReference3Ideal : Cert.Reference3Ideal.Facts] [hPre_dispatched : Cert.Pre_dispatched.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_dispatched m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v73) = v3 c
          ∧ r.2.mem ((c.tc : Thread Cert.Reference2Ideal.nD Cert.Reference2Ideal.τ).loc Cert.Reference2Ideal.main_v75) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_dispatched : Cert.Pre_dispatched.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_dispatched : Cert.Pre_dispatched.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_dispatched := hPre_dispatched)
    ∧ quiescent_Kernel3Ideal (hKernel3Ideal := hKernel3Ideal) (hPre_dispatched := hPre_dispatched)
    ∧ quiescent_Reference3Ideal (hReference3Ideal := hReference3Ideal)
    ∧ quiescent_Reference3Ideal_pre_dispatched (hReference3Ideal := hReference3Ideal) (hPre_dispatched := hPre_dispatched)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_dispatched := hPre_dispatched)
-- ==== Pre_dispatched.lean ====
abbrev S200704x1024 : Shape := ⟨2, ![200704, 1024]⟩
abbrev S392 : Shape := ⟨1, ![392]⟩
abbrev S1 : Shape := ⟨1, ![1]⟩
abbrev S16x1024x512 : Shape := ⟨3, ![16, 1024, 512]⟩
abbrev S16x512x1024 : Shape := ⟨3, ![16, 512, 1024]⟩
abbrev S392x512x1024 : Shape := ⟨3, ![392, 512, 1024]⟩
abbrev S_ : Shape := ⟨0, ![]⟩
abbrev S392x1x1 : Shape := ⟨3, ![392, 1, 1]⟩

class Facts : Prop where
  bitsLt_bf16_f32 : FTy.bits .bf16 < FTy.bits .f32
  shapeCasts_S200704x1024_S392x512x1024 : S200704x1024.ShapeCasts S392x512x1024
  shapeCasts_S1_S_ : S1.ShapeCasts S_
  bcast_S_S392 : S_.BroadcastsInDim S392 (![] : Fin 0 → Fin S392.rank)
  bcast_S392_S392x1x1_0 : S392.BroadcastsInDim S392x1x1 (![0] : Fin 1 → Fin S392x1x1.rank)
  reducesTo_S392_S_d0 : S392.ReducesTo [0] S_
  h_S_ : 0 < S_.numel
  bcast_S_S1 : S_.BroadcastsInDim S1 (![] : Fin 0 → Fin S1.rank)
  reducesTo_S1_S_d0 : S1.ReducesTo [0] S_
  bcast_S_S392x512x1024 : S_.BroadcastsInDim S392x512x1024 (![] : Fin 0 → Fin S392x512x1024.rank)
  bcast_S392x1x1_S392x512x1024_0_1_2 : S392x1x1.BroadcastsInDim S392x512x1024 (![0, 1, 2] : Fin 3 → Fin S392x512x1024.rank)
  reducesTo_S392x512x1024_S_d0_1_2 : S392x512x1024.ReducesTo [0, 1, 2] S_

variable [Facts]

def fn_part1 {F : FTy → Type} [FloatOps F] (main_v1 : FVec F S392x512x1024 .f32) (main_v6 : IVec S392x1x1 1) (main_v16 : IVec S_ 1) (main_v17 : FVec F S392x512x1024 .f32) : IVec S_ 1 :=
  let main_v18 : IVec S392x512x1024 1 := cmpf .oeq main_v1 main_v17
  let main_v19 : IVec S392x512x1024 1 := broadcastInDim S392x512x1024 ![0, 1, 2] bcast_S392x1x1_S392x512x1024_0_1_2 main_v6
  let main_v20 : IVec S392x512x1024 1 := ori main_v19 main_v18
  let main_c_4 : IVec S_ 1 := constantI S_ 1 1#1
  let main_v21 : IVec S_ 1 := (fun x v => Host.reduce IntOp.andi x v reducesTo_S392x512x1024_S_d0_1_2 h_S_) main_v20 main_c_4
  let main_v22 : IVec S_ 1 := andi main_v16 main_v21
  main_v22

def fn {F : FTy → Type} [FloatOps F] (main_arg0 : FVec F S200704x1024 .bf16) (main_arg1 : IVec S392 32) (main_arg2 : IVec S1 32) (main_arg3 : FVec F S16x1024x512 .f32) (main_arg4 : FVec F S16x1024x512 .f32) (main_arg5 : FVec F S16x512x1024 .f32) : IVec S_ 1 :=
  let main_v0 : FVec F S200704x1024 .f32 := (extf .f32 · bitsLt_bf16_f32) main_arg0
  let main_v1 : FVec F S392x512x1024 .f32 := shapeCast S392x512x1024 main_v0 shapeCasts_S200704x1024_S392x512x1024
  let main_v2 : IVec S392 32 := iotaInDim S392 32 0
  let main_v3 : IVec S_ 32 := shapeCast S_ main_arg2 shapeCasts_S1_S_
  let main_v4 : IVec S392 32 := broadcastInDim S392 ![] bcast_S_S392 main_v3
  let main_v5 : IVec S392 1 := cmpi .slt main_v2 main_v4
  let main_v6 : IVec S392x1x1 1 := broadcastInDim S392x1x1 ![0] bcast_S392_S392x1x1_0 main_v5
  let main_c : IVec S_ 32 := constantI S_ 32 0#32
  let main_v7 : IVec S392 32 := broadcastInDim S392 ![] bcast_S_S392 main_c
  let main_v8 : IVec S392 1 := cmpi .sge main_arg1 main_v7
  let main_c_0 : IVec S_ 32 := constantI S_ 32 16#32
  let main_v9 : IVec S392 32 := broadcastInDim S392 ![] bcast_S_S392 main_c_0
  let main_v10 : IVec S392 1 := cmpi .slt main_arg1 main_v9
  let main_v11 : IVec S392 1 := andi main_v8 main_v10
  let main_c_1 : IVec S_ 1 := constantI S_ 1 1#1
  let main_v12 : IVec S_ 1 := (fun x v => Host.reduce IntOp.andi x v reducesTo_S392_S_d0 h_S_) main_v11 main_c_1
  let main_c_2 : IVec S_ 32 := constantI S_ 32 1#32
  let main_v13 : IVec S1 32 := broadcastInDim S1 ![] bcast_S_S1 main_c_2
  let main_v14 : IVec S1 1 := cmpi .sge main_arg2 main_v13
  let main_c_3 : IVec S_ 1 := constantI S_ 1 1#1
  let main_v15 : IVec S_ 1 := (fun x v => Host.reduce IntOp.andi x v reducesTo_S1_S_d0 h_S_) main_v14 main_c_3
  let main_v16 : IVec S_ 1 := andi main_v12 main_v15
  let main_cst : FVec F S_ .f32 := constant S_ .f32 0x00000000#32
  let main_v17 : FVec F S392x512x1024 .f32 := broadcastInDim S392x512x1024 ![] bcast_S_S392x512x1024 main_cst
  fn_part1 (F := F) main_v1 main_v6 main_v16 main_v17
-- ==== Pre_finite.lean ====
abbrev S8x8192x512 : Shape := ⟨3, ![8, 8192, 512]⟩
abbrev S8x15x31 : Shape := ⟨3, ![8, 15, 31]⟩
abbrev S_ : Shape := ⟨0, ![]⟩

class Facts : Prop where
  bitsLt_bf16_f32 : FTy.bits .bf16 < FTy.bits .f32
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S8x8192x512 .bf16) (main_arg1 : FVec F S8x8192x512 .bf16) (main_arg2 : FVec F S8x8192x512 .bf16) (main_arg3 : FVec F S8x15x31 .f32) : IVec S_ 1 :=
  let main_v0 : FVec F S8x8192x512 .f32 := (extf .f32 · bitsLt_bf16_f32) main_arg0
  let main_v1 : FVec F S8x8192x512 .f32 := Host.absf main_v0
  let main_cst : FVec F S_ .f32 := constant S_ .f32 0x7F800000#32
  let main_v2 : FVec F S8x8192x512 .f32 := broadcastInDim S8x8192x512 ![] bcast_S_S8x8192x512 main_cst
  let main_v3 : IVec S8x8192x512 1 := cmpf .olt main_v1 main_v2
  let main_c : IVec S_ 1 := constantI S_ 1 1#1
  let main_v4 : IVec S_ 1 := (fun x v => Host.reduce IntOp.andi x v reducesTo_S8x8192x512_S_d0_1_2 h_S_) main_v3 main_c
  let main_v5 : FVec F S8x8192x512 .f32 := (extf .f32 · bitsLt_bf16_f32) main_arg1
  let main_v6 : FVec F S8x8192x512 .f32 := Host.absf main_v5
  let main_cst_0 : FVec F S_ .f32 := constant S_ .f32 0x7F800000#32
  let main_v7 : FVec F S8x8192x512 .f32 := broadcastInDim S8x8192x512 ![] bcast_S_S8x8192x512 main_cst_0
  let main_v8 : IVec S8x8192x512 1 := cmpf .olt main_v6 main_v7
  let main_c_1 : IVec S_ 1 := constantI S_ 1 1#1
  let main_v9 : IVec S_ 1 := (fun x v => Host.reduce IntOp.andi x v reducesTo_S8x8192x512_S_d0_1_2 h_S_) main_v8 main_c_1
  let main_v10 : IVec S_ 1 := andi main_v4 main_v9
  let main_v11 : FVec F S8x15x31 .f32 := Host.absf main_arg3
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S_ 1 := andi main_v10 main_v14
  main_v15
-- ==== Kernel.lean ====
abbrev S8x8192x512 : Shape := ⟨3, ![8, 8192, 512]⟩
abbrev S8x15x31 : Shape := ⟨3, ![8, 15, 31]⟩
abbrev S8x1x8x1 : Shape := ⟨4, ![8, 1, 8, 1]⟩
abbrev S1x64x1x64 : Shape := ⟨4, ![1, 64, 1, 64]⟩
abbrev S64x64 : Shape := ⟨2, ![64, 64]⟩
abbrev S1x1x64x1x64 : Shape := ⟨5, ![1, 1, 64, 1, 64]⟩
abbrev S_ : Shape := ⟨0, ![]⟩
abbrev S8x64x8x64 : Shape := ⟨4, ![8, 64, 8, 64]⟩
abbrev S8x64x8x64x1 : Shape := ⟨5, ![8, 64, 8, 64, 1]⟩
abbrev S8x64x8x64x2 : Shape := ⟨5, ![8, 64, 8, 64, 2]⟩
abbrev S8x8x64x8x64 : Shape := ⟨5, ![8, 8, 64, 8, 64]⟩
abbrev S8x4x128x512 : Shape := ⟨4, ![8, 4, 128, 512]⟩
abbrev S1x512x512 : Shape := ⟨3, ![1, 512, 512]⟩
abbrev S1536x512 : Shape := ⟨2, ![1536, 512]⟩
abbrev S512x512 : Shape := ⟨2, ![512, 512]⟩
abbrev S1x128 : Shape := ⟨2, ![1, 128]⟩
abbrev S1x64x128 : Shape := ⟨3, ![1, 64, 128]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩
abbrev S128 : Shape := ⟨1, ![128]⟩
abbrev S128x1 : Shape := ⟨2, ![128, 1]⟩

abbrev nBuf : Space → Nat
  | .hbm => 32
  | .vmem => 19
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S8x8192x512, .bf16⟩
  | .hbm, ⟨3, _⟩ => ⟨S8x15x31, .f32⟩
  | .hbm, ⟨4, _⟩ => ⟨S8x1x8x1, .i32⟩
  | .hbm, ⟨5, _⟩ => ⟨S8x1x8x1, .i1⟩
  | .hbm, ⟨6, _⟩ => ⟨S1x64x1x64, .i32⟩
  | .hbm, ⟨7, _⟩ => ⟨S1x64x1x64, .i1⟩
  | .hbm, ⟨8, _⟩ => ⟨S64x64, .i1⟩
  | .hbm, ⟨9, _⟩ => ⟨S1x1x64x1x64, .i1⟩
  | .hbm, ⟨10, _⟩ => ⟨S_, .i32⟩
  | .hbm, ⟨11, _⟩ => ⟨S8x1x8x1, .i32⟩
  | .hbm, ⟨12, _⟩ => ⟨S8x1x8x1, .i32⟩
  | .hbm, ⟨13, _⟩ => ⟨S8x1x8x1, .i32⟩
  | .hbm, ⟨14, _⟩ => ⟨S_, .i32⟩
  | .hbm, ⟨15, _⟩ => ⟨S1x64x1x64, .i32⟩
  | .hbm, ⟨16, _⟩ => ⟨S1x64x1x64, .i32⟩
  | .hbm, ⟨17, _⟩ => ⟨S1x64x1x64, .i32⟩
  | .hbm, ⟨18, _⟩ => ⟨S8x64x8x64, .i32⟩
  | .hbm, ⟨19, _⟩ => ⟨S8x64x8x64, .i32⟩
  | .hbm, ⟨20, _⟩ => ⟨S8x64x8x64x1, .i32⟩
  | .hbm, ⟨21, _⟩ => ⟨S8x64x8x64x1, .i32⟩
  | .hbm, ⟨22, _⟩ => ⟨S8x64x8x64x2, .i32⟩
  | .hbm, ⟨23, _⟩ => ⟨S8x8x64x8x64, .f32⟩
  | .hbm, ⟨24, _⟩ => ⟨S8x8x64x8x64, .f32⟩
  | .hbm, ⟨25, _⟩ => ⟨S_, .f32⟩
  | .hbm, ⟨26, _⟩ => ⟨S_, .f32⟩
  | .hbm, ⟨27, _⟩ => ⟨S8x8x64x8x64, .i1⟩
  | .hbm, ⟨28, _⟩ => ⟨S8x8x64x8x64, .f32⟩
  | .hbm, ⟨29, _⟩ => ⟨S8x8x64x8x64, .f32⟩
  | .hbm, ⟨30, _⟩ => ⟨S8x4x128x512, .f32⟩
  | .hbm, ⟨31, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S8x4x128x512, .f32⟩
  | .local _ .vmem, ⟨15, _⟩ => ⟨S1x512x512, .bf16⟩
  | .local _ .vmem, ⟨16, _⟩ => ⟨S1x512x512, .bf16⟩
  | .local _ .vmem, ⟨17, _⟩ => ⟨S1536x512, .bf16⟩
  | .local _ .vmem, ⟨18, _⟩ => ⟨S1536x512, .bf16⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_c_4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let c0_i32 : BitVec 32 := 0#32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let c1_i32 : BitVec 32 := 1#32
  let v40 : BitVec 32 := Scalar.subi arg1 c1_i32
  let c8_i32_28 : BitVec 32 := 8#32
  let v41 : BitVec 32 := Scalar.muli v40 c8_i32_28
  let v42 : BitVec 32 := Scalar.subi v37 v41
  let c64_i32_29 : BitVec 32 := 64#32
  let v43 : BitVec 32 := Scalar.muli v42 c64_i32_29
  v43
def k0_mult2 : BitVec 32 :=
  let c0_i32 : BitVec 32 := 0#32
  let c64_i32_30 : BitVec 32 := 64#32
  let v45 : BitVec 32 := Scalar.muli c0_i32 c64_i32_30
  v45
def k0_off1 (c0_i32 : BitVec 32) : Fin 3 → Nat :=
  let c0_31 : Index := 0#32
  let c64_i32_30 : BitVec 32 := 64#32
  let v45 : BitVec 32 := Scalar.muli c0_i32 c64_i32_30
  let v46 : BitVec 32 := v45
  let v47 : Index := Scalar.indexCast v46
  let c0_32 : Index := 0#32
  ![0, v47.toNat, 0]
def k0_off2 (i : grid0.Coords) (c0_i32 : BitVec 32) : Fin 2 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let c1_i32 : BitVec 32 := 1#32
  let v40 : BitVec 32 := Scalar.subi arg1 c1_i32
  let c8_i32_28 : BitVec 32 := 8#32
  let v41 : BitVec 32 := Scalar.muli v40 c8_i32_28
  let v42 : BitVec 32 := Scalar.subi v37 v41
  let c64_i32_29 : BitVec 32 := 64#32
  let v43 : BitVec 32 := Scalar.muli v42 c64_i32_29
  let v44 : BitVec 32 := v43
  let v58 : Index := Scalar.indexCast v44
  let c0_33 : Index := 0#32
  ![v58.toNat, 0]
def k0_off3 (i : grid0.Coords) (c0_i32 : BitVec 32) : Fin 4 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let v38 : BitVec 32 := Scalar.subi v37 v34
  let c7_i32 : BitVec 32 := 7#32
  let v39 : BitVec 32 := Scalar.addi v38 c7_i32
  let v61 : Index := Scalar.indexCast v39
  let c0_35 : Index := 0#32
  let c0_36 : Index := 0#32
  let c0_37 : Index := 0#32
  ![v61.toNat, 0, 0, 0]
def k0_off4 (c0_i32 : BitVec 32) : Fin 3 → Nat :=
  let c0_38 : Index := 0#32
  let c64_i32_30 : BitVec 32 := 64#32
  let v45 : BitVec 32 := Scalar.muli c0_i32 c64_i32_30
  let v46 : BitVec 32 := v45
  let v65 : Index := Scalar.indexCast v46
  let c128 : Index := 128#32
  ![0, v65.toNat, 128]
def k0_off5 (i : grid0.Coords) (c0_i32 : BitVec 32) : Fin 2 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let c1_i32 : BitVec 32 := 1#32
  let v40 : BitVec 32 := Scalar.subi arg1 c1_i32
  let c8_i32_28 : BitVec 32 := 8#32
  let v41 : BitVec 32 := Scalar.muli v40 c8_i32_28
  let v42 : BitVec 32 := Scalar.subi v37 v41
  let c64_i32_29 : BitVec 32 := 64#32
  let v43 : BitVec 32 := Scalar.muli v42 c64_i32_29
  let v44 : BitVec 32 := v43
  let v76 : Index := Scalar.indexCast v44
  let c128_40 : Index := 128#32
  ![v76.toNat, 128]
def k0_off6 (i : grid0.Coords) (c0_i32 : BitVec 32) : Fin 4 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let v38 : BitVec 32 := Scalar.subi v37 v34
  let c7_i32 : BitVec 32 := 7#32
  let v39 : BitVec 32 := Scalar.addi v38 c7_i32
  let v79 : Index := Scalar.indexCast v39
  let c1 : Index := 1#32
  let c0_42 : Index := 0#32
  let c0_43 : Index := 0#32
  ![v79.toNat, 1, 0, 0]
def k0_off7 (c0_i32 : BitVec 32) : Fin 3 → Nat :=
  let c0_44 : Index := 0#32
  let c64_i32_30 : BitVec 32 := 64#32
  let v45 : BitVec 32 := Scalar.muli c0_i32 c64_i32_30
  let v46 : BitVec 32 := v45
  let v83 : Index := Scalar.indexCast v46
  let c256 : Index := 256#32
  ![0, v83.toNat, 256]
def k0_off8 (i : grid0.Coords) (c0_i32 : BitVec 32) : Fin 2 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let c1_i32 : BitVec 32 := 1#32
  let v40 : BitVec 32 := Scalar.subi arg1 c1_i32
  let c8_i32_28 : BitVec 32 := 8#32
  let v41 : BitVec 32 := Scalar.muli v40 c8_i32_28
  let v42 : BitVec 32 := Scalar.subi v37 v41
  let c64_i32_29 : BitVec 32 := 64#32
  let v43 : BitVec 32 := Scalar.muli v42 c64_i32_29
  let v44 : BitVec 32 := v43
  let v94 : Index := Scalar.indexCast v44
  let c256_46 : Index := 256#32
  ![v94.toNat, 256]
def k0_off9 (i : grid0.Coords) (c0_i32 : BitVec 32) : Fin 4 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let v38 : BitVec 32 := Scalar.subi v37 v34
  let c7_i32 : BitVec 32 := 7#32
  let v39 : BitVec 32 := Scalar.addi v38 c7_i32
  let v97 : Index := Scalar.indexCast v39
  let c2 : Index := 2#32
  let c0_48 : Index := 0#32
  let c0_49 : Index := 0#32
  ![v97.toNat, 2, 0, 0]
def k0_off10 (c0_i32 : BitVec 32) : Fin 3 → Nat :=
  let c0_50 : Index := 0#32
  let c64_i32_30 : BitVec 32 := 64#32
  let v45 : BitVec 32 := Scalar.muli c0_i32 c64_i32_30
  let v46 : BitVec 32 := v45
  let v101 : Index := Scalar.indexCast v46
  let c384 : Index := 384#32
  ![0, v101.toNat, 384]
def k0_off11 (i : grid0.Coords) (c0_i32 : BitVec 32) : Fin 2 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let c1_i32 : BitVec 32 := 1#32
  let v40 : BitVec 32 := Scalar.subi arg1 c1_i32
  let c8_i32_28 : BitVec 32 := 8#32
  let v41 : BitVec 32 := Scalar.muli v40 c8_i32_28
  let v42 : BitVec 32 := Scalar.subi v37 v41
  let c64_i32_29 : BitVec 32 := 64#32
  let v43 : BitVec 32 := Scalar.muli v42 c64_i32_29
  let v44 : BitVec 32 := v43
  let v112 : Index := Scalar.indexCast v44
  let c384_52 : Index := 384#32
  ![v112.toNat, 384]
def k0_off12 (i : grid0.Coords) (c0_i32 : BitVec 32) : Fin 4 → Nat :=
  let c120_i32 : BitVec 32 := 120#32
  let c0_i32_27 : BitVec 32 := 0#32
  let arg1 : BitVec 32 := BitVec.ofNat 32 (i 1).val
  let c8_i32 : BitVec 32 := 8#32
  let v33 : BitVec 32 := Scalar.muli arg1 c8_i32
  let v34 : BitVec 32 := Scalar.addi v33 c0_i32
  let c4_i32 : BitVec 32 := 4#32
  let v35 : BitVec 32 := Scalar.subi v34 c4_i32
  let v36 : BitVec 32 := Scalar.maxsi c0_i32_27 v35
  let v37 : BitVec 32 := Scalar.minsi c120_i32 v36
  let v38 : BitVec 32 := Scalar.subi v37 v34
  let c7_i32 : BitVec 32 := 7#32
  let v39 : BitVec 32 := Scalar.addi v38 c7_i32
  let v115 : Index := Scalar.indexCast v39
  let c3 : Index := 3#32
  let c0_54 : Index := 0#32
  let c0_55 : Index := 0#32
  ![v115.toNat, 3, 0, 0]
def k0_mult3 (i : grid0.Coords) : BitVec 32 :=
  let c120_i32_84 : BitVec 32 := 120#32
  let c0_i32_83 : BitVec 32 := 0#32
  let arg1 : BitVec 32 := BitVec.ofNat 32 (i 1).val
  let c8_i32_81 : BitVec 32 := 8#32
  let v211 : BitVec 32 := Scalar.muli arg1 c8_i32_81
  let c1_i32_80 : BitVec 32 := 1#32
  let v212 : BitVec 32 := Scalar.addi v211 c1_i32_80
  let c4_i32_82 : BitVec 32 := 4#32
  let v213 : BitVec 32 := Scalar.subi v212 c4_i32_82
  let v214 : BitVec 32 := Scalar.maxsi c0_i32_83 v213
  let v215 : BitVec 32 := Scalar.minsi c120_i32_84 v214
  let c1_i32_86 : BitVec 32 := 1#32
  let v218 : BitVec 32 := Scalar.subi arg1 c1_i32_86
  let c8_i32_87 : BitVec 32 := 8#32
  let v219 : BitVec 32 := Scalar.muli v218 c8_i32_87
  let v220 : BitVec 32 := Scalar.subi v215 v219
  let c64_i32_88 : BitVec 32 := 64#32
  let v221 : BitVec 32 := Scalar.muli v220 c64_i32_88
  v221
def k0_mult4 : BitVec 32 :=
  let c1_i32_80 : BitVec 32 := 1#32
  let c64_i32_89 : BitVec 32 := 64#32
  let v223 : BitVec 32 := Scalar.muli c1_i32_80 c64_i32_89
  v223
def k0_mult5 (i : grid0.Coords) : BitVec 32 :=
  let c120_i32_149 : BitVec 32 := 120#32
  let c0_i32_148 : BitVec 32 := 0#32
  let arg1 : BitVec 32 := BitVec.ofNat 32 (i 1).val
  let c8_i32_146 : BitVec 32 := 8#32
  let v389 : BitVec 32 := Scalar.muli arg1 c8_i32_146
  let c2_i32 : BitVec 32 := 2#32
  let v390 : BitVec 32 := Scalar.addi v389 c2_i32
  let c4_i32_147 : BitVec 32 := 4#32
  let v391 : BitVec 32 := Scalar.subi v390 c4_i32_147
  let v392 : BitVec 32 := Scalar.maxsi c0_i32_148 v391
  let v393 : BitVec 32 := Scalar.minsi c120_i32_149 v392
  let c1_i32_151 : BitVec 32 := 1#32
  let v396 : BitVec 32 := Scalar.subi arg1 c1_i32_151
  let c8_i32_152 : BitVec 32 := 8#32
  let v397 : BitVec 32 := Scalar.muli v396 c8_i32_152
  let v398 : BitVec 32 := Scalar.subi v393 v397
  let c64_i32_153 : BitVec 32 := 64#32
  let v399 : BitVec 32 := Scalar.muli v398 c64_i32_153
  v399
def k0_mult6 : BitVec 32 :=
  let c2_i32 : BitVec 32 := 2#32
  let c64_i32_154 : BitVec 32 := 64#32
  let v401 : BitVec 32 := Scalar.muli c2_i32 c64_i32_154
  v401
def k0_mult7 (i : grid0.Coords) : BitVec 32 :=
  let c120_i32_214 : BitVec 32 := 120#32
  let c0_i32_213 : BitVec 32 := 0#32
  let arg1 : BitVec 32 := BitVec.ofNat 32 (i 1).val
  let c8_i32_211 : BitVec 32 := 8#32
  let v567 : BitVec 32 := Scalar.muli arg1 c8_i32_211
  let c3_i32 : BitVec 32 := 3#32
  let v568 : BitVec 32 := Scalar.addi v567 c3_i32
  let c4_i32_212 : BitVec 32 := 4#32
  let v569 : BitVec 32 := Scalar.subi v568 c4_i32_212
  let v570 : BitVec 32 := Scalar.maxsi c0_i32_213 v569
  let v571 : BitVec 32 := Scalar.minsi c120_i32_214 v570
  let c1_i32_216 : BitVec 32 := 1#32
  let v574 : BitVec 32 := Scalar.subi arg1 c1_i32_216
  let c8_i32_217 : BitVec 32 := 8#32
  let v575 : BitVec 32 := Scalar.muli v574 c8_i32_217
  let v576 : BitVec 32 := Scalar.subi v571 v575
  let c64_i32_218 : BitVec 32 := 64#32
  let v577 : BitVec 32 := Scalar.muli v576 c64_i32_218
  v577
def k0_mult8 : BitVec 32 :=
  let c3_i32 : BitVec 32 := 3#32
  let c64_i32_219 : BitVec 32 := 64#32
  let v579 : BitVec 32 := Scalar.muli c3_i32 c64_i32_219
  v579
def k0_mult9 (i : grid0.Coords) : BitVec 32 :=
  let c120_i32_280 : BitVec 32 := 120#32
  let c0_i32_279 : BitVec 32 := 0#32
  let arg1 : BitVec 32 := BitVec.ofNat 32 (i 1).val
  let c8_i32_277 : BitVec 32 := 8#32
  let v745 : BitVec 32 := Scalar.muli arg1 c8_i32_277
  let c4_i32_276 : BitVec 32 := 4#32
  let v746 : BitVec 32 := Scalar.addi v745 c4_i32_276
  let c4_i32_278 : BitVec 32 := 4#32
  let v747 : BitVec 32 := Scalar.subi v746 c4_i32_278
  let v748 : BitVec 32 := Scalar.maxsi c0_i32_279 v747
  let v749 : BitVec 32 := Scalar.minsi c120_i32_280 v748
  let c1_i32_282 : BitVec 32 := 1#32
  let v752 : BitVec 32 := Scalar.subi arg1 c1_i32_282
  let c8_i32_283 : BitVec 32 := 8#32
  let v753 : BitVec 32 := Scalar.muli v752 c8_i32_283
  let v754 : BitVec 32 := Scalar.subi v749 v753
  let c64_i32_284 : BitVec 32 := 64#32
  let v755 : BitVec 32 := Scalar.muli v754 c64_i32_284
  v755
def k0_mult10 : BitVec 32 :=
  let c4_i32_276 : BitVec 32 := 4#32
  let c64_i32_285 : BitVec 32 := 64#32
  let v757 : BitVec 32 := Scalar.muli c4_i32_276 c64_i32_285
  v757
def k0_mult11 (i : grid0.Coords) : BitVec 32 :=
  let c120_i32_345 : BitVec 32 := 120#32
  let c0_i32_344 : BitVec 32 := 0#32
  let arg1 : BitVec 32 := BitVec.ofNat 32 (i 1).val
  let c8_i32_342 : BitVec 32 := 8#32
  let v923 : BitVec 32 := Scalar.muli arg1 c8_i32_342
  let c5_i32 : BitVec 32 := 5#32
  let v924 : BitVec 32 := Scalar.addi v923 c5_i32
  let c4_i32_343 : BitVec 32 := 4#32
  let v925 : BitVec 32 := Scalar.subi v924 c4_i32_343
  let v926 : BitVec 32 := Scalar.maxsi c0_i32_344 v925
  let v927 : BitVec 32 := Scalar.minsi c120_i32_345 v926
  let c1_i32_347 : BitVec 32 := 1#32
  let v930 : BitVec 32 := Scalar.subi arg1 c1_i32_347
  let c8_i32_348 : BitVec 32 := 8#32
  let v931 : BitVec 32 := Scalar.muli v930 c8_i32_348
  let v932 : BitVec 32 := Scalar.subi v927 v931
  let c64_i32_349 : BitVec 32 := 64#32
  let v933 : BitVec 32 := Scalar.muli v932 c64_i32_349
  v933
def k0_mult12 : BitVec 32 :=
  let c5_i32 : BitVec 32 := 5#32
  let c64_i32_350 : BitVec 32 := 64#32
  let v935 : BitVec 32 := Scalar.muli c5_i32 c64_i32_350
  v935
def k0_mult13 (i : grid0.Coords) : BitVec 32 :=
  let c120_i32_410 : BitVec 32 := 120#32
  let c0_i32_409 : BitVec 32 := 0#32
  let arg1 : BitVec 32 := BitVec.ofNat 32 (i 1).val
  let c8_i32_407 : BitVec 32 := 8#32
  let v1101 : BitVec 32 := Scalar.muli arg1 c8_i32_407
  let c6_i32 : BitVec 32 := 6#32
  let v1102 : BitVec 32 := Scalar.addi v1101 c6_i32
  let c4_i32_408 : BitVec 32 := 4#32
  let v1103 : BitVec 32 := Scalar.subi v1102 c4_i32_408
  let v1104 : BitVec 32 := Scalar.maxsi c0_i32_409 v1103
  let v1105 : BitVec 32 := Scalar.minsi c120_i32_410 v1104
  let c1_i32_412 : BitVec 32 := 1#32
  let v1108 : BitVec 32 := Scalar.subi arg1 c1_i32_412
  let c8_i32_413 : BitVec 32 := 8#32
  let v1109 : BitVec 32 := Scalar.muli v1108 c8_i32_413
  let v1110 : BitVec 32 := Scalar.subi v1105 v1109
  let c64_i32_414 : BitVec 32 := 64#32
  let v1111 : BitVec 32 := Scalar.muli v1110 c64_i32_414
  v1111
def k0_mult14 : BitVec 32 :=
  let c6_i32 : BitVec 32 := 6#32
  let c64_i32_415 : BitVec 32 := 64#32
  let v1113 : BitVec 32 := Scalar.muli c6_i32 c64_i32_415
  v1113
def k0_mult15 (i : grid0.Coords) : BitVec 32 :=
  let c120_i32_476 : BitVec 32 := 120#32
  let c0_i32_475 : BitVec 32 := 0#32
  let arg1 : BitVec 32 := BitVec.ofNat 32 (i 1).val
  let c8_i32_473 : BitVec 32 := 8#32
  let v1279 : BitVec 32 := Scalar.muli arg1 c8_i32_473
  let c7_i32_472 : BitVec 32 := 7#32
  let v1280 : BitVec 32 := Scalar.addi v1279 c7_i32_472
  let c4_i32_474 : BitVec 32 := 4#32
  let v1281 : BitVec 32 := Scalar.subi v1280 c4_i32_474
  let v1282 : BitVec 32 := Scalar.maxsi c0_i32_475 v1281
  let v1283 : BitVec 32 := Scalar.minsi c120_i32_476 v1282
  let c1_i32_478 : BitVec 32 := 1#32
  let v1286 : BitVec 32 := Scalar.subi arg1 c1_i32_478
  let c8_i32_479 : BitVec 32 := 8#32
  let v1287 : BitVec 32 := Scalar.muli v1286 c8_i32_479
  let v1288 : BitVec 32 := Scalar.subi v1283 v1287
  let c64_i32_480 : BitVec 32 := 64#32
  let v1289 : BitVec 32 := Scalar.muli v1288 c64_i32_480
  v1289
def k0_mult16 : BitVec 32 :=
  let c7_i32_472 : BitVec 32 := 7#32
  let c64_i32_481 : BitVec 32 := 64#32
  let v1291 : BitVec 32 := Scalar.muli c7_i32_472 c64_i32_481
  v1291
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x4x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x8192x512 : Shape := ⟨3, ![8, 8192, 512]⟩
abbrev S8x15x31 : Shape := ⟨3, ![8, 15, 31]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x1x8x1 : Shape := ⟨4, ![128, 1, 8, 1]⟩
abbrev S128x64x8x16 : Shape := ⟨4, ![128, 64, 8, 16]⟩
abbrev S128x64x128 : Shape := ⟨3, ![128, 64, 128]⟩
abbrev S1x64x1x16 : Shape := ⟨4, ![1, 64, 1, 16]⟩
abbrev S8x128x64x8x64 : Shape := ⟨5, ![8, 128, 64, 8, 64]⟩
abbrev S128x64x128x1 : Shape := ⟨4, ![128, 64, 128, 1]⟩
abbrev S128x64x128x2 : Shape := ⟨4, ![128, 64, 128, 2]⟩
abbrev S8x128x64x128x8x64 : Shape := ⟨6, ![8, 128, 64, 128, 8, 64]⟩
abbrev S128x1x1 : Shape := ⟨3, ![128, 1, 1]⟩
abbrev S1x64x1 : Shape := ⟨3, ![1, 64, 1]⟩
abbrev S8x128x64x128 : Shape := ⟨4, ![8, 128, 64, 128]⟩
abbrev S8x8x128x64x128 : Shape := ⟨5, ![8, 8, 128, 64, 128]⟩
abbrev S1x8x128x64x128 : Shape := ⟨5, ![1, 8, 128, 64, 128]⟩
abbrev S8x8x128x64 : Shape := ⟨4, ![8, 8, 128, 64]⟩
abbrev S8x8x128x64x1 : Shape := ⟨5, ![8, 8, 128, 64, 1]⟩

abbrev nBuf : Space → Nat
  | .hbm => 145
  | .vmem => 0
  | .smem => 0
  | _ => 0

abbrev hbmTy0_0 (i : Nat) : BufTy := match i % 128 with
  | 0 => ⟨S8x8192x512, .bf16⟩
  | 1 => ⟨S8x8192x512, .bf16⟩
  | 2 => ⟨S8x8192x512, .bf16⟩
  | 3 => ⟨S8x15x31, .f32⟩
  | 4 => ⟨S128, .i32⟩
  | 5 => ⟨S_, .i32⟩
  | 6 => ⟨S128, .i32⟩
  | 7 => ⟨S128, .i32⟩
  | 8 => ⟨S_, .i32⟩
  | 9 => ⟨S_, .i32⟩
  | 10 => ⟨S_, .i32⟩
  | 11 => ⟨S128, .i32⟩
  | 12 => ⟨S128, .i32⟩
  | 13 => ⟨S_, .i32⟩
  | 14 => ⟨S128, .i32⟩
  | 15 => ⟨S128, .i32⟩
  | 16 => ⟨S128x1, .i32⟩
  | 17 => ⟨S8, .i32⟩
  | 18 => ⟨S1x8, .i32⟩
  | 19 => ⟨S128x8, .i32⟩
  | 20 => ⟨S128x8, .i32⟩
  | 21 => ⟨S128x8, .i32⟩
  | 22 => ⟨S64, .i32⟩
  | 23 => ⟨S_, .i32⟩
  | 24 => ⟨S64, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64x1, .i32⟩
  | 35 => ⟨S16, .i32⟩
  | 36 => ⟨S1x16, .i32⟩
  | 37 => ⟨S64x16, .i32⟩
  | 38 => ⟨S64x16, .i32⟩
  | 39 => ⟨S64x16, .i32⟩
  | 40 => ⟨S128x1x8x1, .i32⟩
  | 41 => ⟨S128x64x8x16, .i32⟩
  | 42 => ⟨S128x64x128, .i32⟩
  | 43 => ⟨S1x64x1x16, .i32⟩
  | 44 => ⟨S128x64x8x16, .i32⟩
  | 45 => ⟨S128x64x128, .i32⟩
  | 46 => ⟨S8x8192x512, .f32⟩
  | 47 => ⟨S8x128x64x8x64, .f32⟩
  | 48 => ⟨S8x8192x512, .f32⟩
  | 49 => ⟨S8x128x64x8x64, .f32⟩
  | 50 => ⟨S8x8192x512, .f32⟩
  | 51 => ⟨S8x128x64x8x64, .f32⟩
  | 52 => ⟨S_, .i32⟩
  | 53 => ⟨S128x64x128, .i32⟩
  | 54 => ⟨S128x64x128, .i1⟩
  | 55 => ⟨S_, .i32⟩
  | 56 => ⟨S128x64x128, .i32⟩
  | 57 => ⟨S128x64x128, .i32⟩
  | 58 => ⟨S128x64x128, .i32⟩
  | 59 => ⟨S_, .i32⟩
  | 60 => ⟨S128x64x128, .i32⟩
  | 61 => ⟨S128x64x128, .i1⟩
  | 62 => ⟨S_, .i32⟩
  | 63 => ⟨S128x64x128, .i32⟩
  | 64 => ⟨S128x64x128, .i32⟩
  | 65 => ⟨S128x64x128, .i32⟩
  | 66 => ⟨S128x64x128x1, .i32⟩
  | 67 => ⟨S128x64x128x1, .i32⟩
  | 68 => ⟨S128x64x128x2, .i32⟩
  | 69 => ⟨S8x128x64x128x8x64, .f32⟩
  | 70 => ⟨S_, .i32⟩
  | 71 => ⟨S128x64x128, .i32⟩
  | 72 => ⟨S128x64x128, .i1⟩
  | 73 => ⟨S_, .i32⟩
  | 74 => ⟨S128x64x128, .i32⟩
  | 75 => ⟨S128x64x128, .i32⟩
  | 76 => ⟨S128x64x128, .i32⟩
  | 77 => ⟨S_, .i32⟩
  | 78 => ⟨S128x64x128, .i32⟩
  | 79 => ⟨S128x64x128, .i1⟩
  | 80 => ⟨S_, .i32⟩
  | 81 => ⟨S128x64x128, .i32⟩
  | 82 => ⟨S128x64x128, .i32⟩
  | 83 => ⟨S128x64x128, .i32⟩
  | 84 => ⟨S128x64x128x1, .i32⟩
  | 85 => ⟨S128x64x128x1, .i32⟩
  | 86 => ⟨S128x64x128x2, .i32⟩
  | 87 => ⟨S8x128x64x128x8x64, .f32⟩
  | 88 => ⟨S128x1x1, .i32⟩
  | 89 => ⟨S128x64x128, .i32⟩
  | 90 => ⟨S128x64x128, .i32⟩
  | 91 => ⟨S_, .i32⟩
  | 92 => ⟨S128x64x128, .i32⟩
  | 93 => ⟨S128x64x128, .i32⟩
  | 94 => ⟨S_, .i32⟩
  | 95 => ⟨S128x64x128, .i32⟩
  | 96 => ⟨S128x64x128, .i32⟩
  | 97 => ⟨S1x64x1, .i32⟩
  | 98 => ⟨S128x64x128, .i32⟩
  | 99 => ⟨S128x64x128, .i32⟩
  | 100 => ⟨S_, .i32⟩
  | 101 => ⟨S128x64x128, .i32⟩
  | 102 => ⟨S128x64x128, .i32⟩
  | 103 => ⟨S_, .i32⟩
  | 104 => ⟨S128x64x128, .i32⟩
  | 105 => ⟨S128x64x128, .i32⟩
  | 106 => ⟨S_, .i32⟩
  | 107 => ⟨S128x64x128, .i32⟩
  | 108 => ⟨S128x64x128, .i1⟩
  | 109 => ⟨S_, .i32⟩
  | 110 => ⟨S128x64x128, .i32⟩
  | 111 => ⟨S128x64x128, .i32⟩
  | 112 => ⟨S128x64x128, .i32⟩
  | 113 => ⟨S_, .i32⟩
  | 114 => ⟨S128x64x128, .i32⟩
  | 115 => ⟨S128x64x128, .i1⟩
  | 116 => ⟨S_, .i32⟩
  | 117 => ⟨S128x64x128, .i32⟩
  | 118 => ⟨S128x64x128, .i32⟩
  | 119 => ⟨S128x64x128, .i32⟩
  | 120 => ⟨S128x64x128x1, .i32⟩
  | 121 => ⟨S128x64x128x1, .i32⟩
  | 122 => ⟨S128x64x128x2, .i32⟩
  | 123 => ⟨S8x128x64x128, .f32⟩
  | 124 => ⟨S8x8x128x64x128, .f32⟩
  | 125 => ⟨S1x8x128x64x128, .f32⟩
  | 126 => ⟨S8x8x128x64x128, .f32⟩
  | 127 => ⟨S8x8x128x64x128, .f32⟩
  | _ => ⟨S8x8192x512, .bf16⟩

abbrev hbmTy0_1 (i : Nat) : BufTy := match i % 128 with
  | 0 => ⟨S_, .f32⟩
  | 1 => ⟨S8x8x128x64, .f32⟩
  | 2 => ⟨S_, .f32⟩
  | 3 => ⟨S8x8x128x64, .f32⟩
  | 4 => ⟨S8x8x128x64, .f32⟩
  | 5 => ⟨S8x8x128x64x1, .f32⟩
  | 6 => ⟨S8x8x128x64x128, .f32⟩
  | 7 => ⟨S8x8x128x64x128, .f32⟩
  | 8 => ⟨S8x8x128x64x128, .f32⟩
  | 9 => ⟨S_, .f32⟩
  | 10 => ⟨S8x8x128x64, .f32⟩
  | 11 => ⟨S8x8x128x64x1, .f32⟩
  | 12 => ⟨S8x8x128x64x128, .f32⟩
  | 13 => ⟨S8x8x128x64x128, .f32⟩
  | 14 => ⟨S8x128x64x8x64, .f32⟩
  | 15 => ⟨S8x8192x512, .f32⟩
  | 16 => ⟨S8x8192x512, .bf16⟩
  | _ => ⟨S8x8192x512, .bf16⟩

abbrev hbmTy (i : Nat) : BufTy := match i / 128 with
  | 0 => hbmTy0_0 i
  | 1 => hbmTy0_1 i
  | _ => ⟨S8x8192x512, .bf16⟩

abbrev bufTy : (tb : Table) → Fin (tcTables nBuf tb) → BufTy
  | .hbm, ⟨i, _⟩ => hbmTy i
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x2944 : Shape := ⟨2, ![1024, 2944]⟩
abbrev S64 : Shape := ⟨1, ![64]⟩
abbrev S65536x1024 : Shape := ⟨2, ![65536, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S65536x512 : Shape := ⟨2, ![65536, 512]⟩
abbrev S65536x1152 : Shape := ⟨2, ![65536, 1152]⟩
abbrev S65536x256 : Shape := ⟨2, ![65536, 256]⟩
abbrev S512x1024 : Shape := ⟨2, ![512, 1024]⟩
abbrev S512x512 : Shape := ⟨2, ![512, 512]⟩
abbrev S512x1152 : Shape := ⟨2, ![512, 1152]⟩
abbrev S512x256 : Shape := ⟨2, ![512, 256]⟩
abbrev S512x1 : Shape := ⟨2, ![512, 1]⟩
abbrev S1024x512 : Shape := ⟨2, ![1024, 512]⟩
abbrev S1024x1152 : Shape := ⟨2, ![1024, 1152]⟩
abbrev S1024x256 : Shape := ⟨2, ![1024, 256]⟩
abbrev S256x256 : Shape := ⟨2, ![256, 256]⟩

abbrev nBuf : Space → Nat
  | .hbm => 26
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2944, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S65536x1024, .f32⟩
  | .hbm, ⟨7, _⟩ => ⟨S1x1024, .f32⟩
  | .hbm, ⟨8, _⟩ => ⟨S1024x2944, .bf16⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S1x64, .f32⟩
  | .hbm, ⟨18, _⟩ => ⟨S4x64, .f32⟩
  | .hbm, ⟨19, _⟩ => ⟨S256, .f32⟩
  | .hbm, ⟨20, _⟩ => ⟨S1x256, .f32⟩
  | .hbm, ⟨21, _⟩ => ⟨S65536x512, .bf16⟩
  | .hbm, ⟨22, _⟩ => ⟨S65536x512, .bf16⟩
  | .hbm, ⟨23, _⟩ => ⟨S65536x512, .bf16⟩
  | .hbm, ⟨24, _⟩ => ⟨S65536x1152, .f32⟩
  | .hbm, ⟨25, _⟩ => ⟨S65536x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S1x512, .f32⟩
  | .local _ .vmem, ⟨5, _⟩ => ⟨S1x512, .f32⟩
  | .local _ .vmem, ⟨6, _⟩ => ⟨S1x256, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1152, .f32⟩
  | .local _ .vmem, ⟨14, _⟩ => ⟨S512x1152, .f32⟩
  | .local _ .vmem, ⟨15, _⟩ => ⟨S512x256, .bf16⟩
  | .local _ .vmem, ⟨16, _⟩ => ⟨S512x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x8192x1024 : Shape := ⟨3, ![8, 8192, 1024]⟩
abbrev S1024 : Shape := ⟨1, ![1024]⟩
abbrev S1024x2944 : Shape := ⟨2, ![1024, 2944]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2944 : Shape := ⟨3, ![8, 8192, 2944]⟩
abbrev S8x8192x1536 : Shape := ⟨3, ![8, 8192, 1536]⟩
abbrev S8x8192x1152 : Shape := ⟨3, ![8, 8192, 1152]⟩
abbrev S8x8192x256 : Shape := ⟨3, ![8, 8192, 256]⟩
abbrev S8x8192x512 : Shape := ⟨3, ![8, 8192, 512]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x4x64 : Shape := ⟨4, ![8, 8192, 4, 64]⟩
abbrev S8x8192x4 : Shape := ⟨3, ![8, 8192, 4]⟩
abbrev S8x8192x4x1 : Shape := ⟨4, ![8, 8192, 4, 1]⟩
abbrev S65536x512 : Shape := ⟨2, ![65536, 512]⟩
abbrev S65536x1152 : Shape := ⟨2, ![65536, 1152]⟩
abbrev S65536x256 : Shape := ⟨2, ![65536, 256]⟩

abbrev nBuf : Space → Nat
  | .hbm => 96
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2944, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x2944, .f32⟩
  | .hbm, ⟨23, _⟩ => ⟨S8x8192x1536, .f32⟩
  | .hbm, ⟨24, _⟩ => ⟨S8x8192x1152, .f32⟩
  | .hbm, ⟨25, _⟩ => ⟨S8x8192x256, .f32⟩
  | .hbm, ⟨26, _⟩ => ⟨S8x8192x512, .f32⟩
  | .hbm, ⟨27, _⟩ => ⟨S8x8192x512, .f32⟩
  | .hbm, ⟨28, _⟩ => ⟨S8x8192x512, .f32⟩
  | .hbm, ⟨29, _⟩ => ⟨S8x8192x8x64, .f32⟩
  | .hbm, ⟨30, _⟩ => ⟨S8x8192x8x64, .f32⟩
  | .hbm, ⟨31, _⟩ => ⟨S8x8192x8x64, .f32⟩
  | .hbm, ⟨32, _⟩ => ⟨S8x8192x8x64, .f32⟩
  | .hbm, ⟨33, _⟩ => ⟨S_, .f32⟩
  | .hbm, ⟨34, _⟩ => ⟨S8x8192x8, .f32⟩
  | .hbm, ⟨35, _⟩ => ⟨S8x8192x8x1, .f32⟩
  | .hbm, ⟨36, _⟩ => ⟨S_, .f32⟩
  | .hbm, ⟨37, _⟩ => ⟨S8x8192x8x1, .f32⟩
  | .hbm, ⟨38, _⟩ => ⟨S8x8192x8x1, .f32⟩
  | .hbm, ⟨39, _⟩ => ⟨S_, .f32⟩
  | .hbm, ⟨40, _⟩ => ⟨S8x8192x8x1, .f32⟩
  | .hbm, ⟨41, _⟩ => ⟨S8x8192x8x1, .f32⟩
  | .hbm, ⟨42, _⟩ => ⟨S8x8192x8x1, .f32⟩
  | .hbm, ⟨43, _⟩ => ⟨S8x8192x8x64, .f32⟩
  | .hbm, ⟨44, _⟩ => ⟨S8x8192x8x64, .f32⟩
  | .hbm, ⟨45, _⟩ => ⟨S1x1x1x64, .f32⟩
  | .hbm, ⟨46, _⟩ => ⟨S8x8192x8x64, .f32⟩
  | .hbm, ⟨47, _⟩ => ⟨S8x8192x8x64, .f32⟩
  | .hbm, ⟨48, _⟩ => ⟨S_, .f32⟩
  | .hbm, ⟨49, _⟩ => ⟨S8x8192x8x64, .f32⟩
  | .hbm, ⟨50, _⟩ => ⟨S8x8192x8x64, .f32⟩
  | .hbm, ⟨51, _⟩ => ⟨S8x8192x8x64, .f32⟩
  | .hbm, ⟨52, _⟩ => ⟨S_, .f32⟩
  | .hbm, ⟨53, _⟩ => ⟨S8x8192x8, .f32⟩
  | .hbm, ⟨54, _⟩ => ⟨S8x8192x8x1, .f32⟩
  | .hbm, ⟨55, _⟩ => ⟨S_, .f32⟩
  | .hbm, ⟨56, _⟩ => ⟨S8x8192x8x1, .f32⟩
  | .hbm, ⟨57, _⟩ => ⟨S8x8192x8x1, .f32⟩
  | .hbm, ⟨58, _⟩ => ⟨S_, .f32⟩
  | .hbm, ⟨59, _⟩ => ⟨S8x8192x8x1, .f32⟩
  | .hbm, ⟨60, _⟩ => ⟨S8x8192x8x1, .f32⟩
  | .hbm, ⟨61, _⟩ => ⟨S8x8192x8x1, .f32⟩
  | .hbm, ⟨62, _⟩ => ⟨S8x8192x8x64, .f32⟩
  | .hbm, ⟨63, _⟩ => ⟨S8x8192x8x64, .f32⟩
  | .hbm, ⟨64, _⟩ => ⟨S1x1x1x64, .f32⟩
  | .hbm, ⟨65, _⟩ => ⟨S8x8192x8x64, .f32⟩
  | .hbm, ⟨66, _⟩ => ⟨S8x8192x8x64, .f32⟩
  | .hbm, ⟨67, _⟩ => ⟨S8x8192x4x64, .f32⟩
  | .hbm, ⟨68, _⟩ => ⟨S8x8192x4x64, .f32⟩
  | .hbm, ⟨69, _⟩ => ⟨S_, .f32⟩
  | .hbm, ⟨70, _⟩ => ⟨S8x8192x4, .f32⟩
  | .hbm, ⟨71, _⟩ => ⟨S8x8192x4x1, .f32⟩
  | .hbm, ⟨72, _⟩ => ⟨S_, .f32⟩
  | .hbm, ⟨73, _⟩ => ⟨S8x8192x4x1, .f32⟩
  | .hbm, ⟨74, _⟩ => ⟨S8x8192x4x1, .f32⟩
  | .hbm, ⟨75, _⟩ => ⟨S_, .f32⟩
  | .hbm, ⟨76, _⟩ => ⟨S8x8192x4x1, .f32⟩
  | .hbm, ⟨77, _⟩ => ⟨S8x8192x4x1, .f32⟩
  | .hbm, ⟨78, _⟩ => ⟨S8x8192x4x1, .f32⟩
  | .hbm, ⟨79, _⟩ => ⟨S8x8192x4x64, .f32⟩
  | .hbm, ⟨80, _⟩ => ⟨S8x8192x4x64, .f32⟩
  | .hbm, ⟨81, _⟩ => ⟨S1x1x1x64, .f32⟩
  | .hbm, ⟨82, _⟩ => ⟨S8x8192x4x64, .f32⟩
  | .hbm, ⟨83, _⟩ => ⟨S8x8192x4x64, .f32⟩
  | .hbm, ⟨84, _⟩ => ⟨S_, .f32⟩
  | .hbm, ⟨85, _⟩ => ⟨S8x8192x4x64, .f32⟩
  | .hbm, ⟨86, _⟩ => ⟨S8x8192x4x64, .f32⟩
  | .hbm, ⟨87, _⟩ => ⟨S65536x512, .f32⟩
  | .hbm, ⟨88, _⟩ => ⟨S65536x512, .bf16⟩
  | .hbm, ⟨89, _⟩ => ⟨S65536x512, .f32⟩
  | .hbm, ⟨90, _⟩ => ⟨S65536x512, .bf16⟩
  | .hbm, ⟨91, _⟩ => ⟨S65536x512, .f32⟩
  | .hbm, ⟨92, _⟩ => ⟨S65536x512, .bf16⟩
  | .hbm, ⟨93, _⟩ => ⟨S65536x1152, .f32⟩
  | .hbm, ⟨94, _⟩ => ⟨S65536x256, .f32⟩
  | .hbm, ⟨95, _⟩ => ⟨S65536x256, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel3.lean ====
abbrev S200704x1024 : Shape := ⟨2, ![200704, 1024]⟩
abbrev S392 : Shape := ⟨1, ![392]⟩
abbrev S1 : Shape := ⟨1, ![1]⟩
abbrev S16x1024x512 : Shape := ⟨3, ![16, 1024, 512]⟩
abbrev S16x512x1024 : Shape := ⟨3, ![16, 512, 1024]⟩
abbrev S_ : Shape := ⟨0, ![]⟩
abbrev S392x1 : Shape := ⟨2, ![392, 1]⟩
abbrev S1024x1024 : Shape := ⟨2, ![1024, 1024]⟩
abbrev S1x1024x512 : Shape := ⟨3, ![1, 1024, 512]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 23
  | .vmem => 16
  | .smem => 2
  | _ => 0

abbrev bufTy : (tb : Table) → Fin (tcTables nBuf tb) → BufTy
  | .hbm, ⟨0, _⟩ => ⟨S200704x1024, .bf16⟩
  | .hbm, ⟨1, _⟩ => ⟨S392, .i32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S392, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S392, .i32⟩
  | .hbm, ⟨13, _⟩ => ⟨S392, .i32⟩
  | .hbm, ⟨14, _⟩ => ⟨S_, .i32⟩
  | .hbm, ⟨15, _⟩ => ⟨S392, .i32⟩
  | .hbm, ⟨16, _⟩ => ⟨S392, .i1⟩
  | .hbm, ⟨17, _⟩ => ⟨S_, .i32⟩
  | .hbm, ⟨18, _⟩ => ⟨S392, .i32⟩
  | .hbm, ⟨19, _⟩ => ⟨S392, .i32⟩
  | .hbm, ⟨20, _⟩ => ⟨S392, .i32⟩
  | .hbm, ⟨21, _⟩ => ⟨S392x1, .i32⟩
  | .hbm, ⟨22, _⟩ => ⟨S200704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .bf16⟩
  | .local _ .vmem, ⟨15, _⟩ => ⟨S1024x1024, .bf16⟩
  | .local _ .smem, ⟨0, _⟩ => ⟨S392, .i32⟩
  | .local _ .smem, ⟨1, _⟩ => ⟨S1, .i32⟩
  | _, _ => ⟨S200704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v14 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![196], ![false]⟩

abbrev pre0 : Pipeline.Prefetch sig := ⟨2, ![main_v14.idx, main_arg2.idx], fun | 0 => main_v14.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_cond1 (i : grid0.Coords) (v1 : BitVec 32) : BitVec 1 :=
  let arg0 : BitVec 32 := BitVec.ofNat 32 (i 0).val
  let c2_i32 : BitVec 32 := 2#32
  let v0 : BitVec 32 := Scalar.muli arg0 c2_i32
  let v2 : BitVec 1 := Scalar.cmpi .slt v0 v1
  let v3 : BitVec 32 := Scalar.extui v2
  let c0_i32 : BitVec 32 := 0#32
  let v4 : BitVec 1 := Scalar.cmpi .ne v3 c0_i32
  v4

def k0_cond2 (i : grid0.Coords) (v1 : BitVec 32) : BitVec 1 :=
  let arg0 : BitVec 32 := BitVec.ofNat 32 (i 0).val
  let c2_i32 : BitVec 32 := 2#32
  let v0 : BitVec 32 := Scalar.muli arg0 c2_i32
  let v2 : BitVec 1 := Scalar.cmpi .slt v0 v1
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_1 (k0_off1_inb : ∀ i : grid0.Coords, ∀ (r : Fin 2), ∀ a, (k0_off1 i (BitVec.ofNat 32 r.val)) a + S1.size a ≤ S392.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S392) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off1_inb : ∀ i : grid0.Coords, ∀ (r : Fin 2), ∀ a, (k0_off1 i (BitVec.ofNat 32 r.val)) a + S1.size a ≤ S392.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S392) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 2), ∀ a, (k0_off1 i (BitVec.ofNat 32 r.val)) a + S1.size a ≤ S392.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S392) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off1_inb : ∀ i : grid0.Coords, ∀ (r : Fin 2), ∀ a, (k0_off1 i (BitVec.ofNat 32 r.val)) a + S1.size a ≤ S392.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S392) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 2), ∀ a, (k0_off1 i (BitVec.ofNat 32 r.val)) a + S1.size a ≤ S392.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S392) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 2), ∀ a, (k0_off1 i (BitVec.ofNat 32 r.val)) a + S1.size a ≤ S392.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S392) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S200704x1024 : Shape := ⟨2, ![200704, 1024]⟩
abbrev S392 : Shape := ⟨1, ![392]⟩
abbrev S1 : Shape := ⟨1, ![1]⟩
abbrev S16x1024x512 : Shape := ⟨3, ![16, 1024, 512]⟩
abbrev S16x512x1024 : Shape := ⟨3, ![16, 512, 1024]⟩
abbrev S392x512x1024 : Shape := ⟨3, ![392, 512, 1024]⟩
abbrev S_ : Shape := ⟨0, ![]⟩
abbrev S392x1 : Shape := ⟨2, ![392, 1]⟩
abbrev S392x1024x512 : Shape := ⟨3, ![392, 1024, 512]⟩
abbrev S392x512x512 : Shape := ⟨3, ![392, 512, 512]⟩
abbrev S392x1x1 : Shape := ⟨3, ![392, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S200704x1024, .bf16⟩
  | .hbm, ⟨1, _⟩ => ⟨S392, .i32⟩
  | .hbm, ⟨2, _⟩ => ⟨S1, .i32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S200704x1024, .f32⟩
  | .hbm, ⟨7, _⟩ => ⟨S392x512x1024, .f32⟩
  | .hbm, ⟨8, _⟩ => ⟨S_, .i32⟩
  | .hbm, ⟨9, _⟩ => ⟨S392, .i32⟩
  | .hbm, ⟨10, _⟩ => ⟨S392, .i1⟩
  | .hbm, ⟨11, _⟩ => ⟨S_, .i32⟩
  | .hbm, ⟨12, _⟩ => ⟨S392, .i32⟩
  | .hbm, ⟨13, _⟩ => ⟨S392, .i32⟩
  | .hbm, ⟨14, _⟩ => ⟨S392, .i32⟩
  | .hbm, ⟨15, _⟩ => ⟨S392x1, .i32⟩
  | .hbm, ⟨16, _⟩ => ⟨S392x1024x512, .f32⟩
  | .hbm, ⟨17, _⟩ => ⟨S392x512x512, .f32⟩
  | .hbm, ⟨18, _⟩ => ⟨S_, .i32⟩
  | .hbm, ⟨19, _⟩ => ⟨S392, .i32⟩
  | .hbm, ⟨20, _⟩ => ⟨S392, .i1⟩
  | .hbm, ⟨21, _⟩ => ⟨S_, .i32⟩
  | .hbm, ⟨22, _⟩ => ⟨S392, .i32⟩
  | .hbm, ⟨23, _⟩ => ⟨S392, .i32⟩
  | .hbm, ⟨24, _⟩ => ⟨S392, .i32⟩
  | .hbm, ⟨25, _⟩ => ⟨S392x1, .i32⟩
  | .hbm, ⟨26, _⟩ => ⟨S392x1024x512, .f32⟩
  | .hbm, ⟨27, _⟩ => ⟨S392x512x512, .f32⟩
  | .hbm, ⟨28, _⟩ => ⟨S392x512x512, .f32⟩
  | .hbm, ⟨29, _⟩ => ⟨S392x512x512, .f32⟩
  | .hbm, ⟨30, _⟩ => ⟨S_, .f32⟩
  | .hbm, ⟨31, _⟩ => ⟨S392x512x512, .f32⟩
  | .hbm, ⟨32, _⟩ => ⟨S392x512x512, .f32⟩
  | .hbm, ⟨33, _⟩ => ⟨S_, .f32⟩
  | .hbm, ⟨34, _⟩ => ⟨S392x512x512, .f32⟩
  | .hbm, ⟨35, _⟩ => ⟨S392x512x512, .f32⟩
  | .hbm, ⟨36, _⟩ => ⟨S392x512x512, .f32⟩
  | .hbm, ⟨37, _⟩ => ⟨S392x512x512, .f32⟩
  | .hbm, ⟨38, _⟩ => ⟨S_, .i32⟩
  | .hbm, ⟨39, _⟩ => ⟨S392, .i32⟩
  | .hbm, ⟨40, _⟩ => ⟨S392, .i1⟩
  | .hbm, ⟨41, _⟩ => ⟨S_, .i32⟩
  | .hbm, ⟨42, _⟩ => ⟨S392, .i32⟩
  | .hbm, ⟨43, _⟩ => ⟨S392, .i32⟩
  | .hbm, ⟨44, _⟩ => ⟨S392, .i32⟩
  | .hbm, ⟨45, _⟩ => ⟨S392x1, .i32⟩
  | .hbm, ⟨46, _⟩ => ⟨S392x512x1024, .f32⟩
  | .hbm, ⟨47, _⟩ => ⟨S392x512x1024, .f32⟩
  | .hbm, ⟨48, _⟩ => ⟨S392, .i32⟩
  | .hbm, ⟨49, _⟩ => ⟨S_, .i32⟩
  | .hbm, ⟨50, _⟩ => ⟨S392, .i32⟩
  | .hbm, ⟨51, _⟩ => ⟨S392, .i1⟩
  | .hbm, ⟨52, _⟩ => ⟨S392x1x1, .i1⟩
  | .hbm, ⟨53, _⟩ => ⟨S_, .f32⟩
  | .hbm, ⟨54, _⟩ => ⟨S_, .f32⟩
  | .hbm, ⟨55, _⟩ => ⟨S392x512x1024, .i1⟩
  | .hbm, ⟨56, _⟩ => ⟨S392x512x1024, .f32⟩
  | .hbm, ⟨57, _⟩ => ⟨S392x512x1024, .f32⟩
  | .hbm, ⟨58, _⟩ => ⟨S200704x1024, .f32⟩
  | .hbm, ⟨59, _⟩ => ⟨S200704x1024, .bf16⟩
  | _, _ => ⟨S200704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proof.NA.Base.lean ====
module

public import proofs.«01_k».proof.Proof.Gen.KernelIdeal.Frame
public import proofs.«01_k».proof.Proof.Gen.KernelIdeal.Skeleton
public import Idealize.ShloMosaic.Lib.Pointwise.Index
public import Idealize.ShloMosaic.Lib.Pipeline.Value
public import Idealize.ShloMosaic.Lib.Pipeline.ReadBack

@[expose] public section

set_option maxRecDepth 16384

noncomputable section

namespace Cert.KernelIdeal.NA

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Three blocks of 512 rows, one under the other: the rows a grid point's windows are cut from. -/
def cat3 (a b d : S512x512.Idx → F .bf16) : S1536x512.Idx → F .bf16 := fun y =>
  if h : (y 0).val < 512 then a (ix2 (n0 := 512) (n1 := 512) ⟨(y 0).val, h⟩ (y 1))
  else if h' : (y 0).val < 1024 then b (ix2 (n0 := 512) (n1 := 512) ⟨(y 0).val - 512, by omega⟩ (y 1))
  else d (ix2 (n0 := 512) (n1 := 512) ⟨(y 0).val - 1024, by have h3 : (y 0).val < 1536 := (y 0).isLt; omega⟩ (y 1))

/-- Stores of three blocks of rows leave the three blocks one under the other. -/
theorem writes3 (m : Memref sig .tc .vmem S1536x512 .bf16) (hm : m.IsWhole) (f : m.view.ty.Contents (Elt F))
    (a b d : S512x512.Idx → F .bf16) (i0 i1 i2) :
    m.view.writes (Elt F) f
      [⟨Rect.unit (s := S1536x512) ![1024, 0] S512x512.size i2, d⟩, ⟨Rect.unit (s := S1536x512) ![512, 0] S512x512.size i1, b⟩,
        ⟨Rect.unit (s := S1536x512) ![0, 0] S512x512.size i0, a⟩] = hm.unread (cat3 a b d) := by
  apply hm.eq_unread
  funext y
  have hy : (y 0).val < 1536 := (y 0).isLt
  have hy1 : (y 1).val < 512 := (y 1).isLt
  unfold cat3
  by_cases h2 : (y 0).val < 1024
  · rw [View.read_writes_cons_miss_of_axis _ _ _ _ y 0 1024 512 rfl rfl rfl (Or.inl h2)]
    by_cases h1 : (y 0).val < 512
    · rw [View.read_writes_cons_miss_of_axis _ _ _ _ y 0 512 512 rfl rfl rfl (Or.inl h1), dif_pos h1]
      exact View.read_writes_cons_hit_of_coords m.view f (Rect.unit (s := S1536x512) ![0, 0] S512x512.size i0) _ _ (ix2 (n0 := 512) (n1 := 512) ⟨(y 0).val, h1⟩ (y 1)) y (fun ax =>
        match ax with
        | ⟨0, _⟩ => by show (y 0).val = 0 + 1 * (y 0).val; omega
        | ⟨1, _⟩ => by show (y 1).val = 0 + 1 * (y 1).val; omega)
    · rw [dif_neg h1, dif_pos h2]
      exact View.read_writes_cons_hit_of_coords m.view f (Rect.unit (s := S1536x512) ![512, 0] S512x512.size i1) _ _ (ix2 (n0 := 512) (n1 := 512) ⟨(y 0).val - 512, by omega⟩ (y 1)) y (fun ax =>
        match ax with
        | ⟨0, _⟩ => by show (y 0).val = 512 + 1 * ((y 0).val - 512); omega
        | ⟨1, _⟩ => by show (y 1).val = 0 + 1 * (y 1).val; omega)
  · rw [dif_neg (by omega), dif_neg h2]
    exact View.read_writes_cons_hit_of_coords m.view f (Rect.unit (s := S1536x512) ![1024, 0] S512x512.size i2) _ _ (ix2 (n0 := 512) (n1 := 512) ⟨(y 0).val - 1024, by omega⟩ (y 1)) y (fun ax =>
        match ax with
        | ⟨0, _⟩ => by show (y 0).val = 1024 + 1 * ((y 0).val - 1024); omega
        | ⟨1, _⟩ => by show (y 1).val = 0 + 1 * (y 1).val; omega)

/-- The scores of one row's queries for one pair of heads: the pair's queries stacked, against the window's keys, plus the bias. -/
def score (q : Vec F S1x64x128 .bf16) (k : Vec F S512x128 .bf16) (b : Vec F S1x1x128x512 .f32) : FVec F S128x512 .f32 :=
  k0_pay11 k0_pay8 q k b

/-- What one row's queries of one pair of heads attend to. -/
def rowPair (q : Vec F S1x64x128 .bf16) (k : Vec F S512x128 .bf16) (b : Vec F S1x1x128x512 .f32) (v : Vec F S512x128 .bf16) :
    FVec F S1x64x128 .bf16 :=
  k0_pay27 k0_pay8 (k0_pay18 (score q k b)) (k0_pay19 (score q k b)) v

/-- Where row `r`'s queries of the head pair `p` lie in the block. -/
def qoff (r p : ℕ) : Fin 3 → ℕ := ![0, 64 * r, 128 * p]

theorem qoff_inb (r : Fin 8) (p : Fin 4) : ∀ a, qoff r p a + S1x64x128.size a ≤ S1x512x512.size a := by
  revert r p; decide

/-- Where row `r`'s window of keys lies, the head pair's columns. -/
def koff (i : grid0.Coords) (r p : ℕ) : Fin 2 → ℕ := ![k0_off2 i (BitVec.ofNat 32 r) 0, 128 * p]

theorem koff_inb (i : grid0.Coords) (r : Fin 8) (p : Fin 4) : ∀ a, koff i r p a + S512x128.size a ≤ S1536x512.size a := fun a =>
  match a with
  | ⟨0, _⟩ => k0_off2_inb i r 0
  | ⟨1, _⟩ => by have h := p.isLt; show 128 * p.val + 128 ≤ 512; omega

/-- Which bias rows row `r` reads. -/
def boff (i : grid0.Coords) (r p : ℕ) : Fin 4 → ℕ := ![k0_off3 i (BitVec.ofNat 32 r) 0, p, 0, 0]

theorem boff_inb (i : grid0.Coords) (r : Fin 8) (p : Fin 4) : ∀ a, boff i r p a + S1x1x128x512.size a ≤ S8x4x128x512.size a := fun a =>
  match a with
  | ⟨0, _⟩ => k0_off3_inb i r 0
  | ⟨1, _⟩ => by have h := p.isLt; show p.val + 1 ≤ 4; omega
  | ⟨2, _⟩ => by show 0 + 128 ≤ 128; decide
  | ⟨3, _⟩ => by show 0 + 512 ≤ 512; decide

/-- One block of keys or values, its leading unit axis dropped. -/
def flat (x : Vec F S1x512x512 .bf16) : S512x512.Idx → F .bf16 := k0_pay2 x

/-- The piece of the result at row `r`, head pair `p`. -/
def pieceV (i : grid0.Coords) (xq xk0 xk1 xk2 xv0 xv1 xv2 : Vec F S1x512x512 .bf16) (xb : Vec F S8x4x128x512 .f32) (r : Fin 8) (p : Fin 4) :
    FVec F S1x64x128 .bf16 :=
  rowPair (View.ld xq (Rect.unit (s := S1x512x512) (qoff r p) S1x64x128.size (qoff_inb r p)))
    (View.ld (Val := Elt F) (e' := .bf16) (cat3 (flat xk0) (flat xk1) (flat xk2)) (Rect.unit (s := S1536x512) (koff i r p) S512x128.size (koff_inb i r p)))
    (View.ld xb (Rect.unit (s := S8x4x128x512) (boff i r p) S1x1x128x512.size (boff_inb i r p)))
    (View.ld (Val := Elt F) (e' := .bf16) (cat3 (flat xv0) (flat xv1) (flat xv2)) (Rect.unit (s := S1536x512) (koff i r p) S512x128.size (koff_inb i r p)))

/-- What the body leaves in the result block. -/
def blockOut (i : grid0.Coords) (xq xk0 xk1 xk2 xv0 xv1 xv2 : Vec F S1x512x512 .bf16) (xb : Vec F S8x4x128x512 .f32) : Vec F S1x512x512 .bf16 := fun y =>
  pieceV i xq xk0 xk1 xk2 xv0 xv1 xv2 xb ⟨(y 1).val / 64, by have h : (y 1).val < 512 := (y 1).isLt; omega⟩
    ⟨(y 2).val / 128, by have h : (y 2).val < 512 := (y 2).isLt; omega⟩
    (ix3 (n0 := 1) (n1 := 64) (n2 := 128) 0 ⟨(y 1).val % 64, by omega⟩ ⟨(y 2).val % 128, by omega⟩)

theorem blockOut_emb (i : grid0.Coords) (xq xk0 xk1 xk2 xv0 xv1 xv2 : Vec F S1x512x512 .bf16) (xb : Vec F S8x4x128x512 .f32) (r : Fin 8) (p : Fin 4)
    (x : S1x64x128.Idx) :
    blockOut i xq xk0 xk1 xk2 xv0 xv1 xv2 xb ((Rect.unit (s := S1x512x512) (qoff r p) S1x64x128.size (qoff_inb r p)).emb x)
      = pieceV i xq xk0 xk1 xk2 xv0 xv1 xv2 xb r p x := by
  unfold blockOut
  have h1 : ((((Rect.unit (s := S1x512x512) (qoff r p) S1x64x128.size (qoff_inb r p)).emb x) 1).val) = 64 * r.val + (x 1).val := by
    show 64 * r.val + 1 * (x 1).val = _; omega
  have h2 : ((((Rect.unit (s := S1x512x512) (qoff r p) S1x64x128.size (qoff_inb r p)).emb x) 2).val) = 128 * p.val + (x 2).val := by
    show 128 * p.val + 1 * (x 2).val = _; omega
  have l1 : (x 1).val < 64 := (x 1).isLt
  have l2 : (x 2).val < 128 := (x 2).isLt
  have l0 : (x 0).val < 1 := (x 0).isLt
  congr 1
  · exact Fin.ext (by simp only [h1]; omega)
  · exact Fin.ext (by simp only [h2]; omega)
  · funext ax
    match ax with
    | ⟨0, _⟩ => exact Fin.ext (by show 0 = (x 0).val; omega)
    | ⟨1, _⟩ => exact Fin.ext (by show _ % 64 = (x 1).val; rw [h1]; omega)
    | ⟨2, _⟩ => exact Fin.ext (by show _ % 128 = (x 2).val; rw [h2]; omega)

/-- A load of a whole block, its leading unit axis dropped. -/
theorem whole_flat (m : Memref sig .tc .vmem S1x512x512 .bf16) (hm : m.IsWhole) (x : Vec F S1x512x512 .bf16) :
    k0_pay2 (View.readAt (Elt F) m.view (Rect.unit (s := S1x512x512) ![0, 0, 0] S1x512x512.size inb_S1x512x512_S1x512x512_0_0_0).toLoadRect (hm.unread x)) = flat x := by
  have z3 : (![0, 0, 0] : Fin 3 → ℕ) = fun _ => 0 := by funext a; fin_cases a <;> rfl
  rw [View.readAt_eq_ld, hm.read_unread, View.ld_unit_zero z3]
  rfl

/-- A load from a buffer whose contents are known is a part of them. -/
theorem load_unread {s : Shape} {e : EltTy} (m : Memref sig .tc .vmem s e) (hm : m.IsWhole) (x : Vec F s e) (r : Rect s) :
    View.readAt (Elt F) m.view r.toLoadRect (hm.unread x) = View.ld x r := by
  rw [View.readAt_eq_ld, hm.read_unread]

/-- The piece the body computes at row `r`, head pair `p`, from its loads, is the block's there. -/
theorem piece_eq (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S8x4x128x512 .f32) (harg9 : arg9.IsWhole) (arg11 : Memref sig .tc .vmem S1536x512 .bf16) (harg11 : arg11.IsWhole) (arg12 : Memref sig .tc .vmem S1536x512 .bf16) (harg12 : arg12.IsWhole) (x0 : Vec F S1x512x512 .bf16) (x1 : Vec F S1x512x512 .bf16) (x2 : Vec F S1x512x512 .bf16) (x3 : Vec F S1x512x512 .bf16) (x4 : Vec F S1x512x512 .bf16) (x5 : Vec F S1x512x512 .bf16) (x6 : Vec F S1x512x512 .bf16) (x7 : Vec F S8x4x128x512 .f32) (r : Fin 8) (p : Fin 4) (x : S1x64x128.Idx) :
      rowPair (View.readAt (Elt F) arg2.view (Rect.unit (s := S1x512x512) (qoff r p) S1x64x128.size (qoff_inb r p)).toLoadRect (harg2.unread x0))
        (View.readAt (Elt F) arg11.view (Rect.unit (s := S1536x512) (koff i r p) S512x128.size (koff_inb i r p)).toLoadRect
          (harg11.unread (cat3 (k0_pay2 (View.readAt (Elt F) arg3.view (Rect.unit (s := S1x512x512) ![0, 0, 0] S1x512x512.size inb_S1x512x512_S1x512x512_0_0_0).toLoadRect (harg3.unread x1))) (k0_pay2 (View.readAt (Elt F) arg4.view (Rect.unit (s := S1x512x512) ![0, 0, 0] S1x512x512.size inb_S1x512x512_S1x512x512_0_0_0).toLoadRect (harg4.unread x2))) (k0_pay2 (View.readAt (Elt F) arg5.view (Rect.unit (s := S1x512x512) ![0, 0, 0] S1x512x512.size inb_S1x512x512_S1x512x512_0_0_0).toLoadRect (harg5.unread x3))))))
        (View.readAt (Elt F) arg9.view (Rect.unit (s := S8x4x128x512) (boff i r p) S1x1x128x512.size (boff_inb i r p)).toLoadRect (harg9.unread x7))
        (View.readAt (Elt F) arg12.view (Rect.unit (s := S1536x512) (koff i r p) S512x128.size (koff_inb i r p)).toLoadRect
          (harg12.unread (cat3 (k0_pay2 (View.readAt (Elt F) arg6.view (Rect.unit (s := S1x512x512) ![0, 0, 0] S1x512x512.size inb_S1x512x512_S1x512x512_0_0_0).toLoadRect (harg6.unread x4))) (k0_pay2 (View.readAt (Elt F) arg7.view (Rect.unit (s := S1x512x512) ![0, 0, 0] S1x512x512.size inb_S1x512x512_S1x512x512_0_0_0).toLoadRect (harg7.unread x5))) (k0_pay2 (View.readAt (Elt F) arg8.view (Rect.unit (s := S1x512x512) ![0, 0, 0] S1x512x512.size inb_S1x512x512_S1x512x512_0_0_0).toLoadRect (harg8.unread x6)))))) x
        = blockOut i x0 x1 x2 x3 x4 x5 x6 x7 ((Rect.unit (s := S1x512x512) (qoff r p) S1x64x128.size (qoff_inb r p)).emb x) := by
  rw [blockOut_emb, whole_flat arg3 harg3, whole_flat arg4 harg4, whole_flat arg5 harg5, whole_flat arg6 harg6, whole_flat arg7 harg7,
    whole_flat arg8 harg8, load_unread arg2 harg2, load_unread arg9 harg9, load_unread arg11 harg11, load_unread arg12 harg12]
  rfl

end Cert.KernelIdeal.NA

end
-- ==== Proof.NA.Body.lean ====
module

public import proofs.«01_k».proof.Proof.NA.Base

@[expose] public section

set_option maxRecDepth 16384

noncomputable section

namespace Cert.KernelIdeal.NA

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- The body's run: from the eight blocks it reads, whatever the result block and the two windows held, it leaves `blockOut` in the result
    block and the blocks it reads as they were. -/
theorem body_run (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S8x4x128x512 .f32) (harg9 : arg9.IsWhole) (arg10 : Memref sig .tc .vmem S1x512x512 .bf16) (harg10 : arg10.IsWhole) (arg11 : Memref sig .tc .vmem S1536x512 .bf16) (harg11 : arg11.IsWhole) (arg12 : Memref sig .tc .vmem S1536x512 .bf16) (harg12 : arg12.IsWhole) (x0 : Vec F S1x512x512 .bf16) (x1 : Vec F S1x512x512 .bf16) (x2 : Vec F S1x512x512 .bf16) (x3 : Vec F S1x512x512 .bf16) (x4 : Vec F S1x512x512 .bf16) (x5 : Vec F S1x512x512 .bf16) (x6 : Vec F S1x512x512 .bf16) (x7 : Vec F S8x4x128x512 .f32) :
    ∀ (E : Set ℕ) (K : PUnit → sProp 𝕄), iprop(owns (c:Thread nD τ) arg2 fullShare x0 ∗ owns (c:Thread nD τ) arg3 fullShare x1 ∗ owns (c:Thread nD τ) arg4 fullShare x2 ∗ owns (c:Thread nD τ) arg5 fullShare x3 ∗ owns (c:Thread nD τ) arg6 fullShare x4 ∗ owns (c:Thread nD τ) arg7 fullShare x5 ∗ owns (c:Thread nD τ) arg8 fullShare x6 ∗ owns (c:Thread nD τ) arg9 fullShare x7 ∗ (∃ d, owns (c:Thread nD τ) arg10 fullShare d) ∗ (∃ d, owns (c:Thread nD τ) arg11 fullShare d) ∗ (∃ d, owns (c:Thread nD τ) arg12 fullShare d) ∗
      (iprop(owns (c:Thread nD τ) arg2 fullShare x0 ∗ owns (c:Thread nD τ) arg3 fullShare x1 ∗ owns (c:Thread nD τ) arg4 fullShare x2 ∗ owns (c:Thread nD τ) arg5 fullShare x3 ∗ owns (c:Thread nD τ) arg6 fullShare x4 ∗ owns (c:Thread nD τ) arg7 fullShare x5 ∗ owns (c:Thread nD τ) arg8 fullShare x6 ∗ owns (c:Thread nD τ) arg9 fullShare x7 ∗ owns (c:Thread nD τ) arg10 fullShare (blockOut i x0 x1 x2 x3 x4 x5 x6 x7) ∗ (∃ d, owns (c:Thread nD τ) arg11 fullShare d) ∗ (∃ d, owns (c:Thread nD τ) arg12 fullShare d)) -∗ K ⟨⟩)) ⊢ wp frame (wpE (defs₀ (F := F)) Variants.none c none) E (cc0__na_kernel i arg2 harg2 arg3 harg3 arg4 harg4 arg5 harg5 arg6 harg6 arg7 harg7 arg8 harg8 arg9 harg9 arg10 harg10 arg11 harg11 arg12 harg12) K := by
  intro E K
  simp only [cc0__na_kernel_eq_skeleton]
  unfold cc0__na_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  set_option sl_exec.stopBefore "k0_part2" in sl_exec
  rw [writes3 arg11 harg11]
  set_option sl_exec.stopBefore "k0_part3" in sl_exec
  rw [writes3 arg12 harg12]
  sl_exec
  sl_step
  iapply Hk
  isplitl [H0]
  · iexists _
    isplitr
    · ipureintro
      exact harg2.read_unread _
    iexact H0
  isplitl [H1]
  · iexists _
    isplitr
    · ipureintro
      exact harg3.read_unread _
    iexact H1
  isplitl [H2]
  · iexists _
    isplitr
    · ipureintro
      exact harg4.read_unread _
    iexact H2
  isplitl [H3]
  · iexists _
    isplitr
    · ipureintro
      exact harg5.read_unread _
    iexact H3
  isplitl [H4]
  · iexists _
    isplitr
    · ipureintro
      exact harg6.read_unread _
    iexact H4
  isplitl [H5]
  · iexists _
    isplitr
    · ipureintro
      exact harg7.read_unread _
    iexact H5
  isplitl [H6]
  · iexists _
    isplitr
    · ipureintro
      exact harg8.read_unread _
    iexact H6
  isplitl [H7]
  · iexists _
    isplitr
    · ipureintro
      exact harg9.read_unread _
    iexact H7
  isplitl [H8]
  · iexists _
    isplitr
    swap
    · iexact H8
    ipureintro
    funext y
    apply View.read_writes_apply_of_pieces
    · apply View.PiecesOf.mem
      exact ⟨piece_eq i arg2 harg2 arg3 harg3 arg4 harg4 arg5 harg5 arg6 harg6 arg7 harg7 arg8 harg8 arg9 harg9 arg11 harg11 arg12 harg12 x0 x1 x2 x3 x4 x5 x6 x7 7 3, piece_eq i arg2 harg2 arg3 harg3 arg4 harg4 arg5 harg5 arg6 harg6 arg7 harg7 arg8 harg8 arg9 harg9 arg11 harg11 arg12 harg12 x0 x1 x2 x3 x4 x5 x6 x7 7 2, piece_eq i arg2 harg2 arg3 harg3 arg4 harg4 arg5 harg5 arg6 harg6 arg7 harg7 arg8 harg8 arg9 harg9 arg11 harg11 arg12 harg12 x0 x1 x2 x3 x4 x5 x6 x7 7 1, piece_eq i arg2 harg2 arg3 harg3 arg4 harg4 arg5 harg5 arg6 harg6 arg7 harg7 arg8 harg8 arg9 harg9 arg11 harg11 arg12 harg12 x0 x1 x2 x3 x4 x5 x6 x7 7 0, piece_eq i arg2 harg2 arg3 harg3 arg4 harg4 arg5 harg5 arg6 harg6 arg7 harg7 arg8 harg8 arg9 harg9 arg11 harg11 arg12 harg12 x0 x1 x2 x3 x4 x5 x6 x7 6 3, piece_eq i arg2 harg2 arg3 harg3 arg4 harg4 arg5 harg5 arg6 harg6 arg7 harg7 arg8 harg8 arg9 harg9 arg11 harg11 arg12 harg12 x0 x1 x2 x3 x4 x5 x6 x7 6 2, piece_eq i arg2 harg2 arg3 harg3 arg4 harg4 arg5 harg5 arg6 harg6 arg7 harg7 arg8 harg8 arg9 harg9 arg11 harg11 arg12 harg12 x0 x1 x2 x3 x4 x5 x6 x7 6 1, piece_eq i arg2 harg2 arg3 harg3 arg4 harg4 arg5 harg5 arg6 harg6 arg7 harg7 arg8 harg8 arg9 harg9 arg11 harg11 arg12 harg12 x0 x1 x2 x3 x4 x5 x6 x7 6 0, piece_eq i arg2 harg2 arg3 harg3 arg4 harg4 arg5 harg5 arg6 harg6 arg7 harg7 arg8 harg8 arg9 harg9 arg11 harg11 arg12 harg12 x0 x1 x2 x3 x4 x5 x6 x7 5 3, piece_eq i arg2 harg2 arg3 harg3 arg4 harg4 arg5 harg5 arg6 harg6 arg7 harg7 arg8 harg8 arg9 harg9 arg11 harg11 arg12 harg12 x0 x1 x2 x3 x4 x5 x6 x7 5 2, piece_eq i arg2 harg2 arg3 harg3 arg4 harg4 arg5 harg5 arg6 harg6 arg7 harg7 arg8 harg8 arg9 harg9 arg11 harg11 arg12 harg12 x0 x1 x2 x3 x4 x5 x6 x7 5 1, piece_eq i arg2 harg2 arg3 harg3 arg4 harg4 arg5 harg5 arg6 harg6 arg7 harg7 arg8 harg8 arg9 harg9 arg11 harg11 arg12 harg12 x0 x1 x2 x3 x4 x5 x6 x7 5 0, piece_eq i arg2 harg2 arg3 harg3 arg4 harg4 arg5 harg5 arg6 harg6 arg7 harg7 arg8 harg8 arg9 harg9 arg11 harg11 arg12 harg12 x0 x1 x2 x3 x4 x5 x6 x7 4 3, piece_eq i arg2 harg2 arg3 harg3 arg4 harg4 arg5 harg5 arg6 harg6 arg7 harg7 arg8 harg8 arg9 harg9 arg11 harg11 arg12 harg12 x0 x1 x2 x3 x4 x5 x6 x7 4 2, piece_eq i arg2 harg2 arg3 harg3 arg4 harg4 arg5 harg5 arg6 harg6 arg7 harg7 arg8 harg8 arg9 harg9 arg11 harg11 arg12 harg12 x0 x1 x2 x3 x4 x5 x6 x7 4 1, piece_eq i arg2 harg2 arg3 harg3 arg4 harg4 arg5 harg5 arg6 harg6 arg7 harg7 arg8 harg8 arg9 harg9 arg11 harg11 arg12 harg12 x0 x1 x2 x3 x4 x5 x6 x7 4 0, piece_eq i arg2 harg2 arg3 harg3 arg4 harg4 arg5 harg5 arg6 harg6 arg7 harg7 arg8 harg8 arg9 harg9 arg11 harg11 arg12 harg12 x0 x1 x2 x3 x4 x5 x6 x7 3 3, piece_eq i arg2 harg2 arg3 harg3 arg4 harg4 arg5 harg5 arg6 harg6 arg7 harg7 arg8 harg8 arg9 harg9 arg11 harg11 arg12 harg12 x0 x1 x2 x3 x4 x5 x6 x7 3 2, piece_eq i arg2 harg2 arg3 harg3 arg4 harg4 arg5 harg5 arg6 harg6 arg7 harg7 arg8 harg8 arg9 harg9 arg11 harg11 arg12 harg12 x0 x1 x2 x3 x4 x5 x6 x7 3 1, piece_eq i arg2 harg2 arg3 harg3 arg4 harg4 arg5 harg5 arg6 harg6 arg7 harg7 arg8 harg8 arg9 harg9 arg11 harg11 arg12 harg12 x0 x1 x2 x3 x4 x5 x6 x7 3 0, piece_eq i arg2 harg2 arg3 harg3 arg4 harg4 arg5 harg5 arg6 harg6 arg7 harg7 arg8 harg8 arg9 harg9 arg11 harg11 arg12 harg12 x0 x1 x2 x3 x4 x5 x6 x7 2 3, piece_eq i arg2 harg2 arg3 harg3 arg4 harg4 arg5 harg5 arg6 harg6 arg7 harg7 arg8 harg8 arg9 harg9 arg11 harg11 arg12 harg12 x0 x1 x2 x3 x4 x5 x6 x7 2 2, piece_eq i arg2 harg2 arg3 harg3 arg4 harg4 arg5 harg5 arg6 harg6 arg7 harg7 arg8 harg8 arg9 harg9 arg11 harg11 arg12 harg12 x0 x1 x2 x3 x4 x5 x6 x7 2 1, piece_eq i arg2 harg2 arg3 harg3 arg4 harg4 arg5 harg5 arg6 harg6 arg7 harg7 arg8 harg8 arg9 harg9 arg11 harg11 arg12 harg12 x0 x1 x2 x3 x4 x5 x6 x7 2 0, piece_eq i arg2 harg2 arg3 harg3 arg4 harg4 arg5 harg5 arg6 harg6 arg7 harg7 arg8 harg8 arg9 harg9 arg11 harg11 arg12 harg12 x0 x1 x2 x3 x4 x5 x6 x7 1 3, piece_eq i arg2 harg2 arg3 harg3 arg4 harg4 arg5 harg5 arg6 harg6 arg7 harg7 arg8 harg8 arg9 harg9 arg11 harg11 arg12 harg12 x0 x1 x2 x3 x4 x5 x6 x7 1 2, piece_eq i arg2 harg2 arg3 harg3 arg4 harg4 arg5 harg5 arg6 harg6 arg7 harg7 arg8 harg8 arg9 harg9 arg11 harg11 arg12 harg12 x0 x1 x2 x3 x4 x5 x6 x7 1 1, piece_eq i arg2 harg2 arg3 harg3 arg4 harg4 arg5 harg5 arg6 harg6 arg7 harg7 arg8 harg8 arg9 harg9 arg11 harg11 arg12 harg12 x0 x1 x2 x3 x4 x5 x6 x7 1 0, piece_eq i arg2 harg2 arg3 harg3 arg4 harg4 arg5 harg5 arg6 harg6 arg7 harg7 arg8 harg8 arg9 harg9 arg11 harg11 arg12 harg12 x0 x1 x2 x3 x4 x5 x6 x7 0 3, piece_eq i arg2 harg2 arg3 harg3 arg4 harg4 arg5 harg5 arg6 harg6 arg7 harg7 arg8 harg8 arg9 harg9 arg11 harg11 arg12 harg12 x0 x1 x2 x3 x4 x5 x6 x7 0 2, piece_eq i arg2 harg2 arg3 harg3 arg4 harg4 arg5 harg5 arg6 harg6 arg7 harg7 arg8 harg8 arg9 harg9 arg11 harg11 arg12 harg12 x0 x1 x2 x3 x4 x5 x6 x7 0 1, piece_eq i arg2 harg2 arg3 harg3 arg4 harg4 arg5 harg5 arg6 harg6 arg7 harg7 arg8 harg8 arg9 harg9 arg11 harg11 arg12 harg12 x0 x1 x2 x3 x4 x5 x6 x7 0 0, trivial⟩
    · exact View.cover_of_tiledL (s := S1x512x512) _ ![1, 64, 128] (by sl_kernel_rfl) y
  isplitl [HS0]
  · iexists _, _
    isplitr
    swap
    · iexact HS0
    ipureintro
    rfl
  · iexists _, _
    isplitr
    swap
    · iexact HS1
    ipureintro
    rfl

end Cert.KernelIdeal.NA

end
-- ==== Proof.NA.Run.lean ====
module

public import proofs.«01_k».proof.Proof.NA.Body
public import proofs.«01_k».proof.Proof.Gen.KernelIdeal.Points
public import proofs.«01_k».proof.Proof.Gen.KernelIdeal.Launch

@[expose] public section

set_option maxRecDepth 16384

noncomputable section

namespace Cert.KernelIdeal.NA

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch windows as memory references. -/
abbrev scr0 : Memref sig .tc .vmem S1536x512 .bf16 := Memref.whole cc0_scratch0
/-- The second scratch window. -/
abbrev scr1 : Memref sig .tc .vmem S1536x512 .bf16 := Memref.whole cc0_scratch1

/-- What the pipeline hands the body besides the windows: both scratch buffers at some contents, and the random-number register. -/
theorem phiA_eq (c : Dev nD) : (Pipeline.ΦA spec0 c : sProp 𝕄)
    = iprop(iprop((∃ d, owns (c:Thread nD τ) scr0 fullShare d) ∗ (∃ d, owns (c:Thread nD τ) scr1 fullShare d)) ∗ (∃ r, prngReg c r)) := by
  unfold Pipeline.ΦA; rw [scopedRest0_eq]; simp only [scr0, scr1, owns_whole]; try rfl

/-- The proof data of the one pipelined region: the eight input windows keep their blocks and the result window holds `blockOut` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (grid0.coords t) (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

theorem A_eq (c : Dev nD) (w) : (dats m 0 c).A w = V m c (Pipeline.arrRef spec0 w) := by dsimp only [dats]

theorem after0_0 (c : Dev nD) (t) : (dats m 0 c).after 0 t = iblk m c 0 t := by dsimp only [dats]
theorem after0_1 (c : Dev nD) (t) : (dats m 0 c).after 1 t = iblk m c 1 t := by dsimp only [dats]
theorem after0_2 (c : Dev nD) (t) : (dats m 0 c).after 2 t = iblk m c 2 t := by dsimp only [dats]
theorem after0_3 (c : Dev nD) (t) : (dats m 0 c).after 3 t = iblk m c 3 t := by dsimp only [dats]
theorem after0_4 (c : Dev nD) (t) : (dats m 0 c).after 4 t = iblk m c 4 t := by dsimp only [dats]
theorem after0_5 (c : Dev nD) (t) : (dats m 0 c).after 5 t = iblk m c 5 t := by dsimp only [dats]
theorem after0_6 (c : Dev nD) (t) : (dats m 0 c).after 6 t = iblk m c 6 t := by dsimp only [dats]
theorem after0_7 (c : Dev nD) (t) : (dats m 0 c).after 7 t = iblk m c 7 t := by dsimp only [dats]
theorem after0_8 (c : Dev nD) (t) : (dats m 0 c).after 8 t = blockOut (grid0.coords t) (iblk m c 0 t) (iblk m c 1 t) (iblk m c 2 t) (iblk m c 3 t) (iblk m c 4 t) (iblk m c 5 t) (iblk m c 6 t) (iblk m c 7 t) := by dsimp only [dats]
theorem before0_0 (c : Dev nD) (t d) : (dats m 0 c).before 0 t d = iblk m c 0 t := before0_0_of m (dats m 0 c) (A_eq m c 0) (after0_0 m c) t d
theorem before0_1 (c : Dev nD) (t d) : (dats m 0 c).before 1 t d = iblk m c 1 t := before0_1_of m (dats m 0 c) (A_eq m c 1) (after0_1 m c) t d
theorem before0_2 (c : Dev nD) (t d) : (dats m 0 c).before 2 t d = iblk m c 2 t := before0_2_of m (dats m 0 c) (A_eq m c 2) (after0_2 m c) t d
theorem before0_3 (c : Dev nD) (t d) : (dats m 0 c).before 3 t d = iblk m c 3 t := before0_3_of m (dats m 0 c) (A_eq m c 3) (after0_3 m c) t d
theorem before0_4 (c : Dev nD) (t d) : (dats m 0 c).before 4 t d = iblk m c 4 t := before0_4_of m (dats m 0 c) (A_eq m c 4) (after0_4 m c) t d
theorem before0_5 (c : Dev nD) (t d) : (dats m 0 c).before 5 t d = iblk m c 5 t := before0_5_of m (dats m 0 c) (A_eq m c 5) (after0_5 m c) t d
theorem before0_6 (c : Dev nD) (t d) : (dats m 0 c).before 6 t d = iblk m c 6 t := before0_6_of m (dats m 0 c) (A_eq m c 6) (after0_6 m c) t d
theorem before0_7 (c : Dev nD) (t d) : (dats m 0 c).before 7 t d = iblk m c 7 t := before0_7_of m (dats m 0 c) (A_eq m c 7) (after0_7 m c) t d

/-- What the body is run from at point `t`. -/
def bodyPre (c : Dev nD) (t : Fin cfg0.N) : sProp 𝕄 := iprop((dats m 0 c).Φ t.castSucc ∗ (dats m 0 c).owesAt () t.castSucc ∗ (∃ d, owns (c:Thread nD τ) (st0_0 t) fullShare ((dats m 0 c).before 0 t d)) ∗ (∃ d, owns (c:Thread nD τ) (st0_1 t) fullShare ((dats m 0 c).before 1 t d)) ∗ (∃ d, owns (c:Thread nD τ) (st0_2 t) fullShare ((dats m 0 c).before 2 t d)) ∗ (∃ d, owns (c:Thread nD τ) (st0_3 t) fullShare ((dats m 0 c).before 3 t d)) ∗ (∃ d, owns (c:Thread nD τ) (st0_4 t) fullShare ((dats m 0 c).before 4 t d)) ∗ (∃ d, owns (c:Thread nD τ) (st0_5 t) fullShare ((dats m 0 c).before 5 t d)) ∗ (∃ d, owns (c:Thread nD τ) (st0_6 t) fullShare ((dats m 0 c).before 6 t d)) ∗ (∃ d, owns (c:Thread nD τ) (st0_7 t) fullShare ((dats m 0 c).before 7 t d)) ∗ (∃ d, owns (c:Thread nD τ) (st0_8 t) fullShare ((dats m 0 c).before 8 t d)))
/-- What the body leaves at point `t`. -/
def bodyPost (c : Dev nD) (t : Fin cfg0.N) : sProp 𝕄 := iprop((dats m 0 c).Φ t.succ ∗ (dats m 0 c).owesAt () t.succ ∗ owns (c:Thread nD τ) (st0_0 t) fullShare ((dats m 0 c).after 0 t) ∗ owns (c:Thread nD τ) (st0_1 t) fullShare ((dats m 0 c).after 1 t) ∗ owns (c:Thread nD τ) (st0_2 t) fullShare ((dats m 0 c).after 2 t) ∗ owns (c:Thread nD τ) (st0_3 t) fullShare ((dats m 0 c).after 3 t) ∗ owns (c:Thread nD τ) (st0_4 t) fullShare ((dats m 0 c).after 4 t) ∗ owns (c:Thread nD τ) (st0_5 t) fullShare ((dats m 0 c).after 5 t) ∗ owns (c:Thread nD τ) (st0_6 t) fullShare ((dats m 0 c).after 6 t) ∗ owns (c:Thread nD τ) (st0_7 t) fullShare ((dats m 0 c).after 7 t) ∗ owns (c:Thread nD τ) (st0_8 t) fullShare ((dats m 0 c).after 8 t))

set_option maxHeartbeats 2000000 in
/-- The body at every grid point takes what the pipeline hands it to what the pipeline expects back. -/
theorem sound_body (c : Dev nD) (t : Fin cfg0.N) : bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl, after0_0, after0_1, after0_2, after0_3, after0_4, after0_5, after0_6, after0_7, after0_8]
  rw [show (dats m 0 c).Φ t.castSucc = Pipeline.ΦA spec0 c from rfl, phiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t)) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [HS0]
  · iexact HS0
  isplitl [HS1]
  · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  iexact H8

theorem defs₀_row (t : Fin cfg0.N) : defs₀ (F := F) .tc cfg0.body (cfg0.bodyArgs t (cfg0.slots t)) = bodyAt0 t := by unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

set_option backward.isDefEq.respectTransparency.types false in
/-- The whole run: every window's array ends at what its write-backs make of it, every other buffer as launched, every counter at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m) (hmain := hmain m Variants.none) (hA := A_eq m) (hΦ := fun _ _ => rfl)

set_option backward.isDefEq.respectTransparency.types false in
/-- The frame: the arguments end as launched, every counter at zero, and the result array is what the write-backs make of it. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      (r.2.mem ((c.tc : Thread nD τ).loc main_v16) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 8,
      ((h.1 c).1 0).trans (((dats m 0 c).arrAt_in 0 rfl _).trans ((A_eq m c 0).trans (V_main_arg0 m c))),
      ((h.1 c).1 3).trans (((dats m 0 c).arrAt_in 3 rfl _).trans ((A_eq m c 3).trans (V_main_arg1 m c))),
      ((h.1 c).1 6).trans (((dats m 0 c).arrAt_in 6 rfl _).trans ((A_eq m c 6).trans (V_main_arg2 m c))),
      ((h.1 c).2 main_arg3 (Pipeline.mem_restRefs_of main_arg3 (by decide) (by decide))).trans (V_main_arg3 m c)⟩, h.2⟩) (run_main m ρ)

end Cert.KernelIdeal.NA

end
-- ==== Proof.NA.Frames.lean ====
module

public import proofs.«01_k».proof.Defs
public import proofs.«01_k».proof.Proof.NA.Run
public import proofs.«01_k».proof.Proof.Gen.Kernel
public import proofs.«01_k».proof.Proof.Gen.ReferenceIdeal.Run

@[expose] public section

set_option maxRecDepth 16384

noncomputable section

namespace Cert.Proof

open Idealize.ShloMosaic Idealize.ShloMosaic.TcCoe Idealize.SL.Sem

/-- The frame of the idealized program's text, read at the bit-exact values. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- It is proved by the run, which holds at any float values. -/
theorem frameAtBits_holds : frameAtBits := fun m ρ _ =>
  (θ_run Cert.KernelIdeal.defs _ _).mono (fun _ h => ⟨fun c => (h.1 c).2, h.2⟩) (Cert.KernelIdeal.NA.run (F := Bits) m ρ)

/-- The kernel's frame: the idealized program has the kernel's text, so the two statements are the same. -/
theorem frame_kernel : Cert.quiescent_Kernel :=
  (show frameAtBits = Cert.quiescent_Kernel by sl_kernel_rfl).mp frameAtBits_holds

/-- The idealized kernel's frame. -/
theorem frame_ideal : Cert.quiescent_KernelIdeal := fun m ρ _ =>
  (θ_run Cert.KernelIdeal.defs _ _).mono (fun _ h => ⟨fun c => (h.1 c).2, h.2⟩) (Cert.KernelIdeal.NA.run (F := Ideal) m ρ)

/-- The reference's frame: a program of host operations only, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.NA.Soft.lean ====
module

public import Idealize.ShloMosaic.PureOps.Ideal
public import Idealize.ShloMosaic.PureOps.Ideal.Laws

@[expose] public section

noncomputable section

namespace Cert.NA

open Idealize.ShloMosaic

/-- Softmax attention over `n` scores, one column of the values: the exponentials of the scores less their greatest, each divided by
    their sum, weigh the values. -/
def attn {n : ℕ} (S v : Fin n → EReal) : EReal :=
  ∑ j, Ideal.div (Ideal.exp (S j - Finset.univ.fold max ⊥ S)) (∑ i, Ideal.exp (S i - Finset.univ.fold max ⊥ S)) * v j

/-- Multiplying by a nonnegative finite number distributes over a finite sum of extended reals. -/
theorem sum_mul_real {ι : Type} [Fintype ι] (g : ι → EReal) (c : EReal) (h0 : 0 ≤ c) (ht : c ≠ ⊤) :
    (∑ i, g i) * c = ∑ i, g i * c := by
  let φ : EReal →+ EReal :=
    { toFun := fun x => x * c
      map_zero' := zero_mul c
      map_add' := fun x y => EReal.right_distrib_of_nonneg_of_ne_top h0 ht x y }
  exact map_sum φ g Finset.univ

/-- Attention over `N` scores of which all but those at `f` are masked to `-∞`, with the division after the weighted sum, is attention
    over the scores at `f`. -/
theorem masked_attn {n N : ℕ} (hn : 0 < n) (f : Fin n → Fin N) (hf : Function.Injective f) (s v : Fin N → EReal)
    (hoff : ∀ i, (∀ j, f j ≠ i) → s i = ⊥) (hfin : ∀ j, s (f j) ≠ ⊥ ∧ s (f j) ≠ ⊤) :
    Ideal.div (∑ i, Ideal.exp (s i - Finset.univ.fold max ⊥ s) * v i) (∑ i, Ideal.exp (s i - Finset.univ.fold max ⊥ s))
      = attn (fun j => s (f j)) (fun j => v (f j)) := by
  have hM : Finset.univ.fold max ⊥ s = Finset.univ.fold max ⊥ (fun j => s (f j)) := by
    show Finset.univ.sup s = Finset.univ.sup (fun j => s (f j))
    apply le_antisymm
    · apply Finset.sup_le
      intro i _
      by_cases h : ∃ j, f j = i
      · obtain ⟨j, rfl⟩ := h
        exact Finset.le_sup (f := fun j => s (f j)) (Finset.mem_univ j)
      · rw [hoff i (fun j hj => h ⟨j, hj⟩)]; exact bot_le
    · apply Finset.sup_le
      intro j _
      exact Finset.le_sup (f := s) (Finset.mem_univ (f j))
  rw [hM]
  unfold attn
  haveI : Nonempty (Fin n) := ⟨⟨0, hn⟩⟩
  obtain ⟨j0, _, hj0⟩ := Finset.exists_mem_eq_sup (Finset.univ : Finset (Fin n)) Finset.univ_nonempty (fun j => s (f j))
  have hMr : Finset.univ.fold max ⊥ (fun j => s (f j)) = s (f j0) := hj0
  rw [hMr]
  generalize hm : s (f j0) = m
  have hmr : (m ≠ ⊥ ∧ m ≠ ⊤) := hm ▸ hfin j0
  lift m to ℝ using ⟨hmr.2, hmr.1⟩
  have off0 : ∀ i, (∀ j, f j ≠ i) → Ideal.exp (s i - (m : EReal)) = 0 := by
    intro i h
    rw [hoff i h, EReal.bot_sub]; rfl
  have hsum : ∀ g : Fin N → EReal, (∀ i, (∀ j, f j ≠ i) → g i = 0) → ∑ i, g i = ∑ j, g (f j) := by
    intro g hg
    exact (Finset.sum_of_injOn f hf.injOn (fun _ _ => Finset.mem_coe.mpr (Finset.mem_univ _))
      (fun i _ hi => hg i fun j hj => hi ⟨j, Finset.mem_coe.mpr (Finset.mem_univ j), hj⟩) (fun _ _ => rfl)).symm
  rw [hsum (fun i => Ideal.exp (s i - (m : EReal))) off0,
    hsum (fun i => Ideal.exp (s i - (m : EReal)) * v i) (fun i h => by rw [off0 i h, zero_mul])]
  choose r hr using fun j => (show ∃ x : ℝ, s (f j) = (x : EReal) from ⟨(s (f j)).toReal, (EReal.coe_toReal (hfin j).2 (hfin j).1).symm⟩)
  have he : ∀ j, Ideal.exp (s (f j) - (m : EReal)) = ((Real.exp (r j - m) : ℝ) : EReal) := by
    intro j
    rw [hr j, ← EReal.coe_sub]; rfl
  have hL : ∑ j, Ideal.exp (s (f j) - (m : EReal)) = ((∑ j, Real.exp (r j - m) : ℝ) : EReal) := by
    rw [Finset.sum_congr rfl fun j _ => he j]
    exact (map_sum (⟨⟨Real.toEReal, EReal.coe_zero⟩, EReal.coe_add⟩ : ℝ →+ EReal) (fun j => Real.exp (r j - m)) Finset.univ).symm
  have hpos : 0 < ∑ j, Real.exp (r j - m) := Finset.sum_pos (fun j _ => Real.exp_pos _) Finset.univ_nonempty
  have hne : ((∑ j, Real.exp (r j - m) : ℝ) : EReal) ≠ 0 := by exact_mod_cast hpos.ne'
  rw [hL]
  simp only [Ideal.div, if_neg hne]
  have hinv : ((∑ j, Real.exp (r j - m) : ℝ) : EReal)⁻¹ = (((∑ j, Real.exp (r j - m))⁻¹ : ℝ) : EReal) := (EReal.coe_inv _).symm
  rw [hinv, sum_mul_real _ _ (by exact_mod_cast (inv_pos.mpr hpos).le) (EReal.coe_ne_top _)]
  refine Finset.sum_congr rfl fun j _ => ?_
  rw [mul_assoc, mul_comm (v (f j)), ← mul_assoc]

end Cert.NA

end
-- ==== Proof.NA.Spec.lean ====
module

public import proofs.«01_k».proof.Proof.NA.Soft
public import Idealize.ShloMosaic.Lib.Pointwise.Index

@[expose] public section

noncomputable section

namespace Cert.NA

open Idealize.ShloMosaic

/-- Queries, keys and values: image, token, channel. -/
abbrev Tok := (⟨3, ![8, 8192, 512]⟩ : Shape).Idx → EReal
/-- The bias table: head, row difference, column difference. -/
abbrev Rel := (⟨3, ![8, 15, 31]⟩ : Shape).Idx → EReal

/-- The first row of the window of eight rows around row `r`, kept inside the image. -/
def winRow (r : ℕ) : ℕ := min 120 (r - 4)
/-- The first column of the window of sixteen columns around column `c`, kept inside the image. -/
def winCol (c : ℕ) : ℕ := min 48 (c - 8)

/-- The token that is neighbour `n` of token `s`. -/
def nbr (s : Fin 8192) (n : Fin 128) : Fin 8192 :=
  ⟨64 * (winRow (s.val / 64) + n.val / 16) + (winCol (s.val % 64) + n.val % 16), by unfold winRow winCol; omega⟩

/-- Channel `e` of head `h`. -/
def hch (h : Fin 8) (e : Fin 64) : Fin 512 := ⟨64 * h.val + e.val, by omega⟩

/-- The row of the bias table that neighbour `n` of token `s` reads. -/
def relRow (s : Fin 8192) (n : Fin 128) : Fin 15 := ⟨winRow (s.val / 64) + n.val / 16 + 7 - s.val / 64, by unfold winRow; omega⟩
/-- The column of the bias table that neighbour `n` of token `s` reads. -/
def relCol (s : Fin 8192) (n : Fin 128) : Fin 31 := ⟨winCol (s.val % 64) + n.val % 16 + 15 - s.val % 64, by unfold winCol; omega⟩

/-- The score of token `s`'s query against its neighbour `n`, head `h`. -/
def score (q k : Tok) (rpb : Rel) (b : Fin 8) (s : Fin 8192) (h : Fin 8) (n : Fin 128) : EReal :=
  (∑ e : Fin 64, q (ix3 (n0 := 8) (n1 := 8192) (n2 := 512) b s (hch h e)) * k (ix3 (n0 := 8) (n1 := 8192) (n2 := 512) b (nbr s n) (hch h e)))
    + rpb (ix3 (n0 := 8) (n1 := 15) (n2 := 31) h (relRow s n) (relCol s n))

/-- Neighbourhood attention at image `b`, token `s`, head `h`, channel `d` of the head. -/
def na (q k v : Tok) (rpb : Rel) (b : Fin 8) (s : Fin 8192) (h : Fin 8) (d : Fin 64) : EReal :=
  attn (fun n => score q k rpb b s h n) (fun n => v (ix3 (n0 := 8) (n1 := 8192) (n2 := 512) b (nbr s n) (hch h d)))

/-- A sum of finite extended reals is finite. -/
theorem sum_finite {ι : Type} (s : Finset ι) (g : ι → EReal) (hg : ∀ i, g i ≠ ⊥ ∧ g i ≠ ⊤) : (∑ i ∈ s, g i) ≠ ⊥ ∧ (∑ i ∈ s, g i) ≠ ⊤ := by
  choose r hr using fun i => (show ∃ x : ℝ, g i = (x : EReal) from ⟨(g i).toReal, (EReal.coe_toReal (hg i).2 (hg i).1).symm⟩)
  have h : ∑ i ∈ s, g i = ((∑ i ∈ s, r i : ℝ) : EReal) := by
    rw [Finset.sum_congr rfl fun i _ => hr i]
    exact (map_sum (⟨⟨Real.toEReal, EReal.coe_zero⟩, EReal.coe_add⟩ : ℝ →+ EReal) r s).symm
  rw [h]
  exact ⟨EReal.coe_ne_bot _, EReal.coe_ne_top _⟩

/-- The scores of finite queries and keys under a finite bias are finite. -/
theorem score_finite (q k : Tok) (rpb : Rel) (hq : ∀ i, q i ≠ ⊥ ∧ q i ≠ ⊤) (hk : ∀ i, k i ≠ ⊥ ∧ k i ≠ ⊤) (hr : ∀ i, rpb i ≠ ⊥ ∧ rpb i ≠ ⊤)
    (b : Fin 8) (s : Fin 8192) (h : Fin 8) (n : Fin 128) : score q k rpb b s h n ≠ ⊥ ∧ score q k rpb b s h n ≠ ⊤ := by
  have hs := sum_finite Finset.univ (fun e : Fin 64 => q (ix3 (n0 := 8) (n1 := 8192) (n2 := 512) b s (hch h e)) * k (ix3 (n0 := 8) (n1 := 8192) (n2 := 512) b (nbr s n) (hch h e)))
    fun e => by
      have h1 := hq (ix3 (n0 := 8) (n1 := 8192) (n2 := 512) b s (hch h e))
      have h2 := hk (ix3 (n0 := 8) (n1 := 8192) (n2 := 512) b (nbr s n) (hch h e))
      rw [← EReal.coe_toReal h1.2 h1.1, ← EReal.coe_toReal h2.2 h2.1, ← EReal.coe_mul]
      exact ⟨EReal.coe_ne_bot _, EReal.coe_ne_top _⟩
  have h3 := hr (ix3 (n0 := 8) (n1 := 15) (n2 := 31) h (relRow s n) (relCol s n))
  unfold score
  rw [← EReal.coe_toReal hs.2 hs.1, ← EReal.coe_toReal h3.2 h3.1, ← EReal.coe_add]
  exact ⟨EReal.coe_ne_bot _, EReal.coe_ne_top _⟩

end Cert.NA

end
-- ==== Proof.NA.Finite.lean ====
module

public import proofs.«01_k».proof.Defs
public import proofs.«01_k».proof.Proof.NA.Spec
public import Idealize.ShloMosaic.Lib.Pointwise
public import Idealize.ShloMosaic.Lib.ReduceAll
public import Idealize.ShloMosaic.Lib.WordCmp

@[expose] public section

noncomputable section

namespace Cert.Proof

open Idealize.ShloMosaic Idealize.ShloMosaic.TcCoe

/-- The side conditions of the precondition's operations. -/
theorem factsFinite : Cert.Pre_finite.Facts := ⟨by decide, by decide, by decide, by decide, by decide, by decide⟩

theorem inf_eq : Ideal.ofBits FTy.f32 0x7F800000#32 = ⊤ := by
  simp [Ideal.ofBits, Ideal.ieee]

theorem finite_of_abs (x : EReal) (h : max x (-x) < ⊤) : x ≠ ⊥ ∧ x ≠ ⊤ := by
  constructor
  · rintro rfl
    simp at h
  · rintro rfl
    simp at h

/-- A comparison of magnitudes with infinity that is one says the number is finite. -/
theorem finite_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    (x i : EReal) ≠ ⊥ ∧ (x i : EReal) ≠ ⊤ := by
  apply finite_of_abs
  have h' : Ideal.cmp .olt (max (x i : EReal) (-(x i : EReal))) (Ideal.ofBits FTy.f32 0x7F800000#32) = 1#1 := h
  rw [inf_eq] at h'
  by_contra hn
  have hd : Ideal.cmp .olt (max (x i : EReal) (-(x i : EReal))) ⊤ = 0#1 := by
    show BitVec.ofBool (decide (max (x i : EReal) (-(x i : EReal)) < ⊤)) = 0#1
    rw [decide_eq_false hn]
    rfl
  rw [hd] at h'
  exact absurd h' (by decide)

theorem andi_one (a b : BitVec 1) (h : IntOp.andi a b = 1#1) : a = 1#1 ∧ b = 1#1 := by
  revert a b
  decide

variable [Cert.Pre_finite.Facts]

theorem finite_args (q k v : FVec Ideal Cert.Pre_finite.S8x8192x512 .bf16) (r : FVec Ideal Cert.Pre_finite.S8x15x31 .f32)
    (h : Cert.Pre_finite.fn (F := Ideal) q k v r = fun _ => 1#1) :
    (∀ i, (q i : EReal) ≠ ⊥ ∧ (q i : EReal) ≠ ⊤) ∧ (∀ i, (k i : EReal) ≠ ⊥ ∧ (k i : EReal) ≠ ⊤) ∧ (∀ i, (r i : EReal) ≠ ⊥ ∧ (r i : EReal) ≠ ⊤) := by
  have h0 := congrFun h ix0
  unfold Cert.Pre_finite.fn at h0
  obtain ⟨h1, hr⟩ := andi_one _ _ h0
  obtain ⟨hq, hk⟩ := andi_one _ _ h1
  haveI : Subsingleton Cert.Pre_finite.S_.Idx := ⟨fun a b => funext fun x => x.elim0⟩
  exact ⟨fun i => finite_of_cmp _ _ i (Host.reduce_andi_all _ _ _ _ _ hq i), fun i => finite_of_cmp _ _ i (Host.reduce_andi_all _ _ _ _ _ hk i),
    fun i => finite_of_cmp _ _ i (Host.reduce_andi_all _ _ _ _ _ hr i)⟩

end Cert.Proof
-- ==== Proof.NA.Piece.lean ====
module

public import proofs.«01_k».proof.Proof.NA.Base
public import proofs.«01_k».proof.Proof.NA.Soft
public import Idealize.ShloMosaic.Lib.Pointwise

@[expose] public section

set_option maxRecDepth 16384

noncomputable section

namespace Cert.KernelIdeal.NA

open Cert.KernelIdeal.Gen
open Idealize.ShloMosaic Idealize.ShloMosaic.TcCoe

theorem pay8_apply (l : Fin 128) : k0_pay8 (ix2 (n0 := 1) (n1 := 128) 0 l) = (if l.val < 64 then 1#1 else 0#1) := by
  revert l; decide +kernel

/-- The stacked queries of a pair of heads: the first 64 rows hold the first head's, the last 64 the second's, zeros beside them. -/
def stacked (q : Vec Ideal S1x64x128 .bf16) (r d : Fin 128) : EReal :=
  if r.val / 64 = d.val / 64 then q (ix3 (n0 := 1) (n1 := 64) (n2 := 128) 0 ⟨r.val % 64, by omega⟩ d) else 0

theorem score_stacked (q : Vec Ideal S1x64x128 .bf16) (k : Vec Ideal S512x128 .bf16) (b : Vec Ideal S1x1x128x512 .f32) (r : Fin 128) (n : Fin 512) :
    score q k b (ix2 r n) = (∑ d : Fin 128, stacked q r d * k (ix2 n d)) + b (ix4 (n0 := 1) (n1 := 1) (n2 := 128) (n3 := 512) 0 0 r n) := by
  pointwise [score, k0_pay11]
  congr 1
  refine Finset.sum_congr rfl fun d _ => ?_
  congr 1
  have h8 := pay8_apply d
  unfold stacked
  by_cases h : r.val < 64
  · refine (dif_pos h).trans ?_
    show Scalar.select (k0_pay8 (ix2 (n0 := 1) (n1 := 128) 0 d)) (q (ix3 (n0 := 1) (n1 := 64) (n2 := 128) 0 ⟨r.val, h⟩ d)) 0 = _
    rw [h8]
    by_cases h' : d.val < 64
    · rw [if_pos h', if_pos (by omega)]
      refine congrArg (fun z => q (ix3 (n0 := 1) (n1 := 64) (n2 := 128) 0 z d)) (Fin.ext ?_)
      show r.val = r.val % 64
      omega
    · rw [if_neg h', if_neg (by omega)]
      rfl
  · refine (dif_neg h).trans ?_
    show Scalar.select (k0_pay8 (ix2 (n0 := 1) (n1 := 128) 0 d)) 0 (q (ix3 (n0 := 1) (n1 := 64) (n2 := 128) 0 ⟨r.val - 64, by omega⟩ d)) = _
    rw [h8]
    by_cases h' : d.val < 64
    · rw [if_pos h', if_neg (by omega)]
      rfl
    · rw [if_neg h', if_pos (by omega)]
      refine congrArg (fun z => q (ix3 (n0 := 1) (n1 := 64) (n2 := 128) 0 z d)) (Fin.ext ?_)
      show r.val - 64 = r.val % 64
      omega

/-- Channel `e` of head `g` of a pair. -/
def chan (g : Fin 2) (e : Fin 64) : Fin 128 := ⟨64 * g.val + e.val, by omega⟩

/-- A score of head `g` of the pair, query `i` against key `n`: the product over the head's own channels, plus the bias. -/
theorem score_apply (q : Vec Ideal S1x64x128 .bf16) (k : Vec Ideal S512x128 .bf16) (b : Vec Ideal S1x1x128x512 .f32) (g : Fin 2) (i : Fin 64) (n : Fin 512) :
    score q k b (ix2 (chan g i) n) = (∑ e : Fin 64, q (ix3 (n0 := 1) (n1 := 64) (n2 := 128) 0 i (chan g e)) * k (ix2 n (chan g e)))
      + b (ix4 (n0 := 1) (n1 := 1) (n2 := 128) (n3 := 512) 0 0 (chan g i) n) := by
  rw [score_stacked]
  congr 1
  refine (Finset.sum_of_injOn (chan g) (fun a _ b _ h => ?_) (fun _ _ => Finset.mem_coe.mpr (Finset.mem_univ _)) (fun d _ hd => ?_) (fun e _ => ?_)).symm
  · have h' := congrArg Fin.val h
    simp only [chan] at h'
    exact Fin.ext (by omega)
  · unfold stacked
    rw [if_neg, zero_mul]
    intro h
    have hr : (chan g i).val = 64 * g.val + i.val := rfl
    refine hd ⟨⟨d.val - 64 * g.val, by omega⟩, Finset.mem_coe.mpr (Finset.mem_univ _), Fin.ext ?_⟩
    show 64 * g.val + (d.val - 64 * g.val) = d.val
    omega
  · unfold stacked
    have hr : (chan g i).val = 64 * g.val + i.val := rfl
    have he : (chan g e).val = 64 * g.val + e.val := rfl
    rw [if_pos (by omega)]
    congr 1
    refine congrArg (fun z => q (ix3 (n0 := 1) (n1 := 64) (n2 := 128) 0 z (chan g e))) (Fin.ext ?_)
    show i.val = (64 * g.val + i.val) % 64
    omega

theorem neg_inf_eq : Ideal.ofBits FTy.f32 4286578688#32 = ⊥ := by
  simp [Ideal.ofBits, Ideal.ieee]

theorem pay17_apply (s : FVec Ideal S128x512 .f32) (r : Fin 128) (n : Fin 512) :
    k0_pay17 s (ix2 r n) = Ideal.exp (s (ix2 r n) - Finset.univ.fold max ⊥ fun n => s (ix2 r n)) := by
  pointwise [k0_pay17]
  rw [neg_inf_eq]

theorem pay18_apply (s : FVec Ideal S128x512 .f32) (r : Fin 128) :
    k0_pay18 s (ix2 (n0 := 128) (n1 := 1) r 0) = ∑ n : Fin 512, Ideal.exp (s (ix2 r n) - Finset.univ.fold max ⊥ fun n => s (ix2 r n)) := by
  pointwise [k0_pay18]
  refine Finset.sum_congr rfl fun n _ => ?_
  exact pay17_apply s r n

theorem pay19_apply (s : FVec Ideal S128x512 .f32) (r : Fin 128) (n : Fin 512) :
    k0_pay19 s (ix2 r n) = Ideal.exp (s (ix2 r n) - Finset.univ.fold max ⊥ fun n => s (ix2 r n)) :=
  pay17_apply s r n

theorem pay27_apply (l : FVec Ideal S128x1 .f32) (e : FVec Ideal S128x512 .bf16) (v : Vec Ideal S512x128 .bf16) (g : Fin 2) (i d : Fin 64) :
    k0_pay27 k0_pay8 l e v (ix3 (n0 := 1) (n1 := 64) (n2 := 128) 0 i (chan g d))
      = Ideal.div (∑ n : Fin 512, e (ix2 (chan g i) n) * v (ix2 n (chan g d))) (l (ix2 (n0 := 128) (n1 := 1) (chan g i) 0)) := by
  pointwise [k0_pay27]
  rw [pay8_apply]
  have he : (chan g d).val = 64 * g.val + d.val := rfl
  by_cases h : g.val = 0
  · rw [if_pos (by omega)]
    have hi : (⟨i.val, by omega⟩ : Fin 128) = chan g i := Fin.ext (by show i.val = 64 * g.val + i.val; omega)
    rw [← hi]
    rfl
  · rw [if_neg (by omega)]
    have hi : (⟨64 + i.val, by omega⟩ : Fin 128) = chan g i := Fin.ext (by show 64 + i.val = 64 * g.val + i.val; omega)
    rw [← hi]
    rfl

/-- What query `i` of head `g` of a pair attends to, channel `d`: the values weighed by the exponentials of the scores less their
    greatest, over the sum of the exponentials. -/
theorem rowPair_apply (q : Vec Ideal S1x64x128 .bf16) (k : Vec Ideal S512x128 .bf16) (b : Vec Ideal S1x1x128x512 .f32) (v : Vec Ideal S512x128 .bf16)
    (g : Fin 2) (i d : Fin 64) (S : Fin 512 → EReal)
    (hS : ∀ n, S n = (∑ e : Fin 64, q (ix3 (n0 := 1) (n1 := 64) (n2 := 128) 0 i (chan g e)) * k (ix2 n (chan g e)))
      + b (ix4 (n0 := 1) (n1 := 1) (n2 := 128) (n3 := 512) 0 0 (chan g i) n)) :
    rowPair q k b v (ix3 (n0 := 1) (n1 := 64) (n2 := 128) 0 i (chan g d))
      = Ideal.div (∑ n : Fin 512, Ideal.exp (S n - Finset.univ.fold max ⊥ S) * v (ix2 n (chan g d)))
          (∑ n : Fin 512, Ideal.exp (S n - Finset.univ.fold max ⊥ S)) := by
  have hS' : (fun n => score q k b (ix2 (chan g i) n)) = S := funext fun n => by rw [score_apply, hS]
  have hn : ∀ n, score q k b (ix2 (chan g i) n) = S n := fun n => congrFun hS' n
  unfold rowPair
  rw [pay27_apply, pay18_apply]
  simp only [pay19_apply, hS', hn]

end Cert.KernelIdeal.NA

end
-- ==== Proof.NA.Blocks.lean ====
module

public import proofs.«01_k».proof.Proof.NA.Run
public import proofs.«01_k».proof.Proof.NA.Piece
public import Idealize.ShloMosaic.Lib.Pipeline.ValueKit

@[expose] public section

set_option maxRecDepth 16384

noncomputable section

namespace Cert.KernelIdeal.NA

open Cert.KernelIdeal.Gen
open Idealize.ShloMosaic Idealize.ShloMosaic.TcCoe
open Idealize.SL Idealize.SL.Sem

/-- The image of a grid point. -/
abbrev gb (t : Fin cfg0.N) : Fin 8 := grid0.coords t 0
/-- The block of eight rows of a grid point. -/
abbrev gj (t : Fin cfg0.N) : Fin 16 := grid0.coords t 1

theorem e0 : ∀ t : Fin cfg0.N, win0_0.index t = ![(gb t).val, (gj t).val, 0] := (by decide +kernel : ∀ t : Fin grid0.N, _)
theorem e1 : ∀ t : Fin cfg0.N, win0_1.index t = ![(gb t).val, (gj t).val - 1, 0] := (by decide +kernel : ∀ t : Fin grid0.N, _)
theorem e2 : ∀ t : Fin cfg0.N, win0_2.index t = ![(gb t).val, (gj t).val, 0] := (by decide +kernel : ∀ t : Fin grid0.N, _)
theorem e3 : ∀ t : Fin cfg0.N, win0_3.index t = ![(gb t).val, min ((gj t).val + 1) 15, 0] := (by decide +kernel : ∀ t : Fin grid0.N, _)
theorem e4 : ∀ t : Fin cfg0.N, win0_4.index t = ![(gb t).val, (gj t).val - 1, 0] := (by decide +kernel : ∀ t : Fin grid0.N, _)
theorem e5 : ∀ t : Fin cfg0.N, win0_5.index t = ![(gb t).val, (gj t).val, 0] := (by decide +kernel : ∀ t : Fin grid0.N, _)
theorem e6 : ∀ t : Fin cfg0.N, win0_6.index t = ![(gb t).val, min ((gj t).val + 1) 15, 0] := (by decide +kernel : ∀ t : Fin grid0.N, _)
theorem e7 : ∀ t : Fin cfg0.N, win0_7.index t = ![0, 0, 0, 0] := (by decide +kernel : ∀ t : Fin grid0.N, _)
theorem e8 : ∀ t : Fin cfg0.N, win0_8.index t = ![(gb t).val, (gj t).val, 0] := (by decide +kernel : ∀ t : Fin grid0.N, _)

variable (m : (ℓ : Loc nD τ sig) → Buf (Elt Ideal) ℓ)

theorem iblk0_apply (c : Dev nD) (t : Fin cfg0.N) (y d : Fin 512) :
    iblk m c 0 t (ix3 (n0 := 1) (n1 := 512) (n2 := 512) 0 y d)
      = V m c main_arg0 (ix3 (n0 := 8) (n1 := 8192) (n2 := 512) (gb t) ⟨512 * (gj t).val + y.val, by omega⟩ d) := by
  blk_simp [iblk]
  congr 1
  blk_ext [e0]

theorem iblk1_apply (c : Dev nD) (t : Fin cfg0.N) (y d : Fin 512) :
    iblk m c 1 t (ix3 (n0 := 1) (n1 := 512) (n2 := 512) 0 y d)
      = V m c main_arg1 (ix3 (n0 := 8) (n1 := 8192) (n2 := 512) (gb t) ⟨512 * ((gj t).val - 1) + y.val, by omega⟩ d) := by
  blk_simp [iblk]
  congr 1
  blk_ext [e1]

theorem iblk2_apply (c : Dev nD) (t : Fin cfg0.N) (y d : Fin 512) :
    iblk m c 2 t (ix3 (n0 := 1) (n1 := 512) (n2 := 512) 0 y d)
      = V m c main_arg1 (ix3 (n0 := 8) (n1 := 8192) (n2 := 512) (gb t) ⟨512 * (gj t).val + y.val, by omega⟩ d) := by
  blk_simp [iblk]
  congr 1
  blk_ext [e2]

theorem iblk3_apply (c : Dev nD) (t : Fin cfg0.N) (y d : Fin 512) :
    iblk m c 3 t (ix3 (n0 := 1) (n1 := 512) (n2 := 512) 0 y d)
      = V m c main_arg1 (ix3 (n0 := 8) (n1 := 8192) (n2 := 512) (gb t) ⟨512 * min ((gj t).val + 1) 15 + y.val, by omega⟩ d) := by
  blk_simp [iblk]
  congr 1
  blk_ext [e3]

theorem iblk4_apply (c : Dev nD) (t : Fin cfg0.N) (y d : Fin 512) :
    iblk m c 4 t (ix3 (n0 := 1) (n1 := 512) (n2 := 512) 0 y d)
      = V m c main_arg2 (ix3 (n0 := 8) (n1 := 8192) (n2 := 512) (gb t) ⟨512 * ((gj t).val - 1) + y.val, by omega⟩ d) := by
  blk_simp [iblk]
  congr 1
  blk_ext [e4]

theorem iblk5_apply (c : Dev nD) (t : Fin cfg0.N) (y d : Fin 512) :
    iblk m c 5 t (ix3 (n0 := 1) (n1 := 512) (n2 := 512) 0 y d)
      = V m c main_arg2 (ix3 (n0 := 8) (n1 := 8192) (n2 := 512) (gb t) ⟨512 * (gj t).val + y.val, by omega⟩ d) := by
  blk_simp [iblk]
  congr 1
  blk_ext [e5]

theorem iblk6_apply (c : Dev nD) (t : Fin cfg0.N) (y d : Fin 512) :
    iblk m c 6 t (ix3 (n0 := 1) (n1 := 512) (n2 := 512) 0 y d)
      = V m c main_arg2 (ix3 (n0 := 8) (n1 := 8192) (n2 := 512) (gb t) ⟨512 * min ((gj t).val + 1) 15 + y.val, by omega⟩ d) := by
  blk_simp [iblk]
  congr 1
  blk_ext [e6]

theorem iblk7_eq (c : Dev nD) (t : Fin cfg0.N) (y) :
    iblk m c 7 t y = V m c main_v15 y := by
  blk_simp [iblk]
  congr 1
  blk_ext [e7]

theorem koff_eq : ∀ (i : grid0.Coords) (r : Fin 8), k0_off2 i (BitVec.ofNat 32 r.val) 0 = (min 120 (8 * (i 1).val + r.val - 4) + 8 - 8 * (i 1).val) * 64 := by
  decide +kernel

theorem boff_eq : ∀ (i : grid0.Coords) (r : Fin 8), k0_off3 i (BitVec.ofNat 32 r.val) 0 = min 120 (8 * (i 1).val + r.val - 4) + 7 - (8 * (i 1).val + r.val) := by
  decide +kernel

theorem final_o (c : Dev nD) (G : S8x8192x512.Idx → EReal)
    (hG : ∀ t y, blockOut (grid0.coords t) (iblk m c 0 t) (iblk m c 1 t) (iblk m c 2 t) (iblk m c 3 t) (iblk m c 4 t) (iblk m c 5 t) (iblk m c 6 t) (iblk m c 7 t) y
      = G (ix3 (n0 := 8) (n1 := 8192) (n2 := 512) (gb t) ⟨512 * (gj t).val + (y 1).val, by have h : (y 1).val < 512 := (y 1).isLt; omega⟩ (y 2))) :
    (dats m 0 c).arrAt 8 cfg0.N = G := by
  refine (dats m 0 c).arrAt_eq_of_covers 8 _ (by decide +kernel) fun t hf y => ?_
  blk_simp
  rw [after0_8, hG]
  congr 1
  blk_ext [e8]

end Cert.KernelIdeal.NA

end
-- ==== Proof.NA.Bias.lean ====
module

public import proofs.«01_k».proof.Proof.NA.Run
public import Idealize.ShloMosaic.Lib.Pointwise
public import Idealize.ShloMosaic.Lib.StableHlo.Run

@[expose] public section

set_option maxRecDepth 16384

noncomputable section

namespace Cert.KernelIdeal.NA

open Cert.KernelIdeal.Gen
open Idealize.ShloMosaic Idealize.ShloMosaic.TcCoe
open Idealize.SL Idealize.SL.Sem

variable (m : (ℓ : Loc nD τ sig) → Buf (Elt Ideal) ℓ)

/-- The row differences, window row by neighbour row. -/
def rowDiff : IVec S8x1x8x1 32 :=
  select (constantI S8x1x8x1 1 0#1) (addi (fun i => lit0 (S8x1x8x1.rowMajor i)) (broadcastInDim S8x1x8x1 ![] bcast_S_S8x1x8x1 (constantI S_ 32 15#32)))
    (fun i => lit0 (S8x1x8x1.rowMajor i))

/-- The column differences, query column by neighbour column, clipped to the table. -/
def colDiff : IVec S1x64x1x64 32 :=
  select (constantI S1x64x1x64 1 0#1) (addi (fun i => lit1 (S1x64x1x64.rowMajor i)) (broadcastInDim S1x64x1x64 ![] bcast_S_S1x64x1x64 (constantI S_ 32 31#32)))
    (fun i => lit1 (S1x64x1x64.rowMajor i))

/-- The pairs of row and column differences the bias is gathered at. -/
def diffs : IVec S8x64x8x64x2 32 :=
  concatenate S8x64x8x64x2 4
    [⟨S8x64x8x64x1, broadcastInDim S8x64x8x64x1 ![0, 1, 2, 3] bcast_S8x64x8x64_S8x64x8x64x1_0_1_2_3
        (broadcastInDim S8x64x8x64 ![0, 1, 2, 3] bcast_S8x1x8x1_S8x64x8x64_0_1_2_3 rowDiff)⟩,
      ⟨S8x64x8x64x1, broadcastInDim S8x64x8x64x1 ![0, 1, 2, 3] bcast_S8x64x8x64_S8x64x8x64x1_0_1_2_3
        (broadcastInDim S8x64x8x64 ![0, 1, 2, 3] bcast_S1x64x1x64_S8x64x8x64_0_1_2_3 colDiff)⟩]
    concatenates_S8x64x8x64x1_S8x64x8x64x1_S8x64x8x64x2_d4

/-- The bias by window row, head, query column, neighbour row and neighbour column: `-∞` outside the query's window of columns. -/
def biasWide (x : FVec Ideal S8x15x31 .f32) : FVec Ideal S8x8x64x8x64 .f32 :=
  select (broadcastInDim S8x8x64x8x64 ![0, 1, 2, 3, 4] bcast_S1x1x64x1x64_S8x8x64x8x64_0_1_2_3_4
      (broadcastInDim S1x1x64x1x64 ![2, 4] bcast_S64x64_S1x1x64x1x64_2_4 fun i => lit2 (S64x64.rowMajor i)))
    (transpose S8x8x64x8x64 [1, 0, 2, 3, 4]
      (Host.gather gather_S8x15x31_S8x64x8x64x2_S8x8x64x8x64_0_12_n_n_12_4_811 x diffs) transposes_S8x8x64x8x64_S8x8x64x8x64_1_0_2_3_4)
    (broadcastInDim S8x8x64x8x64 ![] bcast_S_S8x8x64x8x64 (constant S_ .f32 0xFF800000#32))

theorem V_main_v15 (c : Dev nD) :
    V m c main_v15 = shapeCast S8x4x128x512 (biasWide (m ((c : Thread nD τ).loc main_arg3))) shapeCasts_S8x8x64x8x64_S8x4x128x512 := by
  unfold V
  simp only [hostOps0, hostOps0_1, hostOps0_2, List.flatten_cons, List.flatten_nil, List.append_nil, List.cons_append, List.nil_append]
  after_results_simp
  rfl

end Cert.KernelIdeal.NA

end
-- ==== Proof.NA.BiasRead.lean ====
module

public import proofs.«01_k».proof.Proof.NA.Run
public import Idealize.ShloMosaic.Lib.Pointwise

@[expose] public section

set_option maxRecDepth 16384

noncomputable section

namespace Cert.KernelIdeal.NA

open Cert.KernelIdeal.Gen
open Idealize.ShloMosaic Idealize.ShloMosaic.TcCoe

local notation "GB" => gather_S8x15x31_S8x64x8x64x2_S8x8x64x8x64_0_12_n_n_12_4_811

/-- The bias gathered at a pair of differences: the table at the two, each clamped to its extent. -/
theorem gather_rpb (x : FVec Ideal S8x15x31 .f32) (idx : IVec S8x64x8x64x2 32) (h o : Fin 8) (c : Fin 64) (n : Fin 8) (d : Fin 64) :
    Host.gather GB x idx (ix5 (n0 := 8) (n1 := 8) (n2 := 64) (n3 := 8) (n4 := 64) h o c n d)
      = x (ix3 (n0 := 8) (n1 := 15) (n2 := 31) h
          ⟨min (idx (ix5 (n0 := 8) (n1 := 64) (n2 := 8) (n3 := 64) (n4 := 2) o c n d 0)).toInt.toNat 14, by omega⟩
          ⟨min (idx (ix5 (n0 := 8) (n1 := 64) (n2 := 8) (n3 := 64) (n4 := 2) o c n d 1)).toInt.toNat 30, by omega⟩) := by
  unfold Host.gather
  congr 1
  funext a
  refine Fin.ext ?_
  show GatherDims.start GB _ idx a + GatherDims.batchCoord GB _ a + GatherDims.offCoord GB _ a = _
  rw [GatherDims.batchCoord_eq_zero _ _ _ List.not_mem_nil]
  have hsi : ∀ k : Fin 2, GatherDims.siIdx GB (ix5 (n0 := 8) (n1 := 8) (n2 := 64) (n3 := 8) (n4 := 64) h o c n d) k
      = ix5 (n0 := 8) (n1 := 64) (n2 := 8) (n3 := 64) (n4 := 2) o c n d k := by
    intro k
    funext b
    match b with
    | ⟨0, _⟩ => rfl
    | ⟨1, _⟩ => rfl
    | ⟨2, _⟩ => rfl
    | ⟨3, _⟩ => rfl
    | ⟨4, _⟩ => rfl
  have s0 : ∀ j, GatherDims.start GB j idx 0 = 0 := fun j => by
    unfold GatherDims.start
    rw [dif_neg (show (0 : Fin 3) ∉ GatherDims.startIndexMap GB by decide)]
  have s1 : ∀ j, GatherDims.start GB j idx 1 = min (idx (GatherDims.siIdx GB j (0 : Fin 2))).toInt.toNat 14 := fun j => by
    unfold GatherDims.start
    rw [dif_pos (show (1 : Fin 3) ∈ GatherDims.startIndexMap GB by decide)]
    rfl
  have s2 : ∀ j, GatherDims.start GB j idx 2 = min (idx (GatherDims.siIdx GB j (1 : Fin 2))).toInt.toNat 30 := fun j => by
    unfold GatherDims.start
    rw [dif_pos (show (2 : Fin 3) ∈ GatherDims.startIndexMap GB by decide)]
    rfl
  have o1 : ∀ j, GatherDims.offCoord GB j 1 = 0 := fun j => GatherDims.offCoord_eq_zero _ _ _ (by decide)
  have o2 : ∀ j, GatherDims.offCoord GB j 2 = 0 := fun j => GatherDims.offCoord_eq_zero _ _ _ (by decide)
  match a with
  | ⟨0, _⟩ => exact (congrArg (fun z => z + 0 + h.val) (s0 _)).trans (by show 0 + 0 + h.val = h.val; omega)
  | ⟨1, _⟩ => exact (congrArg₂ (fun y z => y + 0 + z) (s1 _) (o1 _)).trans (congrArg (fun z => min (idx z).toInt.toNat 14) (hsi 0))
  | ⟨2, _⟩ => exact (congrArg₂ (fun y z => y + 0 + z) (s2 _) (o2 _)).trans (congrArg (fun z => min (idx z).toInt.toNat 30) (hsi 1))

theorem lit0_eq : ∀ (o n : Fin 8), lit0 (S8x1x8x1.rowMajor (ix4 (n0 := 8) (n1 := 1) (n2 := 8) (n3 := 1) o 0 n 0)) = BitVec.ofNat 32 (o.val + n.val) := by
  decide +kernel

theorem lit1_eq : ∀ (c d : Fin 64), lit1 (S1x64x1x64.rowMajor (ix4 (n0 := 1) (n1 := 64) (n2 := 1) (n3 := 64) 0 c 0 d)) = BitVec.ofNat 32 (min (d.val + 15 - c.val) 30) := by
  decide +kernel

theorem lit2_eq : ∀ (c d : Fin 64), lit2 (S64x64.rowMajor (ix2 (n0 := 64) (n1 := 64) c d)) =
    if min 48 (c.val - 8) ≤ d.val ∧ d.val < min 48 (c.val - 8) + 16 then 1#1 else 0#1 := by
  decide +kernel

end Cert.KernelIdeal.NA

end
-- ==== Proof.NA.BiasAt.lean ====
module

public import proofs.«01_k».proof.Proof.NA.Bias
public import proofs.«01_k».proof.Proof.NA.BiasRead
public import proofs.«01_k».proof.Proof.NA.Piece
public import Idealize.ShloMosaic.Lib.Pointwise

@[expose] public section

set_option maxRecDepth 16384

noncomputable section

namespace Cert.KernelIdeal.NA

open Cert.KernelIdeal.Gen
open Idealize.ShloMosaic Idealize.ShloMosaic.TcCoe
open Idealize.SL Idealize.SL.Sem

theorem diffs_row (o : Fin 8) (c : Fin 64) (n : Fin 8) (d : Fin 64) :
    diffs (ix5 (n0 := 8) (n1 := 64) (n2 := 8) (n3 := 64) (n4 := 2) o c n d 0) = BitVec.ofNat 32 (o.val + n.val) := by
  pointwise [diffs, rowDiff]
  exact lit0_eq o n

theorem diffs_col (o : Fin 8) (c : Fin 64) (n : Fin 8) (d : Fin 64) :
    diffs (ix5 (n0 := 8) (n1 := 64) (n2 := 8) (n3 := 64) (n4 := 2) o c n d 1) = BitVec.ofNat 32 (min (d.val + 15 - c.val) 30) := by
  pointwise [diffs, colDiff]
  exact lit1_eq c d

theorem toNat_small (k : ℕ) (hk : k < 2 ^ 31) : (BitVec.ofNat 32 k).toInt.toNat = k := by
  rw [BitVec.toInt_eq_toNat_of_lt (by rw [BitVec.toNat_ofNat]; omega), BitVec.toNat_ofNat]
  omega

theorem biasWide_apply (x : FVec Ideal S8x15x31 .f32) (o h : Fin 8) (c : Fin 64) (n : Fin 8) (d : Fin 64) :
    biasWide x (ix5 (n0 := 8) (n1 := 8) (n2 := 64) (n3 := 8) (n4 := 64) o h c n d)
      = if min 48 (c.val - 8) ≤ d.val ∧ d.val < min 48 (c.val - 8) + 16 then
          x (ix3 (n0 := 8) (n1 := 15) (n2 := 31) h ⟨o.val + n.val, by omega⟩ ⟨min (d.val + 15 - c.val) 30, by omega⟩)
        else ⊥ := by
  pointwise [biasWide]
  rw [lit2_eq, neg_inf_eq, gather_rpb]
  by_cases h' : min 48 (c.val - 8) ≤ d.val ∧ d.val < min 48 (c.val - 8) + 16
  · rw [if_pos h', if_pos h']
    show x _ = x _
    congr 1
    have h1 : min (diffs (ix5 (n0 := 8) (n1 := 64) (n2 := 8) (n3 := 64) (n4 := 2) o c n d 0)).toInt.toNat 14 = o.val + n.val := by
      rw [diffs_row, toNat_small _ (by omega)]; omega
    have h2 : min (diffs (ix5 (n0 := 8) (n1 := 64) (n2 := 8) (n3 := 64) (n4 := 2) o c n d 1)).toInt.toNat 30 = min (d.val + 15 - c.val) 30 := by
      rw [diffs_col, toNat_small _ (by omega)]; omega
    exact congrArg₂ (fun y z => ix3 (n0 := 8) (n1 := 15) (n2 := 31) h y z) (Fin.ext h1) (Fin.ext h2)
  · rw [if_neg h', if_neg h']
    rfl

variable (m : (ℓ : Loc nD τ sig) → Buf (Elt Ideal) ℓ)

/-- The bias array as the kernel is handed it: row `o` of the window offsets, head `g` of pair `p`, query column `i`, key `n` of a window of eight rows of 64. -/
theorem bias_at (c : Dev nD) (o : Fin 8) (p : Fin 4) (g : Fin 2) (i : Fin 64) (n : Fin 512) :
    V m c main_v15 (ix4 (n0 := 8) (n1 := 4) (n2 := 128) (n3 := 512) o p (chan g i) n)
      = if min 48 (i.val - 8) ≤ n.val % 64 ∧ n.val % 64 < min 48 (i.val - 8) + 16 then
          (m ((c : Thread nD τ).loc main_arg3) : S8x15x31.Idx → EReal) (ix3 (n0 := 8) (n1 := 15) (n2 := 31) ⟨2 * p.val + g.val, by omega⟩ ⟨o.val + n.val / 64, by omega⟩
            ⟨min (n.val % 64 + 15 - i.val) 30, by omega⟩)
        else (⊥ : EReal) := by
  rw [V_main_v15]
  rw [shapeCast_apply (biasWide (m ((c : Thread nD τ).loc main_arg3))) shapeCasts_S8x8x64x8x64_S8x4x128x512 _
    (ix5 (n0 := 8) (n1 := 8) (n2 := 64) (n3 := 8) (n4 := 64) o ⟨2 * p.val + g.val, by omega⟩ i ⟨n.val / 64, by omega⟩ ⟨n.val % 64, by omega⟩) ?_]
  · exact biasWide_apply _ o _ i _ _
  · refine (rowMajor_val5 _ 262144 32768 512 64 rfl rfl rfl rfl).trans (Eq.trans ?_ (rowMajor_val4 _ 262144 65536 512 rfl rfl rfl).symm)
    show o.val * 262144 + (2 * p.val + g.val) * 32768 + i.val * 512 + n.val / 64 * 64 + n.val % 64 = o.val * 262144 + p.val * 65536 + (64 * g.val + i.val) * 512 + n.val
    omega

end Cert.KernelIdeal.NA

end
-- ==== Proof.NA.Value.lean ====
module

public import proofs.«01_k».proof.Proof.NA.Blocks
public import proofs.«01_k».proof.Proof.NA.BiasAt
public import proofs.«01_k».proof.Proof.NA.Spec

@[expose] public section

set_option maxRecDepth 16384

noncomputable section

namespace Cert.KernelIdeal.NA

open Cert.KernelIdeal.Gen Cert.NA
open Idealize.ShloMosaic Idealize.ShloMosaic.TcCoe
open Idealize.SL Idealize.SL.Sem

theorem flat_apply (x : Vec Ideal S1x512x512 .bf16) (y d : Fin 512) :
    flat x (ix2 (n0 := 512) (n1 := 512) y d) = x (ix3 (n0 := 1) (n1 := 512) (n2 := 512) 0 y d) := by
  pointwise [flat, k0_pay2]

/-- Token `n` of the window of eight rows that row `r` of grid point `t`'s block reads. -/
def wtok (t : Fin cfg0.N) (r : Fin 8) (n : Fin 512) : Fin 8192 := ⟨64 * winRow (8 * (gj t).val + r.val) + n.val, by unfold winRow; omega⟩

/-- The window of a row's keys (or values), cut from three neighbouring blocks, is the array at the window's tokens. -/
theorem window_read (A : Tok) (t : Fin cfg0.N) (r : Fin 8) (p : Fin 4) (x0 x1 x2 : Vec Ideal S1x512x512 .bf16)
    (h0 : ∀ y d : Fin 512, x0 (ix3 (n0 := 1) (n1 := 512) (n2 := 512) 0 y d) = A (ix3 (n0 := 8) (n1 := 8192) (n2 := 512) (gb t) ⟨512 * ((gj t).val - 1) + y.val, by omega⟩ d))
    (h1 : ∀ y d : Fin 512, x1 (ix3 (n0 := 1) (n1 := 512) (n2 := 512) 0 y d) = A (ix3 (n0 := 8) (n1 := 8192) (n2 := 512) (gb t) ⟨512 * (gj t).val + y.val, by omega⟩ d))
    (h2 : ∀ y d : Fin 512, x2 (ix3 (n0 := 1) (n1 := 512) (n2 := 512) 0 y d) = A (ix3 (n0 := 8) (n1 := 8192) (n2 := 512) (gb t) ⟨512 * min ((gj t).val + 1) 15 + y.val, by omega⟩ d))
    (n : Fin 512) (d : Fin 128) :
    View.ld (Val := Elt Ideal) (e' := .bf16) (cat3 (flat x0) (flat x1) (flat x2)) (Rect.unit (s := S1536x512) (koff (grid0.coords t) r p) S512x128.size (koff_inb (grid0.coords t) r p))
        (ix2 (n0 := 512) (n1 := 128) n d)
      = A (ix3 (n0 := 8) (n1 := 8192) (n2 := 512) (gb t) (wtok t r n) ⟨128 * p.val + d.val, by omega⟩) := by
  have hk : k0_off2 (grid0.coords t) (BitVec.ofNat 32 r.val) 0 = (winRow (8 * (gj t).val + r.val) + 8 - 8 * (gj t).val) * 64 := koff_eq (grid0.coords t) r
  have hw : winRow (8 * (gj t).val + r.val) = min 120 (8 * (gj t).val + r.val - 4) := rfl
  have hj : (gj t).val < 16 := (gj t).isLt
  have hlt : (winRow (8 * (gj t).val + r.val) + 8 - 8 * (gj t).val) * 64 + n.val < 1536 := by omega
  have hix : (Rect.unit (s := S1536x512) (koff (grid0.coords t) r p) S512x128.size (koff_inb (grid0.coords t) r p)).emb (ix2 (n0 := 512) (n1 := 128) n d)
      = ix2 (n0 := 1536) (n1 := 512) ⟨(winRow (8 * (gj t).val + r.val) + 8 - 8 * (gj t).val) * 64 + n.val, hlt⟩ ⟨128 * p.val + d.val, by omega⟩ := by
    funext a
    match a with
    | ⟨0, _⟩ => exact Fin.ext (by show k0_off2 (grid0.coords t) (BitVec.ofNat 32 r.val) 0 + 1 * n.val = _; rw [hk]; show _ = _ * 64 + n.val; omega)
    | ⟨1, _⟩ => exact Fin.ext (by show 128 * p.val + 1 * d.val = 128 * p.val + d.val; omega)
  show cat3 (flat x0) (flat x1) (flat x2) ((Rect.unit (s := S1536x512) (koff (grid0.coords t) r p) S512x128.size (koff_inb (grid0.coords t) r p)).emb (ix2 (n0 := 512) (n1 := 128) n d)) = _
  rw [hix]
  unfold cat3
  split
  · rename_i h
    have h' : (winRow (8 * (gj t).val + r.val) + 8 - 8 * (gj t).val) * 64 + n.val < 512 := h
    refine (flat_apply x0 _ _).trans ((h0 _ _).trans ?_)
    refine congrArg (fun z => A (ix3 (n0 := 8) (n1 := 8192) (n2 := 512) (gb t) z _)) (Fin.ext ?_)
    show 512 * ((gj t).val - 1) + ((winRow (8 * (gj t).val + r.val) + 8 - 8 * (gj t).val) * 64 + n.val) = 64 * winRow (8 * (gj t).val + r.val) + n.val
    omega
  · rename_i h
    have h' : ¬ (winRow (8 * (gj t).val + r.val) + 8 - 8 * (gj t).val) * 64 + n.val < 512 := h
    split
    · rename_i h2
      have h2' : (winRow (8 * (gj t).val + r.val) + 8 - 8 * (gj t).val) * 64 + n.val < 1024 := h2
      refine (flat_apply x1 _ _).trans ((h1 _ _).trans ?_)
      refine congrArg (fun z => A (ix3 (n0 := 8) (n1 := 8192) (n2 := 512) (gb t) z _)) (Fin.ext ?_)
      show 512 * (gj t).val + ((winRow (8 * (gj t).val + r.val) + 8 - 8 * (gj t).val) * 64 + n.val - 512) = 64 * winRow (8 * (gj t).val + r.val) + n.val
      omega
    · rename_i h2'
      have h3' : ¬ (winRow (8 * (gj t).val + r.val) + 8 - 8 * (gj t).val) * 64 + n.val < 1024 := h2'
      refine (flat_apply x2 _ _).trans ((h2 _ _).trans ?_)
      refine congrArg (fun z => A (ix3 (n0 := 8) (n1 := 8192) (n2 := 512) (gb t) z _)) (Fin.ext ?_)
      show 512 * min ((gj t).val + 1) 15 + ((winRow (8 * (gj t).val + r.val) + 8 - 8 * (gj t).val) * 64 + n.val - 1024) = 64 * winRow (8 * (gj t).val + r.val) + n.val
      omega

variable (m : (ℓ : Loc nD τ sig) → Buf (Elt Ideal) ℓ)

/-- The queries a device is handed. -/
abbrev argQ (c : Dev nD) : Tok := m ((c : Thread nD τ).loc main_arg0)
/-- The keys a device is handed. -/
abbrev argK (c : Dev nD) : Tok := m ((c : Thread nD τ).loc main_arg1)
/-- The values a device is handed. -/
abbrev argV (c : Dev nD) : Tok := m ((c : Thread nD τ).loc main_arg2)
/-- The bias table a device is handed. -/
abbrev argR (c : Dev nD) : Rel := m ((c : Thread nD τ).loc main_arg3)

/-- Where neighbour `n` of a query in column `i` lies among the keys of the window of rows. -/
def slot (i : Fin 64) (n : Fin 128) : Fin 512 := ⟨64 * (n.val / 16) + (winCol i.val + n.val % 16), by unfold winCol; omega⟩

theorem slot_injective (i : Fin 64) : Function.Injective (slot i) := fun a b h => by
  have h' : 64 * (a.val / 16) + (winCol i.val + a.val % 16) = 64 * (b.val / 16) + (winCol i.val + b.val % 16) := congrArg Fin.val h
  have hw : winCol i.val ≤ 48 := by unfold winCol; omega
  exact Fin.ext (by omega)

/-- The token of query column `i` in row `r` of grid point `t`'s block. -/
def qtok (t : Fin cfg0.N) (r : Fin 8) (i : Fin 64) : Fin 8192 := ⟨512 * (gj t).val + (64 * r.val + i.val), by omega⟩

/-- The head of the pair `p` that `g` picks. -/
def head (p : Fin 4) (g : Fin 2) : Fin 8 := ⟨2 * p.val + g.val, by omega⟩

theorem wtok_slot (t : Fin cfg0.N) (r : Fin 8) (i : Fin 64) (n : Fin 128) : wtok t r (slot i n) = nbr (qtok t r i) n := by
  have h1 : (512 * (gj t).val + (64 * r.val + i.val)) / 64 = 8 * (gj t).val + r.val := by omega
  have h2 : (512 * (gj t).val + (64 * r.val + i.val)) % 64 = i.val := by omega
  refine Fin.ext ?_
  show 64 * winRow (8 * (gj t).val + r.val) + (64 * (n.val / 16) + (winCol i.val + n.val % 16))
    = 64 * (winRow ((512 * (gj t).val + (64 * r.val + i.val)) / 64) + n.val / 16) + (winCol ((512 * (gj t).val + (64 * r.val + i.val)) % 64) + n.val % 16)
  rw [h1, h2]
  omega

/-- The bias at window key `n`: the table's entry when the key is in the query's window of columns, `-∞` otherwise. -/
def wbias (rpb : Rel) (t : Fin cfg0.N) (r : Fin 8) (p : Fin 4) (g : Fin 2) (i : Fin 64) (n : Fin 512) : EReal :=
  if winCol i.val ≤ n.val % 64 ∧ n.val % 64 < winCol i.val + 16 then
    rpb (ix3 (n0 := 8) (n1 := 15) (n2 := 31) (head p g)
      ⟨winRow (8 * (gj t).val + r.val) + 7 - (8 * (gj t).val + r.val) + n.val / 64, by unfold winRow; omega⟩ ⟨min (n.val % 64 + 15 - i.val) 30, by omega⟩)
  else ⊥

theorem bias_read (c : Dev nD) (t : Fin cfg0.N) (r : Fin 8) (p : Fin 4) (g : Fin 2) (i : Fin 64) (n : Fin 512) :
    View.ld (iblk m c 7 t : Vec Ideal S8x4x128x512 .f32) (Rect.unit (s := S8x4x128x512) (boff (grid0.coords t) r p) S1x1x128x512.size (boff_inb (grid0.coords t) r p))
        (ix4 (n0 := 1) (n1 := 1) (n2 := 128) (n3 := 512) 0 0 (chan g i) n)
      = wbias (argR m c) t r p g i n := by
  have hb : k0_off3 (grid0.coords t) (BitVec.ofNat 32 r.val) 0 = winRow (8 * (gj t).val + r.val) + 7 - (8 * (gj t).val + r.val) := boff_eq (grid0.coords t) r
  have hlt : winRow (8 * (gj t).val + r.val) + 7 - (8 * (gj t).val + r.val) < 8 := by unfold winRow; omega
  have hix : (Rect.unit (s := S8x4x128x512) (boff (grid0.coords t) r p) S1x1x128x512.size (boff_inb (grid0.coords t) r p)).emb
        (ix4 (n0 := 1) (n1 := 1) (n2 := 128) (n3 := 512) 0 0 (chan g i) n)
      = ix4 (n0 := 8) (n1 := 4) (n2 := 128) (n3 := 512) ⟨winRow (8 * (gj t).val + r.val) + 7 - (8 * (gj t).val + r.val), hlt⟩ p (chan g i) n := by
    funext a
    match a with
    | ⟨0, _⟩ => exact Fin.ext (by show k0_off3 (grid0.coords t) (BitVec.ofNat 32 r.val) 0 + 1 * 0 = _; rw [hb]; rfl)
    | ⟨1, _⟩ => exact Fin.ext (by show p.val + 1 * 0 = p.val; omega)
    | ⟨2, _⟩ => exact Fin.ext (by show 0 + 1 * (chan g i).val = (chan g i).val; omega)
    | ⟨3, _⟩ => exact Fin.ext (by show 0 + 1 * n.val = n.val; omega)
  show iblk m c 7 t ((Rect.unit (s := S8x4x128x512) (boff (grid0.coords t) r p) S1x1x128x512.size (boff_inb (grid0.coords t) r p)).emb
        (ix4 (n0 := 1) (n1 := 1) (n2 := 128) (n3 := 512) 0 0 (chan g i) n)) = _
  rw [hix]
  exact (iblk7_eq m c t _).trans (bias_at m c _ p g i n)

theorem query_read (c : Dev nD) (t : Fin cfg0.N) (r : Fin 8) (p : Fin 4) (i : Fin 64) (d : Fin 128) :
    View.ld (iblk m c 0 t : Vec Ideal S1x512x512 .bf16) (Rect.unit (s := S1x512x512) (qoff r p) S1x64x128.size (qoff_inb r p))
        (ix3 (n0 := 1) (n1 := 64) (n2 := 128) 0 i d)
      = argQ m c (ix3 (n0 := 8) (n1 := 8192) (n2 := 512) (gb t) (qtok t r i) ⟨128 * p.val + d.val, by omega⟩) := by
  have hix : (Rect.unit (s := S1x512x512) (qoff r p) S1x64x128.size (qoff_inb r p)).emb (ix3 (n0 := 1) (n1 := 64) (n2 := 128) 0 i d)
      = ix3 (n0 := 1) (n1 := 512) (n2 := 512) 0 ⟨64 * r.val + i.val, by omega⟩ ⟨128 * p.val + d.val, by omega⟩ := by
    funext a
    match a with
    | ⟨0, _⟩ => exact Fin.ext rfl
    | ⟨1, _⟩ => exact Fin.ext (by show 64 * r.val + 1 * i.val = 64 * r.val + i.val; omega)
    | ⟨2, _⟩ => exact Fin.ext (by show 128 * p.val + 1 * d.val = 128 * p.val + d.val; omega)
  show iblk m c 0 t ((Rect.unit (s := S1x512x512) (qoff r p) S1x64x128.size (qoff_inb r p)).emb (ix3 (n0 := 1) (n1 := 64) (n2 := 128) 0 i d)) = _
  rw [hix]
  exact (iblk0_apply m c t _ _).trans (congrFun (V_main_arg0 m c) _)

theorem chan_hch (p : Fin 4) (g : Fin 2) (e : Fin 64) (h) : (⟨128 * p.val + (chan g e).val, h⟩ : Fin 512) = hch (head p g) e :=
  Fin.ext (by show 128 * p.val + (64 * g.val + e.val) = 64 * (2 * p.val + g.val) + e.val; omega)

/-- The kernel's result at row `r` of a block, query column `i`, head `g` of pair `p`, channel `d`: neighbourhood attention there. -/
theorem piece_value (c : Dev nD) (hfin : ∀ b s h n, Cert.NA.score (argQ m c) (argK m c) (argR m c) b s h n ≠ ⊥ ∧ Cert.NA.score (argQ m c) (argK m c) (argR m c) b s h n ≠ ⊤)
    (t : Fin cfg0.N) (r : Fin 8) (p : Fin 4) (g : Fin 2) (i d : Fin 64) :
    pieceV (grid0.coords t) (iblk m c 0 t) (iblk m c 1 t) (iblk m c 2 t) (iblk m c 3 t) (iblk m c 4 t) (iblk m c 5 t) (iblk m c 6 t) (iblk m c 7 t) r p
        (ix3 (n0 := 1) (n1 := 64) (n2 := 128) 0 i (chan g d))
      = na (argQ m c) (argK m c) (argV m c) (argR m c) (gb t) (qtok t r i) (head p g) d := by
  let S : Fin 512 → EReal := fun n =>
    (∑ e : Fin 64, argQ m c (ix3 (n0 := 8) (n1 := 8192) (n2 := 512) (gb t) (qtok t r i) (hch (head p g) e))
        * argK m c (ix3 (n0 := 8) (n1 := 8192) (n2 := 512) (gb t) (wtok t r n) (hch (head p g) e)))
      + wbias (argR m c) t r p g i n
  have hK := window_read (argK m c) t r p (iblk m c 1 t) (iblk m c 2 t) (iblk m c 3 t)
    (fun y d => (iblk1_apply m c t y d).trans (congrFun (V_main_arg1 m c) _)) (fun y d => (iblk2_apply m c t y d).trans (congrFun (V_main_arg1 m c) _))
    (fun y d => (iblk3_apply m c t y d).trans (congrFun (V_main_arg1 m c) _))
  have hV := window_read (argV m c) t r p (iblk m c 4 t) (iblk m c 5 t) (iblk m c 6 t)
    (fun y d => (iblk4_apply m c t y d).trans (congrFun (V_main_arg2 m c) _)) (fun y d => (iblk5_apply m c t y d).trans (congrFun (V_main_arg2 m c) _))
    (fun y d => (iblk6_apply m c t y d).trans (congrFun (V_main_arg2 m c) _))
  unfold pieceV
  rw [rowPair_apply _ _ _ _ g i d S (fun n => ?_)]
  · have hv : ∀ n : Fin 512, View.ld (Val := Elt Ideal) (e' := .bf16) (cat3 (flat (iblk m c 4 t)) (flat (iblk m c 5 t)) (flat (iblk m c 6 t))) (Rect.unit (s := S1536x512) (koff (grid0.coords t) r p) S512x128.size (koff_inb (grid0.coords t) r p))
        (ix2 (n0 := 512) (n1 := 128) n (chan g d)) = argV m c (ix3 (n0 := 8) (n1 := 8192) (n2 := 512) (gb t) (wtok t r n) (hch (head p g) d)) := fun n => by
      rw [hV, chan_hch]
    have hS : ∀ n, S (slot i n) = Cert.NA.score (argQ m c) (argK m c) (argR m c) (gb t) (qtok t r i) (head p g) n := fun n => by
      have hw : winCol i.val ≤ 48 := by unfold winCol; omega
      have h1 : (512 * (gj t).val + (64 * r.val + i.val)) / 64 = 8 * (gj t).val + r.val := by omega
      have h2 : (512 * (gj t).val + (64 * r.val + i.val)) % 64 = i.val := by omega
      have hs : (slot i n).val = 64 * (n.val / 16) + (winCol i.val + n.val % 16) := rfl
      show (∑ e : Fin 64, _ * argK m c (ix3 (n0 := 8) (n1 := 8192) (n2 := 512) (gb t) (wtok t r (slot i n)) (hch (head p g) e))) + wbias (argR m c) t r p g i (slot i n) = _
      rw [wtok_slot]
      unfold Cert.NA.score wbias
      rw [if_pos (by omega)]
      congr 1
      refine congrArg₂ (fun y z => argR m c (ix3 (n0 := 8) (n1 := 15) (n2 := 31) (head p g) y z)) (Fin.ext ?_) (Fin.ext ?_)
      · show winRow (8 * (gj t).val + r.val) + 7 - (8 * (gj t).val + r.val) + (slot i n).val / 64
          = winRow ((512 * (gj t).val + (64 * r.val + i.val)) / 64) + n.val / 16 + 7 - (512 * (gj t).val + (64 * r.val + i.val)) / 64
        rw [h1, hs]
        unfold winRow
        omega
      · show min ((slot i n).val % 64 + 15 - i.val) 30
          = winCol ((512 * (gj t).val + (64 * r.val + i.val)) % 64) + n.val % 16 + 15 - (512 * (gj t).val + (64 * r.val + i.val)) % 64
        rw [h2, hs]
        unfold winCol
        omega
    simp only [hv]
    refine (masked_attn (by decide) (slot i) (slot_injective i) S
      (fun n => argV m c (ix3 (n0 := 8) (n1 := 8192) (n2 := 512) (gb t) (wtok t r n) (hch (head p g) d))) (fun n hn => ?_) (fun n => by rw [hS]; exact hfin _ _ _ _)).trans ?_
    · show _ + wbias (argR m c) t r p g i n = ⊥
      unfold wbias
      rw [if_neg, EReal.add_bot]
      intro h
      refine hn ⟨16 * (n.val / 64) + (n.val % 64 - winCol i.val), by omega⟩ (Fin.ext ?_)
      show 64 * ((16 * (n.val / 64) + (n.val % 64 - winCol i.val)) / 16) + (winCol i.val + (16 * (n.val / 64) + (n.val % 64 - winCol i.val)) % 16) = n.val
      omega
    · unfold na
      simp only [hS, wtok_slot]
  · show _ = _
    rw [bias_read]
    refine congrArg (· + wbias (argR m c) t r p g i n) (Finset.sum_congr rfl fun e _ => ?_)
    rw [query_read, hK, chan_hch]

/-- The kernel's result array is neighbourhood attention of its arguments. -/
theorem result_value (c : Dev nD) (hfin : ∀ b s h n, Cert.NA.score (argQ m c) (argK m c) (argR m c) b s h n ≠ ⊥ ∧ Cert.NA.score (argQ m c) (argK m c) (argR m c) b s h n ≠ ⊤) :
    (dats m 0 c).arrAt 8 cfg0.N = (fun y : S8x8192x512.Idx => na (argQ m c) (argK m c) (argV m c) (argR m c) (y 0) (y 1)
      ⟨(y 2).val / 64, by have h : (y 2).val < 512 := (y 2).isLt; omega⟩ ⟨(y 2).val % 64, by omega⟩) := by
  refine final_o m c _ fun t y => ?_
  have l1 : (y 1).val < 512 := (y 1).isLt
  have l2 : (y 2).val < 512 := (y 2).isLt
  unfold blockOut
  have hc : (⟨(y 2).val % 128, by omega⟩ : Fin 128) = chan ⟨(y 2).val % 128 / 64, by omega⟩ ⟨(y 2).val % 64, by omega⟩ :=
    Fin.ext (by show (y 2).val % 128 = 64 * ((y 2).val % 128 / 64) + (y 2).val % 64; omega)
  rw [hc]
  refine (piece_value m c hfin t _ _ _ _ _).trans ?_
  have hs : qtok t ⟨(y 1).val / 64, by omega⟩ ⟨(y 1).val % 64, by omega⟩ = ⟨512 * (gj t).val + (y 1).val, by omega⟩ :=
    Fin.ext (by show 512 * (gj t).val + (64 * ((y 1).val / 64) + (y 1).val % 64) = 512 * (gj t).val + (y 1).val; omega)
  have hh : head ⟨(y 2).val / 128, by omega⟩ ⟨(y 2).val % 128 / 64, by omega⟩ = ⟨(y 2).val / 64, by omega⟩ :=
    Fin.ext (by show 2 * ((y 2).val / 128) + (y 2).val % 128 / 64 = (y 2).val / 64; omega)
  rw [hs, hh]
  rfl

end Cert.KernelIdeal.NA

end
-- ==== Proof.NA.RefIdx.lean ====
module

public import proofs.«01_k».proof.Proof.Gen.ReferenceIdeal.Read
public import proofs.«01_k».proof.Proof.NA.Spec
public import Idealize.ShloMosaic.Lib.Pointwise

@[expose] public section

set_option maxRecDepth 16384

noncomputable section

namespace Cert.ReferenceIdeal.NA

open Cert.ReferenceIdeal Cert.ReferenceIdeal.Gen Cert.ReferenceIdeal.Read
open Idealize.ShloMosaic Idealize.ShloMosaic.TcCoe
open Cert.NA (Tok Rel winRow winCol nbr hch relRow relCol attn na)

theorem toNat_small (k : ℕ) (hk : k < 2 ^ 31) : (BitVec.ofNat 32 k).toInt.toNat = k := by
  rw [BitVec.toInt_eq_toNat_of_lt (by rw [BitVec.toNat_ofNat]; omega), BitVec.toNat_ofNat]
  omega

/-- A small number is not taken for a negative index. -/
theorem wrap_small (k : ℕ) (hk : k < 2 ^ 31) (a : BitVec 32) :
    Scalar.select (IntOp.cmpi CmpIPredicate.slt (BitVec.ofNat 32 k) 0#32) a (BitVec.ofNat 32 k) = BitVec.ofNat 32 k := by
  have h : (BitVec.ofNat 32 k).slt 0#32 = false := by
    unfold BitVec.slt
    rw [BitVec.toInt_eq_toNat_of_lt (by rw [BitVec.toNat_ofNat]; omega)]
    have h0 : (0#32).toInt = 0 := by decide
    rw [h0]
    exact decide_eq_false (by omega)
  have hc : IntOp.cmpi CmpIPredicate.slt (BitVec.ofNat 32 k) 0#32 = 0#1 := by
    show BitVec.ofBool ((BitVec.ofNat 32 k).slt 0#32) = 0#1
    rw [h]
    rfl
  rw [hc]
  rfl

/-- A difference of small numbers, raised by one number and lowered by another. -/
theorem diff_small (a r u : ℕ) (h : r ≤ a + u) (ha : a < 2 ^ 31) (hr : r < 2 ^ 31) (hu : u < 2 ^ 31) :
    IntOp.subi (IntOp.addi (IntOp.subi (BitVec.ofNat 32 a) (BitVec.ofNat 32 r)) (BitVec.ofNat 32 (u + 1))) 1#32
      = BitVec.ofNat 32 (a + u - r) := by
  show BitVec.ofNat 32 a - BitVec.ofNat 32 r + BitVec.ofNat 32 (u + 1) - 1#32 = _
  apply BitVec.eq_of_toNat_eq
  simp only [BitVec.toNat_sub, BitVec.toNat_add, BitVec.toNat_ofNat]
  omega

theorem winRow_le (r : ℕ) : winRow r ≤ 120 := min_le_left _ _
theorem winCol_le (c : ℕ) : winCol c ≤ 48 := min_le_left _ _
theorem row_near (r : ℕ) (h : r < 128) : r ≤ winRow r + 7 ∧ winRow r ≤ r := by unfold Cert.NA.winRow; omega
theorem col_near (c : ℕ) (h : c < 64) : c ≤ winCol c + 15 ∧ winCol c ≤ c := by unfold Cert.NA.winCol; omega

theorem row_start_num : ∀ r : Fin 128,
    IntOp.minsi 120#32 (IntOp.maxsi 0#32 (IntOp.subi (BitVec.ofNat 32 r.val) 4#32)) = BitVec.ofNat 32 (winRow r.val) := by
  decide +kernel

theorem col_start_num : ∀ c : Fin 64,
    IntOp.minsi 48#32 (IntOp.maxsi 0#32 (IntOp.subi (BitVec.ofNat 32 c.val) 8#32)) = BitVec.ofNat 32 (winCol c.val) := by
  decide +kernel

/-- The rows of a query row's window. -/
theorem row_idx (r : Fin 128) (a : Fin 8) :
    val_main_v9 (F := Ideal) (ix2 (n0 := 128) (n1 := 8) r a) = BitVec.ofNat 32 (winRow r.val + a.val) := by
  pointwise [val_main_v9, val_main_v8, val_main_v7, val_main_v6, val_main_v5, val_main_v4, val_main_v3, val_main_call0_v4,
    val_main_call0_v3, val_main_call0_v2, val_main_call0_v1, val_main_call0_v0, val_main_v2, val_main_v1, val_main_v0, val_main_c,
    val_main_c_0, val_main_c_1]
  refine (congrArg (fun z => IntOp.addi z (BitVec.ofNat 32 a.val)) (row_start_num r)).trans ?_
  exact (BitVec.ofNat_add _ _).symm

/-- The columns of a query column's window. -/
theorem col_idx (c : Fin 64) (a : Fin 16) :
    val_main_v19 (F := Ideal) (ix2 (n0 := 64) (n1 := 16) c a) = BitVec.ofNat 32 (winCol c.val + a.val) := by
  pointwise [val_main_v19, val_main_v18, val_main_v17, val_main_v16, val_main_v15, val_main_v14, val_main_v13, val_main_call1_v4,
    val_main_call1_v3, val_main_call1_v2, val_main_call1_v1, val_main_call1_v0, val_main_v12, val_main_v11, val_main_v10, val_main_c_2,
    val_main_c_3, val_main_c_4]
  refine (congrArg (fun z => IntOp.addi z (BitVec.ofNat 32 a.val)) (col_start_num c)).trans ?_
  exact (BitVec.ofNat_add _ _).symm

theorem nr_eq (r : Fin 128) (c : Fin 64) (n : Fin 128) :
    val_main_v22 (F := Ideal) (ix3 (n0 := 128) (n1 := 64) (n2 := 128) r c n) = BitVec.ofNat 32 (winRow r.val + n.val / 16) := by
  pointwise [val_main_v22, val_main_v21, val_main_v20]
  exact row_idx r ⟨n.val / 16, by omega⟩

theorem nc_eq (r : Fin 128) (c : Fin 64) (n : Fin 128) :
    val_main_v25 (F := Ideal) (ix3 (n0 := 128) (n1 := 64) (n2 := 128) r c n) = BitVec.ofNat 32 (winCol c.val + n.val % 16) := by
  pointwise [val_main_v25, val_main_v24, val_main_v23]
  exact col_idx c ⟨n.val % 16, by omega⟩

theorem v36_eq (r : Fin 128) (c : Fin 64) (n : Fin 128) :
    val_main_v36 (F := Ideal) (ix3 (n0 := 128) (n1 := 64) (n2 := 128) r c n) = BitVec.ofNat 32 (winRow r.val + n.val / 16) := by
  pointwise [val_main_v36, val_main_v35, val_main_v34, val_main_v33, val_main_v32, val_main_c_5, val_main_c_6]
  rw [nr_eq]
  exact wrap_small _ (by have := winRow_le r.val; omega) _

theorem v41_eq (r : Fin 128) (c : Fin 64) (n : Fin 128) :
    val_main_v41 (F := Ideal) (ix3 (n0 := 128) (n1 := 64) (n2 := 128) r c n) = BitVec.ofNat 32 (winCol c.val + n.val % 16) := by
  pointwise [val_main_v41, val_main_v40, val_main_v39, val_main_v38, val_main_v37, val_main_c_7, val_main_c_8]
  rw [nc_eq]
  exact wrap_small _ (by have := winCol_le c.val; omega) _

theorem v50_eq (r : Fin 128) (c : Fin 64) (n : Fin 128) :
    val_main_v50 (F := Ideal) (ix3 (n0 := 128) (n1 := 64) (n2 := 128) r c n) = BitVec.ofNat 32 (winRow r.val + n.val / 16) := by
  pointwise [val_main_v50, val_main_v49, val_main_v48, val_main_v47, val_main_v46, val_main_c_9, val_main_c_10]
  rw [nr_eq]
  exact wrap_small _ (by have := winRow_le r.val; omega) _

theorem v55_eq (r : Fin 128) (c : Fin 64) (n : Fin 128) :
    val_main_v55 (F := Ideal) (ix3 (n0 := 128) (n1 := 64) (n2 := 128) r c n) = BitVec.ofNat 32 (winCol c.val + n.val % 16) := by
  pointwise [val_main_v55, val_main_v54, val_main_v53, val_main_v52, val_main_v51, val_main_c_11, val_main_c_12]
  rw [nc_eq]
  exact wrap_small _ (by have := winCol_le c.val; omega) _

theorem v66_eq (r : Fin 128) (c : Fin 64) (n : Fin 128) :
    val_main_v66 (F := Ideal) (ix3 (n0 := 128) (n1 := 64) (n2 := 128) r c n) = BitVec.ofNat 32 (winRow r.val + n.val / 16 + 7 - r.val) := by
  pointwise [val_main_v66, val_main_v65, val_main_v64, val_main_v63, val_main_v62, val_main_v61, val_main_v60, val_main_v0, val_main_c_13,
    val_main_c_14]
  rw [nr_eq]
  have h1 := winRow_le r.val
  have h2 := row_near r.val r.isLt
  exact diff_small _ r.val 7 (by omega) (by omega) (by omega) (by omega)

theorem v73_eq (r : Fin 128) (c : Fin 64) (n : Fin 128) :
    val_main_v73 (F := Ideal) (ix3 (n0 := 128) (n1 := 64) (n2 := 128) r c n) = BitVec.ofNat 32 (winCol c.val + n.val % 16 + 15 - c.val) := by
  pointwise [val_main_v73, val_main_v72, val_main_v71, val_main_v70, val_main_v69, val_main_v68, val_main_v67, val_main_v10, val_main_c_15,
    val_main_c_16]
  rw [nc_eq]
  have h1 := winCol_le c.val
  have h2 := col_near c.val c.isLt
  exact diff_small _ c.val 15 (by omega) (by omega) (by omega) (by omega)

theorem v78_eq (r : Fin 128) (c : Fin 64) (n : Fin 128) :
    val_main_v78 (F := Ideal) (ix3 (n0 := 128) (n1 := 64) (n2 := 128) r c n) = BitVec.ofNat 32 (winRow r.val + n.val / 16 + 7 - r.val) := by
  pointwise [val_main_v78, val_main_v77, val_main_v76, val_main_v75, val_main_v74, val_main_c_17, val_main_c_18]
  rw [v66_eq]
  exact wrap_small _ (by have := winRow_le r.val; omega) _

theorem v83_eq (r : Fin 128) (c : Fin 64) (n : Fin 128) :
    val_main_v83 (F := Ideal) (ix3 (n0 := 128) (n1 := 64) (n2 := 128) r c n) = BitVec.ofNat 32 (winCol c.val + n.val % 16 + 15 - c.val) := by
  pointwise [val_main_v83, val_main_v82, val_main_v81, val_main_v80, val_main_v79, val_main_c_19, val_main_c_20]
  rw [v73_eq]
  exact wrap_small _ (by have := winCol_le c.val; omega) _

theorem v44_0 (r : Fin 128) (c : Fin 64) (n : Fin 128) :
    val_main_v44 (F := Ideal) (ix4 (n0 := 128) (n1 := 64) (n2 := 128) (n3 := 2) r c n 0) = BitVec.ofNat 32 (winRow r.val + n.val / 16) := by
  pointwise [val_main_v44, val_main_v42, val_main_v43]
  exact v36_eq r c n

theorem v44_1 (r : Fin 128) (c : Fin 64) (n : Fin 128) :
    val_main_v44 (F := Ideal) (ix4 (n0 := 128) (n1 := 64) (n2 := 128) (n3 := 2) r c n 1) = BitVec.ofNat 32 (winCol c.val + n.val % 16) := by
  pointwise [val_main_v44, val_main_v42, val_main_v43]
  exact v41_eq r c n

theorem v58_0 (r : Fin 128) (c : Fin 64) (n : Fin 128) :
    val_main_v58 (F := Ideal) (ix4 (n0 := 128) (n1 := 64) (n2 := 128) (n3 := 2) r c n 0) = BitVec.ofNat 32 (winRow r.val + n.val / 16) := by
  pointwise [val_main_v58, val_main_v56, val_main_v57]
  exact v50_eq r c n

theorem v58_1 (r : Fin 128) (c : Fin 64) (n : Fin 128) :
    val_main_v58 (F := Ideal) (ix4 (n0 := 128) (n1 := 64) (n2 := 128) (n3 := 2) r c n 1) = BitVec.ofNat 32 (winCol c.val + n.val % 16) := by
  pointwise [val_main_v58, val_main_v56, val_main_v57]
  exact v55_eq r c n

theorem v86_0 (r : Fin 128) (c : Fin 64) (n : Fin 128) :
    val_main_v86 (F := Ideal) (ix4 (n0 := 128) (n1 := 64) (n2 := 128) (n3 := 2) r c n 0) = BitVec.ofNat 32 (winRow r.val + n.val / 16 + 7 - r.val) := by
  pointwise [val_main_v86, val_main_v84, val_main_v85]
  exact v78_eq r c n

theorem v86_1 (r : Fin 128) (c : Fin 64) (n : Fin 128) :
    val_main_v86 (F := Ideal) (ix4 (n0 := 128) (n1 := 64) (n2 := 128) (n3 := 2) r c n 1) = BitVec.ofNat 32 (winCol c.val + n.val % 16 + 15 - c.val) := by
  pointwise [val_main_v86, val_main_v84, val_main_v85]
  exact v83_eq r c n

end Cert.ReferenceIdeal.NA
-- ==== Proof.NA.RefRead.lean ====
module

public import proofs.«01_k».proof.Proof.Gen.ReferenceIdeal.Read
public import proofs.«01_k».proof.Proof.NA.Spec
public import Idealize.ShloMosaic.Lib.Pointwise

@[expose] public section

set_option maxRecDepth 16384

noncomputable section

namespace Cert.ReferenceIdeal.NA

open Cert.ReferenceIdeal Cert.ReferenceIdeal.Gen Cert.ReferenceIdeal.Read
open Idealize.ShloMosaic Idealize.ShloMosaic.TcCoe
open Cert.NA (Tok Rel winRow winCol nbr hch relRow relCol attn na)

theorem neg_inf_eq : Ideal.ofBits FTy.f32 4286578688#32 = ⊥ := by
  simp [Ideal.ofBits, Ideal.ieee]

theorem reduce_max_apply (x : FVec Ideal S8x8x128x64x128 .f32) (b h : Fin 8) (r : Fin 128) (c : Fin 64) :
    Host.reduce FloatOps.maximumf x (constant (F := Ideal) S_ .f32 0xFF800000#32) reducesTo_S8x8x128x64x128_S8x8x128x64_d4 h_S_ (ix4 (n0 := 8) (n1 := 8) (n2 := 128) (n3 := 64) b h r c)
     = Finset.univ.fold max ⊥ (fun n => x (ix5 (n0 := 8) (n1 := 8) (n2 := 128) (n3 := 64) (n4 := 128) b h r c n)) := by
  pointwise []
  rw [neg_inf_eq]

local notation "GK" => gather_S8x128x64x8x64_S128x64x128x2_S8x128x64x128x8x64_045_12_n_n_12_3_811864
local notation "GR" => gather_S8x15x31_S128x64x128x2_S8x128x64x128_0_12_n_n_12_3_811

theorem gather_tok (x : FVec Ideal S8x128x64x8x64 .f32) (idx : IVec S128x64x128x2 32) (b : Fin 8) (r : Fin 128) (c : Fin 64) (n : Fin 128) (h : Fin 8) (e : Fin 64) :
    Host.gather GK x idx (ix6 (n0 := 8) (n1 := 128) (n2 := 64) (n3 := 128) (n4 := 8) (n5 := 64) b r c n h e)
      = x (ix5 (n0 := 8) (n1 := 128) (n2 := 64) (n3 := 8) (n4 := 64) b
          ⟨min (idx (ix4 (n0 := 128) (n1 := 64) (n2 := 128) (n3 := 2) r c n 0)).toInt.toNat 127, by omega⟩
          ⟨min (idx (ix4 (n0 := 128) (n1 := 64) (n2 := 128) (n3 := 2) r c n 1)).toInt.toNat 63, by omega⟩ h e) := by
  unfold Host.gather
  congr 1
  funext a
  refine Fin.ext ?_
  show GatherDims.start GK _ idx a + GatherDims.batchCoord GK _ a + GatherDims.offCoord GK _ a = _
  rw [GatherDims.batchCoord_eq_zero _ _ _ List.not_mem_nil]
  have hsi : ∀ k : Fin 2, GatherDims.siIdx GK (ix6 (n0 := 8) (n1 := 128) (n2 := 64) (n3 := 128) (n4 := 8) (n5 := 64) b r c n h e) k
      = ix4 (n0 := 128) (n1 := 64) (n2 := 128) (n3 := 2) r c n k := by
    intro k
    funext b
    match b with
    | ⟨0, _⟩ => rfl
    | ⟨1, _⟩ => rfl
    | ⟨2, _⟩ => rfl
    | ⟨3, _⟩ => rfl
  have s0 : ∀ j, GatherDims.start GK j idx 0 = 0 := fun j => by
    unfold GatherDims.start
    rw [dif_neg (show (0 : Fin 5) ∉ GatherDims.startIndexMap GK by decide)]
  have s3 : ∀ j, GatherDims.start GK j idx 3 = 0 := fun j => by
    unfold GatherDims.start
    rw [dif_neg (show (3 : Fin 5) ∉ GatherDims.startIndexMap GK by decide)]
  have s4 : ∀ j, GatherDims.start GK j idx 4 = 0 := fun j => by
    unfold GatherDims.start
    rw [dif_neg (show (4 : Fin 5) ∉ GatherDims.startIndexMap GK by decide)]
  have s1 : ∀ j, GatherDims.start GK j idx 1 = min (idx (GatherDims.siIdx GK j (0 : Fin 2))).toInt.toNat 127 := fun j => by
    unfold GatherDims.start
    rw [dif_pos (show (1 : Fin 5) ∈ GatherDims.startIndexMap GK by decide)]
    rfl
  have s2 : ∀ j, GatherDims.start GK j idx 2 = min (idx (GatherDims.siIdx GK j (1 : Fin 2))).toInt.toNat 63 := fun j => by
    unfold GatherDims.start
    rw [dif_pos (show (2 : Fin 5) ∈ GatherDims.startIndexMap GK by decide)]
    rfl
  have o1 : ∀ j, GatherDims.offCoord GK j 1 = 0 := fun j => GatherDims.offCoord_eq_zero _ _ _ (by decide)
  have o2 : ∀ j, GatherDims.offCoord GK j 2 = 0 := fun j => GatherDims.offCoord_eq_zero _ _ _ (by decide)
  match a with
  | ⟨0, _⟩ => exact (congrArg (fun z => z + 0 + b.val) (s0 _)).trans (by show 0 + 0 + b.val = b.val; omega)
  | ⟨1, _⟩ => exact (congrArg₂ (fun y z => y + 0 + z) (s1 _) (o1 _)).trans (congrArg (fun z => min (idx z).toInt.toNat 127) (hsi 0))
  | ⟨2, _⟩ => exact (congrArg₂ (fun y z => y + 0 + z) (s2 _) (o2 _)).trans (congrArg (fun z => min (idx z).toInt.toNat 63) (hsi 1))
  | ⟨3, _⟩ => exact (congrArg (fun z => z + 0 + h.val) (s3 _)).trans (by show 0 + 0 + h.val = h.val; omega)
  | ⟨4, _⟩ => exact (congrArg (fun z => z + 0 + e.val) (s4 _)).trans (by show 0 + 0 + e.val = e.val; omega)

theorem gather_rpb (x : FVec Ideal S8x15x31 .f32) (idx : IVec S128x64x128x2 32) (h : Fin 8) (r : Fin 128) (c : Fin 64) (n : Fin 128) :
    Host.gather GR x idx (ix4 (n0 := 8) (n1 := 128) (n2 := 64) (n3 := 128) h r c n)
      = x (ix3 (n0 := 8) (n1 := 15) (n2 := 31) h
          ⟨min (idx (ix4 (n0 := 128) (n1 := 64) (n2 := 128) (n3 := 2) r c n 0)).toInt.toNat 14, by omega⟩
          ⟨min (idx (ix4 (n0 := 128) (n1 := 64) (n2 := 128) (n3 := 2) r c n 1)).toInt.toNat 30, by omega⟩) := by
  unfold Host.gather
  congr 1
  funext a
  refine Fin.ext ?_
  show GatherDims.start GR _ idx a + GatherDims.batchCoord GR _ a + GatherDims.offCoord GR _ a = _
  rw [GatherDims.batchCoord_eq_zero _ _ _ List.not_mem_nil]
  have hsi : ∀ k : Fin 2, GatherDims.siIdx GR (ix4 (n0 := 8) (n1 := 128) (n2 := 64) (n3 := 128) h r c n) k
      = ix4 (n0 := 128) (n1 := 64) (n2 := 128) (n3 := 2) r c n k := by
    intro k
    funext b
    match b with
    | ⟨0, _⟩ => rfl
    | ⟨1, _⟩ => rfl
    | ⟨2, _⟩ => rfl
    | ⟨3, _⟩ => rfl
  have s0 : ∀ j, GatherDims.start GR j idx 0 = 0 := fun j => by
    unfold GatherDims.start
    rw [dif_neg (show (0 : Fin 3) ∉ GatherDims.startIndexMap GR by decide)]
  have s1 : ∀ j, GatherDims.start GR j idx 1 = min (idx (GatherDims.siIdx GR j (0 : Fin 2))).toInt.toNat 14 := fun j => by
    unfold GatherDims.start
    rw [dif_pos (show (1 : Fin 3) ∈ GatherDims.startIndexMap GR by decide)]
    rfl
  have s2 : ∀ j, GatherDims.start GR j idx 2 = min (idx (GatherDims.siIdx GR j (1 : Fin 2))).toInt.toNat 30 := fun j => by
    unfold GatherDims.start
    rw [dif_pos (show (2 : Fin 3) ∈ GatherDims.startIndexMap GR by decide)]
    rfl
  have o1 : ∀ j, GatherDims.offCoord GR j 1 = 0 := fun j => GatherDims.offCoord_eq_zero _ _ _ (by decide)
  have o2 : ∀ j, GatherDims.offCoord GR j 2 = 0 := fun j => GatherDims.offCoord_eq_zero _ _ _ (by decide)
  match a with
  | ⟨0, _⟩ => exact (congrArg (fun z => z + 0 + h.val) (s0 _)).trans (by show 0 + 0 + h.val = h.val; omega)
  | ⟨1, _⟩ => exact (congrArg₂ (fun y z => y + 0 + z) (s1 _) (o1 _)).trans (congrArg (fun z => min (idx z).toInt.toNat 14) (hsi 0))
  | ⟨2, _⟩ => exact (congrArg₂ (fun y z => y + 0 + z) (s2 _) (o2 _)).trans (congrArg (fun z => min (idx z).toInt.toNat 30) (hsi 1))

end Cert.ReferenceIdeal.NA
-- ==== Proof.NA.RefValue.lean ====
module

public import proofs.«01_k».proof.Proof.NA.RefIdx
public import proofs.«01_k».proof.Proof.NA.RefRead

@[expose] public section

set_option maxRecDepth 16384

noncomputable section

namespace Cert.ReferenceIdeal.NA

open Cert.ReferenceIdeal Cert.ReferenceIdeal.Gen Cert.ReferenceIdeal.Read
open Idealize.ShloMosaic Idealize.ShloMosaic.TcCoe
open Cert.NA (Tok Rel winRow winCol nbr hch relRow relCol attn na)

/-- The token at row `r` and column `c`. -/
def tk (r : Fin 128) (c : Fin 64) : Fin 8192 := ⟨64 * r.val + c.val, by omega⟩

variable (x0 x1 x2 : (⟨S8x8192x512, .bf16⟩ : BufTy).Contents (Elt Ideal)) (x3 : (⟨S8x15x31, .f32⟩ : BufTy).Contents (Elt Ideal))

/-- The reference reads its queries by row, column and head. -/
theorem q_eq (b : Fin 8) (r : Fin 128) (c : Fin 64) (h : Fin 8) (e : Fin 64) :
    val_main_v27 (F := Ideal) x0 (ix5 (n0 := 8) (n1 := 128) (n2 := 64) (n3 := 8) (n4 := 64) b r c h e)
      = x0 (ix3 (n0 := 8) (n1 := 8192) (n2 := 512) b (tk r c) (hch h e)) := by
  pointwise [val_main_v27, val_main_v26]
  refine congrArg₂ (fun y z => x0 (ix3 (n0 := 8) (n1 := 8192) (n2 := 512) b y z)) (Fin.ext ?_) (Fin.ext ?_)
  · show r.val * 64 + c.val = 64 * r.val + c.val
    omega
  · show h.val * 64 + e.val = 64 * h.val + e.val
    omega

/-- The keys it gathers are those of the neighbours. -/
theorem k_eq (b : Fin 8) (r : Fin 128) (c : Fin 64) (n : Fin 128) (h : Fin 8) (e : Fin 64) :
    val_main_v45 (F := Ideal) x1 (ix6 (n0 := 8) (n1 := 128) (n2 := 64) (n3 := 128) (n4 := 8) (n5 := 64) b r c n h e)
      = x1 (ix3 (n0 := 8) (n1 := 8192) (n2 := 512) b (nbr (tk r c) n) (hch h e)) := by
  refine (gather_tok _ _ b r c n h e).trans ?_
  pointwise [val_main_v29, val_main_v28]
  have h1 := winRow_le r.val
  have h2 := winCol_le c.val
  refine congrArg₂ (fun y z => x1 (ix3 (n0 := 8) (n1 := 8192) (n2 := 512) b y z)) (Fin.ext ?_) (Fin.ext ?_)
  · show min (BitVec.toInt (val_main_v44 (F := Ideal) (ix4 (n0 := 128) (n1 := 64) (n2 := 128) (n3 := 2) r c n 0))).toNat 127 * 64
        + min (BitVec.toInt (val_main_v44 (F := Ideal) (ix4 (n0 := 128) (n1 := 64) (n2 := 128) (n3 := 2) r c n 1))).toNat 63
      = 64 * (winRow ((64 * r.val + c.val) / 64) + n.val / 16) + (winCol ((64 * r.val + c.val) % 64) + n.val % 16)
    have e1 : (64 * r.val + c.val) / 64 = r.val := by omega
    have e2 : (64 * r.val + c.val) % 64 = c.val := by omega
    rw [v44_0, v44_1, toNat_small _ (by omega), toNat_small _ (by omega), e1, e2]
    omega
  · show h.val * 64 + e.val = 64 * h.val + e.val
    omega

/-- So are the values. -/
theorem v_eq (b : Fin 8) (r : Fin 128) (c : Fin 64) (n : Fin 128) (h : Fin 8) (e : Fin 64) :
    val_main_v59 (F := Ideal) x2 (ix6 (n0 := 8) (n1 := 128) (n2 := 64) (n3 := 128) (n4 := 8) (n5 := 64) b r c n h e)
      = x2 (ix3 (n0 := 8) (n1 := 8192) (n2 := 512) b (nbr (tk r c) n) (hch h e)) := by
  refine (gather_tok _ _ b r c n h e).trans ?_
  pointwise [val_main_v31, val_main_v30]
  have h1 := winRow_le r.val
  have h2 := winCol_le c.val
  refine congrArg₂ (fun y z => x2 (ix3 (n0 := 8) (n1 := 8192) (n2 := 512) b y z)) (Fin.ext ?_) (Fin.ext ?_)
  · show min (BitVec.toInt (val_main_v58 (F := Ideal) (ix4 (n0 := 128) (n1 := 64) (n2 := 128) (n3 := 2) r c n 0))).toNat 127 * 64
        + min (BitVec.toInt (val_main_v58 (F := Ideal) (ix4 (n0 := 128) (n1 := 64) (n2 := 128) (n3 := 2) r c n 1))).toNat 63
      = 64 * (winRow ((64 * r.val + c.val) / 64) + n.val / 16) + (winCol ((64 * r.val + c.val) % 64) + n.val % 16)
    have e1 : (64 * r.val + c.val) / 64 = r.val := by omega
    have e2 : (64 * r.val + c.val) % 64 = c.val := by omega
    rw [v58_0, v58_1, toNat_small _ (by omega), toNat_small _ (by omega), e1, e2]
    omega
  · show h.val * 64 + e.val = 64 * h.val + e.val
    omega

/-- The bias it gathers is the one at the differences of the positions. -/
theorem bias_eq (h : Fin 8) (r : Fin 128) (c : Fin 64) (n : Fin 128) :
    val_main_v87 (F := Ideal) x3 (ix4 (n0 := 8) (n1 := 128) (n2 := 64) (n3 := 128) h r c n)
      = x3 (ix3 (n0 := 8) (n1 := 15) (n2 := 31) h (relRow (tk r c) n) (relCol (tk r c) n)) := by
  refine (gather_rpb _ _ h r c n).trans ?_
  have h1 : min (val_main_v86 (F := Ideal) (ix4 (n0 := 128) (n1 := 64) (n2 := 128) (n3 := 2) r c n 0)).toInt.toNat 14 = (relRow (tk r c) n).val := by
    have := winRow_le r.val
    have := row_near r.val r.isLt
    have e : (64 * r.val + c.val) / 64 = r.val := by omega
    rw [v86_0, toNat_small _ (by omega)]
    show _ = winRow ((64 * r.val + c.val) / 64) + n.val / 16 + 7 - (64 * r.val + c.val) / 64
    rw [e]
    omega
  have h2 : min (val_main_v86 (F := Ideal) (ix4 (n0 := 128) (n1 := 64) (n2 := 128) (n3 := 2) r c n 1)).toInt.toNat 30 = (relCol (tk r c) n).val := by
    have := winCol_le c.val
    have := col_near c.val c.isLt
    have e : (64 * r.val + c.val) % 64 = c.val := by omega
    rw [v86_1, toNat_small _ (by omega)]
    show _ = winCol ((64 * r.val + c.val) % 64) + n.val % 16 + 15 - (64 * r.val + c.val) % 64
    rw [e]
    omega
  exact congrArg₂ (fun y z => x3 (ix3 (n0 := 8) (n1 := 15) (n2 := 31) h y z)) (Fin.ext h1) (Fin.ext h2)

theorem max_start (y : FVec Ideal S8x8x128x64 .f32) (b h : Fin 8) (r : Fin 128) (c : Fin 64) :
    maximumf (val_main_v93 (F := Ideal)) y (ix4 (n0 := 8) (n1 := 8) (n2 := 128) (n3 := 64) b h r c)
      = y (ix4 (n0 := 8) (n1 := 8) (n2 := 128) (n3 := 64) b h r c) := by
  pointwise [val_main_v93, val_main_cst_21]
  rw [neg_inf_eq]
  exact max_eq_right bot_le

theorem max_fold (y : FVec Ideal S8x8x128x64x128 .f32) (b h : Fin 8) (r : Fin 128) (c : Fin 64) :
    Host.reduce FloatOps.maximumf y (val_main_cst (F := Ideal)) reducesTo_S8x8x128x64x128_S8x8x128x64_d4 h_S_
        (ix4 (n0 := 8) (n1 := 8) (n2 := 128) (n3 := 64) b h r c)
      = Finset.univ.fold max ⊥ (fun n : Fin 128 => y (ix5 (n0 := 8) (n1 := 8) (n2 := 128) (n3 := 64) (n4 := 128) b h r c n)) := by
  unfold val_main_cst
  exact reduce_max_apply y b h r c

/-- The greatest score. -/
theorem max_eq (b h : Fin 8) (r : Fin 128) (c : Fin 64) :
    val_main_v94 (F := Ideal) x0 x1 x3 (ix4 (n0 := 8) (n1 := 8) (n2 := 128) (n3 := 64) b h r c)
      = Finset.univ.fold max ⊥ (fun n : Fin 128 => val_main_v91 (F := Ideal) x0 x1 x3 (ix5 (n0 := 8) (n1 := 8) (n2 := 128) (n3 := 64) (n4 := 128) b h r c n)) := by
  unfold val_main_v94
  refine (max_start _ b h r c).trans ?_
  unfold val_main_v92
  exact max_fold _ b h r c

/-- The scores. -/
theorem score_eq (b h : Fin 8) (r : Fin 128) (c : Fin 64) (n : Fin 128) :
    val_main_v91 (F := Ideal) x0 x1 x3 (ix5 (n0 := 8) (n1 := 8) (n2 := 128) (n3 := 64) (n4 := 128) b h r c n) = Cert.NA.score x0 x1 x3 b (tk r c) h n := by
  pointwise [val_main_v91, val_main_v90, val_main_v89, val_main_v88]
  rw [bias_eq]
  refine congrArg (fun z : EReal => z + x3 (ix3 (n0 := 8) (n1 := 15) (n2 := 31) h (relRow (tk r c) n) (relCol (tk r c) n))) ?_
  refine Finset.sum_congr rfl fun e _ => ?_
  rw [q_eq, k_eq]

/-- The exponentials. -/
theorem exp_eq (b h : Fin 8) (r : Fin 128) (c : Fin 64) (n : Fin 128) :
    val_main_v98 (F := Ideal) x0 x1 x3 (ix5 (n0 := 8) (n1 := 8) (n2 := 128) (n3 := 64) (n4 := 128) b h r c n)
      = Ideal.exp (Cert.NA.score x0 x1 x3 b (tk r c) h n - Finset.univ.fold max ⊥ (Cert.NA.score x0 x1 x3 b (tk r c) h)) := by
  pointwise [val_main_v98, val_main_v97, val_main_v96, val_main_v95]
  rw [max_eq, funext (score_eq x0 x1 x3 b h r c), score_eq]

theorem sum_eq (b h : Fin 8) (r : Fin 128) (c : Fin 64) :
    val_main_v99 (F := Ideal) x0 x1 x3 (ix4 (n0 := 8) (n1 := 8) (n2 := 128) (n3 := 64) b h r c)
      = ∑ i, Ideal.exp (Cert.NA.score x0 x1 x3 b (tk r c) h i - Finset.univ.fold max ⊥ (Cert.NA.score x0 x1 x3 b (tk r c) h)) := by
  pointwise [val_main_v99, val_main_cst_22]
  exact Finset.sum_congr rfl fun i _ => exp_eq x0 x1 x3 b h r c i

/-- The weights. -/
theorem div_eq (b h : Fin 8) (r : Fin 128) (c : Fin 64) (n : Fin 128) :
    val_main_v102 (F := Ideal) x0 x1 x3 (ix5 (n0 := 8) (n1 := 8) (n2 := 128) (n3 := 64) (n4 := 128) b h r c n)
      = Ideal.div (Ideal.exp (Cert.NA.score x0 x1 x3 b (tk r c) h n - Finset.univ.fold max ⊥ (Cert.NA.score x0 x1 x3 b (tk r c) h)))
          (∑ i, Ideal.exp (Cert.NA.score x0 x1 x3 b (tk r c) h i - Finset.univ.fold max ⊥ (Cert.NA.score x0 x1 x3 b (tk r c) h))) := by
  pointwise [val_main_v102, val_main_v101, val_main_v100]
  rw [exp_eq, sum_eq]

/-- The reference's result is the neighbourhood attention. -/
theorem out_eq (b : Fin 8) (s : Fin 8192) (ch : Fin 512) :
    val_main_v105 (F := Ideal) x0 x1 x2 x3 (ix3 (n0 := 8) (n1 := 8192) (n2 := 512) b s ch)
      = na x0 x1 x2 x3 b s ⟨ch.val / 64, by omega⟩ ⟨ch.val % 64, by omega⟩ := by
  pointwise [val_main_v105, val_main_v104, val_main_v103]
  have hs : tk ⟨s.val / 64, by omega⟩ ⟨s.val % 64, by omega⟩ = s := Fin.ext (by show 64 * (s.val / 64) + s.val % 64 = s.val; omega)
  unfold na attn
  refine Finset.sum_congr rfl fun n _ => ?_
  rw [div_eq, v_eq, hs]

end Cert.ReferenceIdeal.NA
-- ==== Proof.NA.Algebraic.lean ====
module

public import proofs.«01_k».proof.Defs
public import proofs.«01_k».proof.Proof.NA.Finite
public import proofs.«01_k».proof.Proof.NA.Value
public import proofs.«01_k».proof.Proof.NA.RefValue

@[expose] public section

set_option maxRecDepth 16384

noncomputable section

namespace Cert.Proof

open Idealize.ShloMosaic Idealize.ShloMosaic.TcCoe Idealize.SL.Sem
open Cert.NA (na)

/-- Neighbourhood attention as a whole array: image, token, channel. -/
def naArr (q k v : Cert.NA.Tok) (r : Cert.NA.Rel) : Cert.NA.Tok := fun y =>
  na q k v r (y 0) (y 1) ⟨(y 2).val / 64, by have h : (y 2).val < 512 := (y 2).isLt; omega⟩ ⟨(y 2).val % 64, by omega⟩

/-- The reference's result is that array. -/
theorem reference_value (x0 x1 x2 : (⟨Cert.ReferenceIdeal.S8x8192x512, .bf16⟩ : BufTy).Contents (Elt Ideal))
    (x3 : (⟨Cert.ReferenceIdeal.S8x15x31, .f32⟩ : BufTy).Contents (Elt Ideal)) :
    Cert.ReferenceIdeal.Read.val_main_v105 (F := Ideal) x0 x1 x2 x3 = naArr x0 x1 x2 x3 := by
  funext y
  have hy : y = ix3 (n0 := 8) (n1 := 8192) (n2 := 512) (y 0) (y 1) (y 2) := by
    funext a
    match a with
    | ⟨0, _⟩ => rfl
    | ⟨1, _⟩ => rfl
    | ⟨2, _⟩ => rfl
  rw [hy]
  exact Cert.ReferenceIdeal.NA.out_eq x0 x1 x2 x3 (y 0) (y 1) (y 2)

/-- On finite queries, keys and bias the idealized kernel and the reference end with the same result. -/
theorem algebraic [hPre : Cert.Pre_finite.Facts] :
    Cert.algebraic_KernelIdeal_ReferenceIdeal_pre_finite (hKernelIdeal := Cert.KernelIdeal.Gen.facts) (hReferenceIdeal := Cert.ReferenceIdeal.Gen.facts)
      (hPre_finite := hPre) := fun m g m' g' hpre hargs => by
  refine ⟨fun c => naArr (Cert.KernelIdeal.NA.argQ m c) (Cert.KernelIdeal.NA.argK m c) (Cert.KernelIdeal.NA.argV m c) (Cert.KernelIdeal.NA.argR m c), ?_, ?_⟩
  · refine (θ_run Cert.KernelIdeal.defs _ _).mono (fun r h c => ⟨(h.1 c).1.trans ?_, (h.1 c).2⟩) (Cert.KernelIdeal.NA.run (F := Ideal) m g)
    obtain ⟨hq, hk, hr⟩ := finite_args _ _ _ _ (hpre c)
    exact Cert.KernelIdeal.NA.result_value m c fun b s h n => Cert.NA.score_finite _ _ _ hq hk hr b s h n
  · refine (θ_run Cert.ReferenceIdeal.defs _ _).mono (fun r h c => ⟨(h c).1.trans ?_, (h c).2⟩) (Cert.ReferenceIdeal.Value.run (F := Ideal) m' g')
    obtain ⟨e0, e1, e2, e3⟩ := hargs c
    refine (Cert.ReferenceIdeal.Read.val_main_v105_eq (F := Ideal) m' c).trans ?_
    rw [e0, e1, e2, e3]
    exact reference_value _ _ _ _

end Cert.Proof

end
-- ==== Proof.PJ.Spec.lean ====
module

public import Idealize.ShloMosaic.Lib.Pointwise.Index
public import Idealize.ShloMosaic.PureOps.Ideal

@[expose] public section

noncomputable section

namespace Cert.PJ

open Idealize.ShloMosaic

/-- The layer's input: image, token, feature. -/
abbrev Inp := (⟨3, ![8, 8192, 1024]⟩ : Shape).Idx → EReal
/-- The weight of the input's norm. -/
abbrev Row := (⟨1, ![1024]⟩ : Shape).Idx → EReal
/-- The projection: feature, channel. -/
abbrev Wgt := (⟨2, ![1024, 2944]⟩ : Shape).Idx → EReal
/-- The weight of a head's norm. -/
abbrev Hd := (⟨1, ![64]⟩ : Shape).Idx → EReal

/-- What a root-mean-square norm scales by, from the sum of squares and the number of squares. -/
def rms (s n : EReal) : EReal := Ideal.rsqrt (Ideal.div s n + Ideal.ofBits .f32 0x358637BD#32)

/-- The normed input. -/
def hid (x : Inp) (nw : Row) (b : Fin 8) (s : Fin 8192) (j : Fin 1024) : EReal :=
  x (ix3 (n0 := 8) (n1 := 8192) (n2 := 1024) b s j)
    * rms (∑ i : Fin 1024, x (ix3 (n0 := 8) (n1 := 8192) (n2 := 1024) b s i) * x (ix3 (n0 := 8) (n1 := 8192) (n2 := 1024) b s i)) (Ideal.ofBits .f32 0x44800000#32)
    * nw (ix1 (n0 := 1024) j)

/-- The projected input. -/
def proj (x : Inp) (nw : Row) (w : Wgt) (b : Fin 8) (s : Fin 8192) (c : Fin 2944) : EReal :=
  ∑ j : Fin 1024, hid x nw b s j * w (ix2 (n0 := 1024) (n1 := 2944) j c)

/-- The norm of a head's 64 channels. -/
def headNorm (t : Fin 64 → EReal) (g : Hd) (e : Fin 64) : EReal :=
  t e * rms (∑ i : Fin 64, t i * t i) (Ideal.ofBits .f32 0x42800000#32) * g (ix1 (n0 := 64) e)

/-- Channel `i` of the head that channel `c` belongs to. -/
def sib {N : ℕ} (hN : N % 64 = 0) (c : Fin N) (i : Fin 64) : Fin N := ⟨64 * (c.val / 64) + i.val, by omega⟩

/-- The image of a flattened token. -/
def tb (n : Fin 65536) : Fin 8 := ⟨n.val / 8192, by omega⟩
/-- The place in its image of a flattened token. -/
def ts (n : Fin 65536) : Fin 8192 := ⟨n.val % 8192, by omega⟩

/-- Channel `c` of the run of projected channels that starts at `o`. -/
def run {N : ℕ} (x : Inp) (nw : Row) (w : Wgt) (o : ℕ) (ho : o + N ≤ 2944) (n : Fin 65536) (c : Fin N) : EReal :=
  proj x nw w (tb n) (ts n) ⟨o + c.val, by omega⟩

/-- Channel `c` of such a run, its heads normed. -/
def normed {N : ℕ} (hN : N % 64 = 0) (x : Inp) (nw : Row) (w : Wgt) (g : Hd) (o : ℕ) (ho : o + N ≤ 2944) (n : Fin 65536) (c : Fin N) : EReal :=
  headNorm (fun e => run x nw w o ho n (sib hN c e)) g ⟨c.val % 64, by omega⟩

/-- The scale of the queries, an eighth. -/
def eighth : EReal := Ideal.ofBits .f32 0x3E000000#32

/-- A sum over all channels under the 0/1 matrix of "same head" is the sum over the head's channels. -/
theorem sum_head {N : ℕ} (hN : N % 64 = 0) (f : Fin N → EReal) (c : Fin N) :
    ∑ x : Fin N, f x * (if x.val / 64 = c.val / 64 then 1 else 0) = ∑ i : Fin 64, f (sib hN c i) := by
  refine (Fintype.sum_of_injective (sib hN c) (fun a b h => ?_) _ _ (fun x hx => ?_) fun i => ?_).symm
  · have h' : 64 * (c.val / 64) + a.val = 64 * (c.val / 64) + b.val := congrArg Fin.val h
    exact Fin.ext (by omega)
  · have hne : ¬ x.val / 64 = c.val / 64 := fun h => hx ⟨⟨x.val % 64, by omega⟩, Fin.ext (by show 64 * (c.val / 64) + x.val % 64 = x.val; omega)⟩
    show f x * (if x.val / 64 = c.val / 64 then 1 else 0) = 0
    rw [if_neg hne, mul_zero]
  · have he : (sib hN c i).val / 64 = c.val / 64 := by show (64 * (c.val / 64) + i.val) / 64 = c.val / 64; omega
    show f (sib hN c i) = f (sib hN c i) * (if (sib hN c i).val / 64 = c.val / 64 then 1 else 0)
    rw [if_pos he, mul_one]

/-- Scaling by 1/64 is dividing by 64. -/
theorem mul_inv64 (s : EReal) : s * Ideal.ofBits .f32 0x3C800000#32 = Ideal.div s (Ideal.ofBits .f32 0x42800000#32) := by
  have h1 : Ideal.ofBits .f32 0x3C800000#32 = (((64 : ℝ)⁻¹ : ℝ) : EReal) := by
    simp [Ideal.ofBits, Ideal.ieee]
    refine (EReal.coe_mul _ _).symm.trans (congrArg Real.toEReal ?_)
    norm_num
  have h2 : Ideal.ofBits .f32 0x42800000#32 = ((64 : ℝ) : EReal) := by
    simp [Ideal.ofBits, Ideal.ieee]
    refine (EReal.coe_mul _ _).symm.trans (congrArg Real.toEReal ?_)
    norm_num
  rw [h1, h2]
  unfold Ideal.div
  rw [if_neg (by norm_num), EReal.coe_inv]

end Cert.PJ

end
-- ==== Proof.PJ.Pay.lean ====
module

public import proofs.«01_k».proof.Proof.Gen.Kernel2Ideal.Skeleton
public import proofs.«01_k».proof.Proof.PJ.Spec
public import Idealize.ShloMosaic.Lib.Pointwise

@[expose] public section

set_option maxRecDepth 16384

noncomputable section

namespace Cert.Kernel2Ideal.PJ

open Cert.Kernel2Ideal.Gen Cert.PJ
open Idealize.ShloMosaic Idealize.ShloMosaic.TcCoe

theorem pay2_apply (x : Vec Ideal S512x1024 .f32) (nw : Vec Ideal S1x1024 .f32) (r : Fin 512) (j : Fin 1024) :
    k0_pay2 (F := Ideal) x nw (ix2 (n0 := 512) (n1 := 1024) r j)
      = x (ix2 (n0 := 512) (n1 := 1024) r j) * rms (∑ i : Fin 1024, x (ix2 (n0 := 512) (n1 := 1024) r i) * x (ix2 (n0 := 512) (n1 := 1024) r i)) (Ideal.ofBits .f32 0x44800000#32)
        * nw (ix2 (n0 := 1) (n1 := 1024) 0 j) := by
  pointwise [k0_pay2]
  rfl

/-- The head of a channel, as the kernel computes it: the quotient rounded to minus infinity. -/
def headOf (i : BitVec 32) : BitVec 32 :=
  Scalar.select
    (IntOp.andi
      (IntOp.cmpi CmpIPredicate.ne
        (IntOp.subi (BitVec.setWidth 32 (IntOp.cmpi CmpIPredicate.sgt i 0#32)) (BitVec.setWidth 32 (IntOp.cmpi CmpIPredicate.slt i 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector i 64#32) 0#32))
    (IntOp.subi (IntOp.divsi ArithUnit.vector i 64#32) 1#32)
    (IntOp.divsi ArithUnit.vector i 64#32)

theorem headOf_eq : ∀ i : Fin 512, headOf (BitVec.ofNat 32 i.val) = BitVec.ofNat 32 (i.val / 64) := by
  decide +kernel

/-- The 0/1 entry of "same head". -/
theorem same_head (i c : Fin 512) :
    FloatOps.sitofp (F := Ideal) FTy.f32 (BitVec.setWidth 32 (IntOp.cmpi CmpIPredicate.eq (headOf (BitVec.ofNat 32 i.val)) (headOf (BitVec.ofNat 32 c.val))))
      = if i.val / 64 = c.val / 64 then 1 else 0 := by
  rw [headOf_eq, headOf_eq]
  by_cases h : i.val / 64 = c.val / 64
  · rw [if_pos h, h]
    show (((BitVec.setWidth 32 (BitVec.ofBool (BitVec.ofNat 32 (c.val / 64) == BitVec.ofNat 32 (c.val / 64)))).toInt : ℝ) : EReal) = 1
    rw [beq_self_eq_true]
    simp
  · have hb : (BitVec.ofNat 32 (i.val / 64) == BitVec.ofNat 32 (c.val / 64)) = false := by
      refine beq_eq_false_iff_ne.mpr fun e => h ?_
      have e' := congrArg BitVec.toNat e
      rw [BitVec.toNat_ofNat, BitVec.toNat_ofNat] at e'
      omega
    rw [if_neg h]
    show (((BitVec.setWidth 32 (BitVec.ofBool (BitVec.ofNat 32 (i.val / 64) == BitVec.ofNat 32 (c.val / 64)))).toInt : ℝ) : EReal) = 0
    rw [hb]
    simp

theorem pay5_apply (i c : Fin 512) :
    k0_pay5 (F := Ideal) k0_pay3 (iota .tc S512x512 32 [1] iota_S512x512_d1_w32) 64#32 k0_pay4 (ix2 (n0 := 512) (n1 := 512) i c) = if i.val / 64 = c.val / 64 then 1 else 0 := by
  pointwise [k0_pay5, k0_pay4, k0_pay3]
  exact same_head i c

theorem pay9_apply (h : FVec Ideal S512x1024 .bf16) (w : Vec Ideal S1024x512 .bf16) (r c : Fin 512) :
    k0_pay9 (F := Ideal) h w (ix2 (n0 := 512) (n1 := 512) r c) = ∑ j : Fin 1024, h (ix2 (n0 := 512) (n1 := 1024) r j) * w (ix2 (n0 := 1024) (n1 := 512) j c) := by
  pointwise [k0_pay9]

theorem pay10_apply (h : FVec Ideal S512x1024 .bf16) (w : Vec Ideal S1024x1152 .bf16) (r : Fin 512) (c : Fin 1152) :
    k0_pay10 (F := Ideal) h w (ix2 (n0 := 512) (n1 := 1152) r c) = ∑ j : Fin 1024, h (ix2 (n0 := 512) (n1 := 1024) r j) * w (ix2 (n0 := 1024) (n1 := 1152) j c) := by
  pointwise [k0_pay10]

/-- The head norm as the kernel computes it: the sum of squares over the head by the 0/1 matrix of "same head". -/
theorem head_norm {N : ℕ} (hN : N % 64 = 0) (P : Fin N → EReal) (m : Fin N → EReal) (c : Fin N) (hm : ∀ x, m x = if x.val / 64 = c.val / 64 then 1 else 0) :
    P c * Ideal.rsqrt ((∑ x : Fin N, P x * P x * m x) * Ideal.ofBits .f32 0x3C800000#32 + Ideal.ofBits .f32 0x358637BD#32)
      = P c * rms (∑ i : Fin 64, P (sib hN c i) * P (sib hN c i)) (Ideal.ofBits .f32 0x42800000#32) := by
  have h : ∑ x : Fin N, P x * P x * m x = ∑ i : Fin 64, P (sib hN c i) * P (sib hN c i) :=
    (Finset.sum_congr rfl fun x _ => by rw [hm x]).trans (sum_head hN (fun x => P x * P x) c)
  rw [h, mul_inv64]
  rfl

/-- A row of the normed input against the channels of a weight block. -/
def rowDot {N : ℕ} (h : FVec Ideal S512x1024 .bf16) (w : (⟨2, ![1024, N]⟩ : Shape).Idx → EReal) (r : Fin 512) (c : Fin N) : EReal :=
  ∑ j : Fin 1024, h (ix2 (n0 := 512) (n1 := 1024) r j) * w (ix2 (n0 := 1024) (n1 := N) j c)

theorem pay8_apply (h : FVec Ideal S512x1024 .bf16) (w : Vec Ideal S1024x512 .bf16) (g : Vec Ideal S1x512 .f32) (r c : Fin 512) :
    k0_pay8 (F := Ideal) h (k0_pay5 (F := Ideal) k0_pay3 (iota .tc S512x512 32 [1] iota_S512x512_d1_w32) 64#32 k0_pay4) w g (ix2 (n0 := 512) (n1 := 512) r c)
      = rowDot h w r c * rms (∑ i : Fin 64, rowDot h w r (sib rfl c i) * rowDot h w r (sib rfl c i)) (Ideal.ofBits .f32 0x42800000#32)
        * g (ix2 (n0 := 1) (n1 := 512) 0 c) := by
  refine Eq.trans ?_ (congrArg (fun z => z * g (ix2 (n0 := 1) (n1 := 512) 0 c)) (head_norm rfl (rowDot h w r) _ c fun x => pay5_apply x c))
  pointwise [k0_pay8]
  rfl

theorem pay6_apply (h : FVec Ideal S512x1024 .bf16) (w : Vec Ideal S1024x512 .bf16) (g : Vec Ideal S1x512 .f32) (r c : Fin 512) :
    k0_pay7 (F := Ideal) (k0_pay6 (F := Ideal) h k0_pay3 (iota .tc S512x512 32 [1] iota_S512x512_d1_w32) 64#32 k0_pay4 w g) (ix2 (n0 := 512) (n1 := 512) r c)
      = rowDot h w r c * rms (∑ i : Fin 64, rowDot h w r (sib rfl c i) * rowDot h w r (sib rfl c i)) (Ideal.ofBits .f32 0x42800000#32)
        * g (ix2 (n0 := 1) (n1 := 512) 0 c) * Ideal.ofBits .f32 0x3E000000#32 := by
  refine Eq.trans ?_ (congrArg (fun z => z * g (ix2 (n0 := 1) (n1 := 512) 0 c) * Ideal.ofBits .f32 0x3E000000#32) (head_norm rfl (rowDot h w r) _ c fun x => pay5_apply x c))
  pointwise [k0_pay7, k0_pay6]
  rfl

theorem pay1_apply (h : FVec Ideal S512x1024 .bf16) (w : Vec Ideal S1024x256 .bf16) (g : Vec Ideal S1x256 .f32) (r : Fin 512) (c : Fin 256) :
    k0_pay1 (F := Ideal) (k0_pay12 h (k0_pay11 w) (constant S512x256 .f32 0x00000000#32)) (k0_pay13 g) k0_pay14 (iota .tc S256x256 32 [1] iota_S256x256_d1_w32) k0_pay15 k0_pay16 k0_pay17
        (ix2 (n0 := 512) (n1 := 256) r c)
      = rowDot h w r c * rms (∑ i : Fin 64, rowDot h w r (sib rfl c i) * rowDot h w r (sib rfl c i)) (Ideal.ofBits .f32 0x42800000#32)
        * g (ix2 (n0 := 1) (n1 := 256) 0 c) * Ideal.ofBits .f32 0x3E000000#32 := by
  refine Eq.trans ?_ (congrArg (fun z => z * g (ix2 (n0 := 1) (n1 := 256) 0 c) * Ideal.ofBits .f32 0x3E000000#32)
    (head_norm rfl (rowDot h w r) _ c fun x => same_head ⟨x.val, by omega⟩ ⟨c.val, by omega⟩))
  pointwise [k0_pay1, k0_pay11, k0_pay12, k0_pay13, k0_pay14, k0_pay15, k0_pay16, k0_pay17]
  rfl

end Cert.Kernel2Ideal.PJ

end
-- ==== Proof.PJ.Blocks.lean ====
module

public import proofs.«01_k».proof.Proof.Gen.Kernel2Ideal.Value
public import proofs.«01_k».proof.Proof.PJ.Pay
public import Idealize.ShloMosaic.Lib.Pipeline.ValueKit

@[expose] public section

set_option maxRecDepth 16384

noncomputable section

namespace Cert.Kernel2Ideal.PJ

open Cert.Kernel2Ideal.Gen Cert.PJ
open Idealize.ShloMosaic Idealize.ShloMosaic.TcCoe
open Idealize.SL Idealize.SL.Sem

/-- The block of 512 tokens of a grid point. -/
abbrev gt (t : Fin cfg0.N) : Fin 128 := grid0.coords t 0

theorem e0 : ∀ t : Fin cfg0.N, win0_0.index t = ![(gt t).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![(gt t).val, 0] := (by decide +kernel : ∀ t : Fin grid0.N, _)
theorem e7 : ∀ t : Fin cfg0.N, win0_7.index t = ![(gt t).val, 0] := (by decide +kernel : ∀ t : Fin grid0.N, _)
theorem e8 : ∀ t : Fin cfg0.N, win0_8.index t = ![(gt t).val, 0] := (by decide +kernel : ∀ t : Fin grid0.N, _)
theorem e9 : ∀ t : Fin cfg0.N, win0_9.index t = ![(gt t).val, 0] := (by decide +kernel : ∀ t : Fin grid0.N, _)
theorem e10 : ∀ t : Fin cfg0.N, win0_10.index t = ![(gt t).val, 0] := (by decide +kernel : ∀ t : Fin grid0.N, _)

/-- Token `r` of a grid point's block. -/
def tok (t : Fin cfg0.N) (r : Fin 512) : Fin 65536 := ⟨512 * (gt t).val + r.val, by have h : (gt t).val < 128 := (gt t).isLt; omega⟩

variable (m : (ℓ : Loc nD τ sig) → Buf (Elt Ideal) ℓ)

theorem iblk0_apply (c : Dev nD) (t : Fin cfg0.N) (r : Fin 512) (j : Fin 1024) :
    iblk m c 0 t (ix2 (n0 := 512) (n1 := 1024) r j) = V m c main_v0 (ix2 (n0 := 65536) (n1 := 1024) (tok t r) j) := by
  unfold tok
  blk_simp [iblk]
  congr 1
  blk_ext [e0]

theorem iblk1_eq (c : Dev nD) (t : Fin cfg0.N) (y) : iblk m c 1 t y = V m c main_v1 y := by
  blk_simp [iblk]
  congr 1
  blk_ext [e1]

theorem iblk2_eq (c : Dev nD) (t : Fin cfg0.N) (y) : iblk m c 2 t y = V m c main_v2 y := by
  blk_simp [iblk]
  congr 1
  blk_ext [e2]

theorem iblk3_eq (c : Dev nD) (t : Fin cfg0.N) (y) : iblk m c 3 t y = V m c main_v6 y := by
  blk_simp [iblk]
  congr 1
  blk_ext [e3]

theorem iblk4_eq (c : Dev nD) (t : Fin cfg0.N) (y) : iblk m c 4 t y = V m c main_v10 y := by
  blk_simp [iblk]
  congr 1
  blk_ext [e4]

theorem iblk5_eq (c : Dev nD) (t : Fin cfg0.N) (y) : iblk m c 5 t y = V m c main_v14 y := by
  blk_simp [iblk]
  congr 1
  blk_ext [e5]

/-- The layer's input a device is handed. -/
abbrev argX (c : Dev nD) : Inp := m ((c : Thread nD τ).loc main_arg0)
/-- The weight of the input's norm. -/
abbrev argN (c : Dev nD) : Row := m ((c : Thread nD τ).loc main_arg1)
/-- The projection. -/
abbrev argW (c : Dev nD) : Wgt := m ((c : Thread nD τ).loc main_arg2)
/-- The weight of the queries' norm. -/
abbrev argQ (c : Dev nD) : Hd := m ((c : Thread nD τ).loc main_arg3)
/-- The weight of the keys' norm. -/
abbrev argK (c : Dev nD) : Hd := m ((c : Thread nD τ).loc main_arg4)
/-- The weight of the memory queries' norm. -/
abbrev argM (c : Dev nD) : Hd := m ((c : Thread nD τ).loc main_arg5)

theorem V_v0 (c : Dev nD) : V m c main_v0 = shapeCast S65536x1024 (argX m c) shapeCasts_S8x8192x1024_S65536x1024 := by
  unfold V
  after_results_simp
  rfl

theorem V_v1 (c : Dev nD) : V m c main_v1 = shapeCast S1x1024 (argN m c) shapeCasts_S1024_S1x1024 := by
  unfold V
  after_results_simp
  rfl

theorem V_v2 (c : Dev nD) : V m c main_v2 = argW m c := by
  unfold V
  after_results_simp
  rfl

/-- A head's weight, once for each of eight heads. -/
def tile8 (g : Hd) : Vec Ideal S1x512 .f32 :=
  shapeCast S1x512 (shapeCast S512 (broadcastInDim S8x64 ![0, 1] bcast_S1x64_S8x64_0_1 (shapeCast S1x64 (show Vec Ideal S64 .f32 from g) shapeCasts_S64_S1x64)) shapeCasts_S8x64_S512) shapeCasts_S512_S1x512

/-- A head's weight, once for each of four heads. -/
def tile4 (g : Hd) : Vec Ideal S1x256 .f32 :=
  shapeCast S1x256 (shapeCast S256 (broadcastInDim S4x64 ![0, 1] bcast_S1x64_S4x64_0_1 (shapeCast S1x64 (show Vec Ideal S64 .f32 from g) shapeCasts_S64_S1x64)) shapeCasts_S4x64_S256) shapeCasts_S256_S1x256

theorem V_v6 (c : Dev nD) : V m c main_v6 = tile8 (argQ m c) := by
  unfold V
  after_results_simp
  rfl

theorem V_v10 (c : Dev nD) : V m c main_v10 = tile8 (argK m c) := by
  unfold V
  after_results_simp
  rfl

theorem V_v14 (c : Dev nD) : V m c main_v14 = tile4 (argM m c) := by
  unfold V
  after_results_simp
  rfl

theorem tile8_apply (g : Hd) (c : Fin 512) : tile8 g (ix2 (n0 := 1) (n1 := 512) 0 c) = g (ix1 (n0 := 64) ⟨c.val % 64, by omega⟩) := by
  pointwise [tile8]

theorem tile4_apply (g : Hd) (c : Fin 256) : tile4 g (ix2 (n0 := 1) (n1 := 256) 0 c) = g (ix1 (n0 := 64) ⟨c.val % 64, by omega⟩) := by
  pointwise [tile4]

theorem flat_apply (x : Vec Ideal S8x8192x1024 .f32) (n : Fin 65536) (j : Fin 1024) :
    shapeCast S65536x1024 x shapeCasts_S8x8192x1024_S65536x1024 (ix2 (n0 := 65536) (n1 := 1024) n j) = x (ix3 (n0 := 8) (n1 := 8192) (n2 := 1024) (tb n) (ts n) j) := by
  pointwise []
  rfl

theorem row_apply (x : Vec Ideal S1024 .f32) (j : Fin 1024) :
    shapeCast S1x1024 x shapeCasts_S1024_S1x1024 (ix2 (n0 := 1) (n1 := 1024) 0 j) = x (ix1 (n0 := 1024) j) := by
  pointwise []

end Cert.Kernel2Ideal.PJ

end
-- ==== Proof.PJ.Value.lean ====
module

public import proofs.«01_k».proof.Proof.PJ.Blocks

@[expose] public section

set_option maxRecDepth 16384

noncomputable section

namespace Cert.Kernel2Ideal.PJ

open Cert.Kernel2Ideal.Gen Cert.PJ
open Idealize.ShloMosaic Idealize.ShloMosaic.TcCoe
open Idealize.SL Idealize.SL.Sem

/-- Reading a block of a matrix from its corner, all rows and the columns from `o` on. -/
theorem ld_apply {e : EltTy} {A B N : ℕ} (off : Fin 2 → ℕ) (o : ℕ) (h0 : off 0 = 0) (h1 : off 1 = o) (inb) (x : (⟨2, ![A, B]⟩ : Shape).Idx → Elt Ideal e) (r : Fin A) (j : Fin N) (hj : o + j.val < B) :
    View.ld (Val := Elt Ideal) (e' := e) x (Rect.unit (s := ⟨2, ![A, B]⟩) off ![A, N] inb) (ix2 (n0 := A) (n1 := N) r j) = x (ix2 (n0 := A) (n1 := B) r ⟨o + j.val, hj⟩) := by
  refine congrArg x ?_
  funext a
  match a with
  | ⟨0, _⟩ => exact Fin.ext (by show off 0 + 1 * r.val = r.val; omega)
  | ⟨1, _⟩ => exact Fin.ext (by show off 1 + 1 * j.val = o + j.val; omega)

/-- A buffer written whole holds what was written. -/
theorem canon_apply {e : EltTy} {A B : ℕ} (inb) (w : (⟨2, ![A, B]⟩ : Shape).Idx → Elt Ideal e) (r : Fin A) (j : Fin B) :
    View.canon (Val := Elt Ideal) [(⟨Rect.unit (s := ⟨2, ![A, B]⟩) ![0, 0] ![A, B] inb, w⟩ : View.Piece (Elt Ideal) ⟨2, ![A, B]⟩ e)] (ix2 (n0 := A) (n1 := B) r j) = w (ix2 (n0 := A) (n1 := B) r j) := by
  refine Eq.trans (congrArg _ ?_) (View.canon_cons_emb (Val := Elt Ideal) (Rect.unit (s := ⟨2, ![A, B]⟩) ![0, 0] ![A, B] inb) w [] (ix2 (n0 := A) (n1 := B) r j))
  funext a
  match a with
  | ⟨0, _⟩ => exact Fin.ext (by show r.val = 0 + 1 * r.val; omega)
  | ⟨1, _⟩ => exact Fin.ext (by show j.val = 0 + 1 * j.val; omega)

variable (m : (ℓ : Loc nD τ sig) → Buf (Elt Ideal) ℓ)

theorem hid_at (c : Dev nD) (t : Fin cfg0.N) (r : Fin 512) (j : Fin 1024) :
    k0_pay19 (F := Ideal) (iblk m c 0 t) (iblk m c 1 t) (iblk m c 2 t) (iblk m c 3 t) (iblk m c 4 t) (iblk m c 5 t) (ix2 (n0 := 512) (n1 := 1024) r j)
      = hid (argX m c) (argN m c) (tb (tok t r)) (ts (tok t r)) j := by
  have hx : ∀ i : Fin 1024, View.ld (iblk m c 0 t : Vec Ideal S512x1024 .f32) r0_0 (ix2 (n0 := 512) (n1 := 1024) r i)
      = argX m c (ix3 (n0 := 8) (n1 := 8192) (n2 := 1024) (tb (tok t r)) (ts (tok t r)) i) := fun i =>
    (ld_apply _ 0 rfl rfl _ _ r i (by omega)).trans ((congrArg (iblk m c 0 t : Vec Ideal S512x1024 .f32) (congrArg (ix2 (n0 := 512) (n1 := 1024) r) (Fin.ext (Nat.zero_add i.val)))).trans
      ((iblk0_apply m c t r i).trans ((congrFun (V_v0 m c) _).trans (flat_apply _ _ _))))
  have hn : View.ld (iblk m c 1 t : Vec Ideal S1x1024 .f32) r0_1 (ix2 (n0 := 1) (n1 := 1024) 0 j) = argN m c (ix1 (n0 := 1024) j) :=
    (ld_apply _ 0 rfl rfl _ _ 0 j (by omega)).trans ((congrArg (iblk m c 1 t : Vec Ideal S1x1024 .f32) (congrArg (ix2 (n0 := 1) (n1 := 1024) 0) (Fin.ext (Nat.zero_add j.val)))).trans
      ((iblk1_eq m c t _).trans ((congrFun (V_v1 m c) _).trans (row_apply _ _))))
  refine (pay2_apply _ _ r j).trans ?_
  rw [hn, hx j, Finset.sum_congr rfl fun i _ => by rw [hx i]]
  rfl

/-- A row of the normed input against the columns of the projection from `o` on. -/
theorem run_at (c : Dev nD) (t : Fin cfg0.N) {N : ℕ} (off : Fin 2 → ℕ) (o : ℕ) (ho : o + N ≤ 2944) (h0 : off 0 = 0) (h1 : off 1 = o) (inb) (r : Fin 512) (e : Fin N) :
    rowDot (k0_pay19 (F := Ideal) (iblk m c 0 t) (iblk m c 1 t) (iblk m c 2 t) (iblk m c 3 t) (iblk m c 4 t) (iblk m c 5 t))
        (View.ld (Val := Elt Ideal) (e' := .bf16) (iblk m c 2 t : Vec Ideal S1024x2944 .bf16) (Rect.unit (s := S1024x2944) off ![1024, N] inb)) r e
      = run (argX m c) (argN m c) (argW m c) o ho (tok t r) e := by
  unfold rowDot run proj
  refine Finset.sum_congr rfl fun j _ => congrArg₂ (fun y z => y * z) (hid_at m c t r j) ?_
  exact (ld_apply off o h0 h1 inb _ j e (by omega)).trans ((iblk2_eq m c t _).trans (congrFun (V_v2 m c) _))

theorem tile8_at (x : Vec Ideal S1x512 .f32) (g : Hd) (hx : ∀ y, x y = tile8 g y) (e : Fin 512) :
    View.ld x r0_3 (ix2 (n0 := 1) (n1 := 512) 0 e) = g (ix1 (n0 := 64) ⟨e.val % 64, by omega⟩) :=
  (ld_apply _ 0 rfl rfl _ _ 0 e (by omega)).trans ((congrArg x (congrArg (ix2 (n0 := 1) (n1 := 512) 0) (Fin.ext (Nat.zero_add e.val)))).trans ((hx _).trans (tile8_apply g e)))

theorem tile4_at (x : Vec Ideal S1x256 .f32) (g : Hd) (hx : ∀ y, x y = tile4 g y) (e : Fin 256) :
    View.ld x r0_10 (ix2 (n0 := 1) (n1 := 256) 0 e) = g (ix1 (n0 := 64) ⟨e.val % 64, by omega⟩) :=
  (ld_apply _ 0 rfl rfl _ _ 0 e (by omega)).trans ((congrArg x (congrArg (ix2 (n0 := 1) (n1 := 256) 0) (Fin.ext (Nat.zero_add e.val)))).trans ((hx _).trans (tile4_apply g e)))

/-- The kernel's head norm of a run of channels is the head norm. -/
theorem normed_at {N : ℕ} (hN : N % 64 = 0) (x : Inp) (nw : Row) (w : Wgt) (g : Hd) (o : ℕ) (ho : o + N ≤ 2944) (n : Fin 65536) (e : Fin N)
    (P : Fin N → EReal) (hP : ∀ e, P e = run x nw w o ho n e) :
    P e * rms (∑ i : Fin 64, P (sib hN e i) * P (sib hN e i)) (Ideal.ofBits .f32 0x42800000#32) * g (ix1 (n0 := 64) ⟨e.val % 64, by omega⟩)
      = normed hN x nw w g o ho n e := by
  have he : sib hN e ⟨e.val % 64, by omega⟩ = e := Fin.ext (by show 64 * (e.val / 64) + e.val % 64 = e.val; omega)
  unfold normed headNorm
  beta_reduce
  rw [he, hP e, Finset.sum_congr rfl fun i _ => by rw [hP (sib hN e i)]]

theorem q_at (c : Dev nD) (t : Fin cfg0.N) (r : Fin 512) (e : Fin 512) :
    out0_6 (F := Ideal) (iblk m c 0 t) (iblk m c 1 t) (iblk m c 2 t) (iblk m c 3 t) (iblk m c 4 t) (iblk m c 5 t) (ix2 (n0 := 512) (n1 := 512) r e)
      = normed (N := 512) rfl (argX m c) (argN m c) (argW m c) (argQ m c) 0 (by omega) (tok t r) e * eighth := by
  refine (canon_apply _ _ r e).trans ((pay6_apply _ _ _ r e).trans (congrArg (fun z => z * eighth) ?_))
  rw [tile8_at _ (argQ m c) (fun y => (iblk3_eq m c t y).trans (congrFun (V_v6 m c) y)) e]
  exact normed_at rfl _ _ _ _ 0 (by omega) _ e _ fun e => run_at m c t _ 0 (by omega) rfl rfl _ r e

theorem final_q (c : Dev nD) (G : S65536x512.Idx → EReal) (hG : ∀ t (r : Fin 512) (e : Fin 512),
      out0_6 (iblk m c 0 t) (iblk m c 1 t) (iblk m c 2 t) (iblk m c 3 t) (iblk m c 4 t) (iblk m c 5 t) (ix2 (n0 := 512) (n1 := 512) r e)
        = G (ix2 (n0 := 65536) (n1 := 512) (tok t r) e)) :
    (dats m 0 c).arrAt 6 cfg0.N = G := by
  refine (dats m 0 c).arrAt_eq_of_covers 6 _ (by decide +kernel) fun t hf y => ?_
  have hy : y = ix2 (n0 := 512) (n1 := 512) (y 0) (y 1) := (ix2_eta y).symm
  rw [hy]
  blk_simp
  rw [after0_6]
  refine (hG t (y 0) (y 1)).trans ?_
  congr 1
  unfold tok
  blk_ext [e6]

theorem k_at (c : Dev nD) (t : Fin cfg0.N) (r : Fin 512) (e : Fin 512) :
    out0_7 (F := Ideal) (iblk m c 0 t) (iblk m c 1 t) (iblk m c 2 t) (iblk m c 3 t) (iblk m c 4 t) (iblk m c 5 t) (ix2 (n0 := 512) (n1 := 512) r e)
      = normed (N := 512) rfl (argX m c) (argN m c) (argW m c) (argK m c) 512 (by omega) (tok t r) e := by
  refine (canon_apply _ _ r e).trans ((pay8_apply _ _ _ r e).trans ?_)
  rw [tile8_at _ (argK m c) (fun y => (iblk4_eq m c t y).trans (congrFun (V_v10 m c) y)) e]
  exact normed_at rfl _ _ _ _ 512 (by omega) _ e _ fun e => run_at m c t _ 512 (by omega) rfl rfl _ r e

theorem final_k (c : Dev nD) (G : S65536x512.Idx → EReal) (hG : ∀ t (r : Fin 512) (e : Fin 512),
      out0_7 (iblk m c 0 t) (iblk m c 1 t) (iblk m c 2 t) (iblk m c 3 t) (iblk m c 4 t) (iblk m c 5 t) (ix2 (n0 := 512) (n1 := 512) r e)
        = G (ix2 (n0 := 65536) (n1 := 512) (tok t r) e)) :
    (dats m 0 c).arrAt 7 cfg0.N = G := by
  refine (dats m 0 c).arrAt_eq_of_covers 7 _ (by decide +kernel) fun t hf y => ?_
  have hy : y = ix2 (n0 := 512) (n1 := 512) (y 0) (y 1) := (ix2_eta y).symm
  rw [hy]
  blk_simp
  rw [after0_7]
  refine (hG t (y 0) (y 1)).trans ?_
  congr 1
  unfold tok
  blk_ext [e7]

theorem v_at (c : Dev nD) (t : Fin cfg0.N) (r : Fin 512) (e : Fin 512) :
    out0_8 (F := Ideal) (iblk m c 0 t) (iblk m c 1 t) (iblk m c 2 t) (iblk m c 3 t) (iblk m c 4 t) (iblk m c 5 t) (ix2 (n0 := 512) (n1 := 512) r e)
      = run (N := 512) (argX m c) (argN m c) (argW m c) 1024 (by omega) (tok t r) e := by
  refine (canon_apply _ _ r e).trans ((pay9_apply _ _ r e).trans ?_)
  exact run_at m c t _ 1024 (by omega) rfl rfl _ r e

theorem final_v (c : Dev nD) (G : S65536x512.Idx → EReal) (hG : ∀ t (r : Fin 512) (e : Fin 512),
      out0_8 (iblk m c 0 t) (iblk m c 1 t) (iblk m c 2 t) (iblk m c 3 t) (iblk m c 4 t) (iblk m c 5 t) (ix2 (n0 := 512) (n1 := 512) r e)
        = G (ix2 (n0 := 65536) (n1 := 512) (tok t r) e)) :
    (dats m 0 c).arrAt 8 cfg0.N = G := by
  refine (dats m 0 c).arrAt_eq_of_covers 8 _ (by decide +kernel) fun t hf y => ?_
  have hy : y = ix2 (n0 := 512) (n1 := 512) (y 0) (y 1) := (ix2_eta y).symm
  rw [hy]
  blk_simp
  rw [after0_8]
  refine (hG t (y 0) (y 1)).trans ?_
  congr 1
  unfold tok
  blk_ext [e8]

theorem rw_at (c : Dev nD) (t : Fin cfg0.N) (r : Fin 512) (e : Fin 1152) :
    out0_9 (F := Ideal) (iblk m c 0 t) (iblk m c 1 t) (iblk m c 2 t) (iblk m c 3 t) (iblk m c 4 t) (iblk m c 5 t) (ix2 (n0 := 512) (n1 := 1152) r e)
      = run (N := 1152) (argX m c) (argN m c) (argW m c) 1536 (by omega) (tok t r) e := by
  refine (canon_apply _ _ r e).trans ((pay10_apply _ _ r e).trans ?_)
  exact run_at m c t _ 1536 (by omega) rfl rfl _ r e

theorem final_rw (c : Dev nD) (G : S65536x1152.Idx → EReal) (hG : ∀ t (r : Fin 512) (e : Fin 1152),
      out0_9 (iblk m c 0 t) (iblk m c 1 t) (iblk m c 2 t) (iblk m c 3 t) (iblk m c 4 t) (iblk m c 5 t) (ix2 (n0 := 512) (n1 := 1152) r e)
        = G (ix2 (n0 := 65536) (n1 := 1152) (tok t r) e)) :
    (dats m 0 c).arrAt 9 cfg0.N = G := by
  refine (dats m 0 c).arrAt_eq_of_covers 9 _ (by decide +kernel) fun t hf y => ?_
  have hy : y = ix2 (n0 := 512) (n1 := 1152) (y 0) (y 1) := (ix2_eta y).symm
  rw [hy]
  blk_simp
  rw [after0_9]
  refine (hG t (y 0) (y 1)).trans ?_
  congr 1
  unfold tok
  blk_ext [e9]

theorem mq_at (c : Dev nD) (t : Fin cfg0.N) (r : Fin 512) (e : Fin 256) :
    out0_10 (F := Ideal) (iblk m c 0 t) (iblk m c 1 t) (iblk m c 2 t) (iblk m c 3 t) (iblk m c 4 t) (iblk m c 5 t) (ix2 (n0 := 512) (n1 := 256) r e)
      = normed (N := 256) rfl (argX m c) (argN m c) (argW m c) (argM m c) 2688 (by omega) (tok t r) e * eighth := by
  refine (canon_apply _ _ r e).trans ((pay1_apply _ _ _ r e).trans (congrArg (fun z => z * eighth) ?_))
  rw [tile4_at _ (argM m c) (fun y => (iblk5_eq m c t y).trans (congrFun (V_v14 m c) y)) e]
  exact normed_at rfl _ _ _ _ 2688 (by omega) _ e _ fun e => run_at m c t _ 2688 (by omega) rfl rfl _ r e

theorem final_mq (c : Dev nD) (G : S65536x256.Idx → EReal) (hG : ∀ t (r : Fin 512) (e : Fin 256),
      out0_10 (iblk m c 0 t) (iblk m c 1 t) (iblk m c 2 t) (iblk m c 3 t) (iblk m c 4 t) (iblk m c 5 t) (ix2 (n0 := 512) (n1 := 256) r e)
        = G (ix2 (n0 := 65536) (n1 := 256) (tok t r) e)) :
    (dats m 0 c).arrAt 10 cfg0.N = G := by
  refine (dats m 0 c).arrAt_eq_of_covers 10 _ (by decide +kernel) fun t hf y => ?_
  have hy : y = ix2 (n0 := 512) (n1 := 256) (y 0) (y 1) := (ix2_eta y).symm
  rw [hy]
  blk_simp
  rw [after0_10]
  refine (hG t (y 0) (y 1)).trans ?_
  congr 1
  unfold tok
  blk_ext [e10]

end Cert.Kernel2Ideal.PJ

end
-- ==== Proof.PJ.Ref.lean ====
module

public import proofs.«01_k».proof.Proof.Gen.Reference2Ideal.Read
public import proofs.«01_k».proof.Proof.PJ.Spec
public import Idealize.ShloMosaic.Lib.Pointwise

@[expose] public section

set_option maxRecDepth 16384

noncomputable section

namespace Cert.Reference2Ideal.PJ

open Cert.Reference2Ideal Cert.Reference2Ideal.Gen Cert.Reference2Ideal.Read Cert.PJ
open Idealize.ShloMosaic Idealize.ShloMosaic.TcCoe

variable (x : Vec Ideal S8x8192x1024 .f32) (nw : Vec Ideal S1024 .f32) (w : Vec Ideal S1024x2944 .f32) (g : Vec Ideal S64 .f32)

theorem hid_apply (b : Fin 8) (s : Fin 8192) (j : Fin 1024) :
    val_main_v12 (F := Ideal) x nw (ix3 (n0 := 8) (n1 := 8192) (n2 := 1024) b s j) = hid x nw b s j := by
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]
  rfl

theorem proj_apply (b : Fin 8) (s : Fin 8192) (c : Fin 2944) :
    val_main_v13 (F := Ideal) x nw w (ix3 (n0 := 8) (n1 := 8192) (n2 := 2944) b s c) = proj x nw w b s c := by
  unfold proj
  pointwise [val_main_v13]
  exact Finset.sum_congr rfl fun j _ => congrArg (fun z => z * _) (hid_apply x nw b s j)

theorem head20_apply (b : Fin 8) (s : Fin 8192) (h : Fin 8) (e : Fin 64) :
    val_main_v20 (F := Ideal) x nw w (ix4 (n0 := 8) (n1 := 8192) (n2 := 8) (n3 := 64) b s h e) = proj x nw w b s ⟨0 + (64 * h.val + e.val), by omega⟩ := by
  refine Eq.trans ?_ (proj_apply x nw w b s _)
  pointwise [val_main_v20, val_main_v17, val_main_v14]
  refine congrArg (fun z => val_main_v13 (F := Ideal) x nw w (ix3 (n0 := 8) (n1 := 8192) (n2 := 2944) b s z)) (Fin.ext ?_)
  dsimp only
  omega

theorem head21_apply (b : Fin 8) (s : Fin 8192) (h : Fin 8) (e : Fin 64) :
    val_main_v21 (F := Ideal) x nw w (ix4 (n0 := 8) (n1 := 8192) (n2 := 8) (n3 := 64) b s h e) = proj x nw w b s ⟨512 + (64 * h.val + e.val), by omega⟩ := by
  refine Eq.trans ?_ (proj_apply x nw w b s _)
  pointwise [val_main_v21, val_main_v18, val_main_v14]
  refine congrArg (fun z => val_main_v13 (F := Ideal) x nw w (ix3 (n0 := 8) (n1 := 8192) (n2 := 2944) b s z)) (Fin.ext ?_)
  dsimp only
  omega

theorem head22_apply (b : Fin 8) (s : Fin 8192) (h : Fin 8) (e : Fin 64) :
    val_main_v22 (F := Ideal) x nw w (ix4 (n0 := 8) (n1 := 8192) (n2 := 8) (n3 := 64) b s h e) = proj x nw w b s ⟨1024 + (64 * h.val + e.val), by omega⟩ := by
  refine Eq.trans ?_ (proj_apply x nw w b s _)
  pointwise [val_main_v22, val_main_v19, val_main_v14]
  refine congrArg (fun z => val_main_v13 (F := Ideal) x nw w (ix3 (n0 := 8) (n1 := 8192) (n2 := 2944) b s z)) (Fin.ext ?_)
  dsimp only
  omega

theorem head51_apply (b : Fin 8) (s : Fin 8192) (h : Fin 4) (e : Fin 64) :
    val_main_v51 (F := Ideal) x nw w (ix4 (n0 := 8) (n1 := 8192) (n2 := 4) (n3 := 64) b s h e) = proj x nw w b s ⟨2688 + (64 * h.val + e.val), by omega⟩ := by
  refine Eq.trans ?_ (proj_apply x nw w b s _)
  pointwise [val_main_v51, val_main_v16]
  refine congrArg (fun z => val_main_v13 (F := Ideal) x nw w (ix3 (n0 := 8) (n1 := 8192) (n2 := 2944) b s z)) (Fin.ext ?_)
  dsimp only
  omega

theorem q_apply (n : Fin 65536) (c : Fin 512) :
    val_main_v68 (F := Ideal) x nw w g (ix2 (n0 := 65536) (n1 := 512) n c) = normed (N := 512) rfl x nw w g 0 (by omega) n c * eighth := by
  pointwise [val_main_v68, val_main_v67, val_main_v37, val_main_v36, val_main_v35, val_main_v34, val_main_v33, val_main_v32, val_main_v31, val_main_v30, val_main_v29, val_main_v28, val_main_v27, val_main_v26, val_main_v25, val_main_v24, val_main_v23, val_main_cst_2, val_main_cst_3, val_main_cst_4, val_main_cst_5]
  have hh : (fun e : Fin 64 => val_main_v20 (F := Ideal) x nw w (ix4 (n0 := 8) (n1 := 8192) (n2 := 8) (n3 := 64) (tb n) (ts n) ⟨c.val / 64, by omega⟩ e))
      = fun e => run (N := 512) x nw w 0 (by omega) n (sib rfl c e) := funext fun e => head20_apply x nw w _ _ _ e
  have hn := congrArg (fun t : Fin 64 → EReal => headNorm t g ⟨c.val % 64, by omega⟩ * eighth) hh
  exact hn

theorem k_apply (n : Fin 65536) (c : Fin 512) :
    val_main_v70 (F := Ideal) x nw w g (ix2 (n0 := 65536) (n1 := 512) n c) = normed (N := 512) rfl x nw w g 512 (by omega) n c := by
  pointwise [val_main_v70, val_main_v69, val_main_v50, val_main_v49, val_main_v48, val_main_v47, val_main_v46, val_main_v45, val_main_v44, val_main_v43, val_main_v42, val_main_v41, val_main_v40, val_main_v39, val_main_v38, val_main_cst_6, val_main_cst_7, val_main_cst_8]
  have hh : (fun e : Fin 64 => val_main_v21 (F := Ideal) x nw w (ix4 (n0 := 8) (n1 := 8192) (n2 := 8) (n3 := 64) (tb n) (ts n) ⟨c.val / 64, by omega⟩ e))
      = fun e => run (N := 512) x nw w 512 (by omega) n (sib rfl c e) := funext fun e => head21_apply x nw w _ _ _ e
  have hn := congrArg (fun t : Fin 64 → EReal => headNorm t g ⟨c.val % 64, by omega⟩) hh
  exact hn

theorem mq_apply (n : Fin 65536) (c : Fin 256) :
    val_main_v75 (F := Ideal) x nw w g (ix2 (n0 := 65536) (n1 := 256) n c) = normed (N := 256) rfl x nw w g 2688 (by omega) n c * eighth := by
  pointwise [val_main_v75, val_main_v74, val_main_v66, val_main_v65, val_main_v64, val_main_v63, val_main_v62, val_main_v61, val_main_v60, val_main_v59, val_main_v58, val_main_v57, val_main_v56, val_main_v55, val_main_v54, val_main_v53, val_main_v52, val_main_cst_9, val_main_cst_10, val_main_cst_11, val_main_cst_12]
  have hh : (fun e : Fin 64 => val_main_v51 (F := Ideal) x nw w (ix4 (n0 := 8) (n1 := 8192) (n2 := 4) (n3 := 64) (tb n) (ts n) ⟨c.val / 64, by omega⟩ e))
      = fun e => run (N := 256) x nw w 2688 (by omega) n (sib rfl c e) := funext fun e => head51_apply x nw w _ _ _ e
  have hn := congrArg (fun t : Fin 64 → EReal => headNorm t g ⟨c.val % 64, by omega⟩ * eighth) hh
  exact hn

theorem v_apply (n : Fin 65536) (c : Fin 512) :
    val_main_v72 (F := Ideal) x nw w (ix2 (n0 := 65536) (n1 := 512) n c) = run (N := 512) x nw w 1024 (by omega) n c := by
  pointwise [val_main_v72, val_main_v71]
  refine (head22_apply x nw w _ _ _ _).trans (congrArg (proj x nw w (tb n) (ts n)) (Fin.ext ?_))
  dsimp only
  omega

theorem rw_apply (n : Fin 65536) (c : Fin 1152) :
    val_main_v73 (F := Ideal) x nw w (ix2 (n0 := 65536) (n1 := 1152) n c) = run (N := 1152) x nw w 1536 (by omega) n c := by
  pointwise [val_main_v73, val_main_v15]
  exact proj_apply x nw w _ _ _

end Cert.Reference2Ideal.PJ

end
-- ==== Proof.PJ.Algebraic.lean ====
module

public import proofs.«01_k».proof.Defs
public import proofs.«01_k».proof.Proof.PJ.Value
public import proofs.«01_k».proof.Proof.PJ.Ref

@[expose] public section

set_option maxRecDepth 16384

noncomputable section

namespace Cert.Proof

open Idealize.ShloMosaic Idealize.ShloMosaic.TcCoe Idealize.SL.Sem
open Cert.PJ (Inp Row Wgt Hd run normed eighth)

/-- The queries as a whole array: flattened token, channel. -/
def qArr (x : Inp) (nw : Row) (w : Wgt) (g : Hd) : (⟨2, ![65536, 512]⟩ : Shape).Idx → EReal := fun y =>
  normed (N := 512) rfl x nw w g 0 (by omega) (y 0) (y 1) * eighth
/-- The keys as a whole array. -/
def kArr (x : Inp) (nw : Row) (w : Wgt) (g : Hd) : (⟨2, ![65536, 512]⟩ : Shape).Idx → EReal := fun y =>
  normed (N := 512) rfl x nw w g 512 (by omega) (y 0) (y 1)
/-- The values as a whole array. -/
def vArr (x : Inp) (nw : Row) (w : Wgt) : (⟨2, ![65536, 512]⟩ : Shape).Idx → EReal := fun y =>
  run (N := 512) x nw w 1024 (by omega) (y 0) (y 1)
/-- The inputs of the recurrent branch as a whole array. -/
def rwArr (x : Inp) (nw : Row) (w : Wgt) : (⟨2, ![65536, 1152]⟩ : Shape).Idx → EReal := fun y =>
  run (N := 1152) x nw w 1536 (by omega) (y 0) (y 1)
/-- The memory queries as a whole array. -/
def mqArr (x : Inp) (nw : Row) (w : Wgt) (g : Hd) : (⟨2, ![65536, 256]⟩ : Shape).Idx → EReal := fun y =>
  normed (N := 256) rfl x nw w g 2688 (by omega) (y 0) (y 1) * eighth

/-- Two matrices with equal entries are equal. -/
theorem matrix_ext {A B : ℕ} (f h : (⟨2, ![A, B]⟩ : Shape).Idx → EReal) (e : ∀ (r : Fin A) (c : Fin B), f (ix2 (n0 := A) (n1 := B) r c) = h (ix2 (n0 := A) (n1 := B) r c)) : f = h := by
  funext y
  rw [eq_ix2 y]
  exact e _ _

/-- The idealized projection and its reference end with the same five results, on every input. -/
theorem algebraic_proj :
    Cert.algebraic_Kernel2Ideal_Reference2Ideal (hKernel2Ideal := Cert.Kernel2Ideal.Gen.facts) (hReference2Ideal := Cert.Reference2Ideal.Gen.facts) := fun m g m' g' hpre hargs => by
  refine ⟨fun c => qArr (Cert.Kernel2Ideal.PJ.argX m c) (Cert.Kernel2Ideal.PJ.argN m c) (Cert.Kernel2Ideal.PJ.argW m c) (Cert.Kernel2Ideal.PJ.argQ m c),
    fun c => kArr (Cert.Kernel2Ideal.PJ.argX m c) (Cert.Kernel2Ideal.PJ.argN m c) (Cert.Kernel2Ideal.PJ.argW m c) (Cert.Kernel2Ideal.PJ.argK m c),
    fun c => vArr (Cert.Kernel2Ideal.PJ.argX m c) (Cert.Kernel2Ideal.PJ.argN m c) (Cert.Kernel2Ideal.PJ.argW m c),
    fun c => rwArr (Cert.Kernel2Ideal.PJ.argX m c) (Cert.Kernel2Ideal.PJ.argN m c) (Cert.Kernel2Ideal.PJ.argW m c),
    fun c => mqArr (Cert.Kernel2Ideal.PJ.argX m c) (Cert.Kernel2Ideal.PJ.argN m c) (Cert.Kernel2Ideal.PJ.argW m c) (Cert.Kernel2Ideal.PJ.argM m c), ?_, ?_⟩
  · refine (θ_run Cert.Kernel2Ideal.defs _ _).mono (fun r h c => ?_) (Cert.Kernel2Ideal.Value.run_blocks (F := Ideal) m g)
    obtain ⟨h6, h7, h8, h9, h10, ha⟩ := h c
    exact ⟨h6.trans (Cert.Kernel2Ideal.PJ.final_q m c _ fun t r e => Cert.Kernel2Ideal.PJ.q_at m c t r e),
      h7.trans (Cert.Kernel2Ideal.PJ.final_k m c _ fun t r e => Cert.Kernel2Ideal.PJ.k_at m c t r e),
      h8.trans (Cert.Kernel2Ideal.PJ.final_v m c _ fun t r e => Cert.Kernel2Ideal.PJ.v_at m c t r e),
      h9.trans (Cert.Kernel2Ideal.PJ.final_rw m c _ fun t r e => Cert.Kernel2Ideal.PJ.rw_at m c t r e),
      h10.trans (Cert.Kernel2Ideal.PJ.final_mq m c _ fun t r e => Cert.Kernel2Ideal.PJ.mq_at m c t r e), ha⟩
  · refine (θ_run Cert.Reference2Ideal.defs _ _).mono (fun r h c => ?_) (Cert.Reference2Ideal.Value.run (F := Ideal) m' g')
    obtain ⟨h0, h1, h2, h3, h4, ha⟩ := h c
    obtain ⟨e0, e1, e2, e3, e4, e5⟩ := hargs c
    refine ⟨h0.trans ((Cert.Reference2Ideal.Read.val_main_v68_eq (F := Ideal) m' c).trans ?_), h1.trans ((Cert.Reference2Ideal.Read.val_main_v70_eq (F := Ideal) _ _ _ _).trans ?_),
      h2.trans ((Cert.Reference2Ideal.Read.val_main_v72_eq (F := Ideal) _ _ _).trans ?_), h3.trans ((Cert.Reference2Ideal.Read.val_main_v73_eq (F := Ideal) _ _ _).trans ?_),
      h4.trans ((Cert.Reference2Ideal.Read.val_main_v75_eq (F := Ideal) _ _ _ _).trans ?_), ha⟩
    · rw [e0, e1, e2, e3]
      exact matrix_ext _ _ fun r e => Cert.Reference2Ideal.PJ.q_apply _ _ _ _ r e
    · rw [e0, e1, e2, e4]
      exact matrix_ext _ _ fun r e => Cert.Reference2Ideal.PJ.k_apply _ _ _ _ r e
    · rw [e0, e1, e2]
      exact matrix_ext _ _ fun r e => Cert.Reference2Ideal.PJ.v_apply _ _ _ r e
    · rw [e0, e1, e2]
      exact matrix_ext _ _ fun r e => Cert.Reference2Ideal.PJ.rw_apply _ _ _ r e
    · rw [e0, e1, e2, e5]
      exact matrix_ext _ _ fun r e => Cert.Reference2Ideal.PJ.mq_apply _ _ _ _ r e

/-- The frame of the projection's reference: a program of host operations only, which has no semaphores. -/
theorem frame_reference_proj : Cert.quiescent_Reference2Ideal (hReference2Ideal := Cert.Reference2Ideal.Gen.facts) := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

end Cert.Proof

end
-- ==== Proof.EX.Kit.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.Kernel3Ideal.EX

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A device's buffers when the pipelined region starts: after the host's operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- The host's operations leave argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host's operations leave argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host's operations leave argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host's operations leave argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host's operations leave argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host's operations leave argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The tables -/

/-- The tables' contents when the region starts, on the one device. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The pipeline's condition on the tables: every block named is inside its array. -/
abbrev Ok : Prop := ok0 (F := F) (tbl m)
/-- The tables as admissible contents. -/
abbrev adm (hO : Ok m) : (pcfg0 (F := F)).Adm := ⟨tbl m, hO⟩
/-- The pipeline at the tables. -/
abbrev cfgM (hO : Ok m) : Pipeline.Cfg sig Λ₀ := cfg0 (adm m hO)

/-- The table of the blocks' experts, as the body is handed it. -/
abbrev tb0 : Memref sig .tc .smem S392 .i32 := Memref.whole main_v14
/-- The table holding the count of the blocks in use, as the body is handed it. -/
abbrev tb1 : Memref sig .tc .smem S1 .i32 := Memref.whole main_arg2
/-- A table's buffer on a core. -/
abbrev TbBuf (c : Dev nD) {S : Shape} {e : EltTy} (M : Memref sig .tc .smem S e) : Type := Buf (Elt F) (M.view.loc (c : Thread nD τ))
/-- A table held at half the share. -/
abbrev tbPt (c : Dev nD) {S : Shape} {e : EltTy} (M : Memref sig .tc .smem S e) (f : TbBuf (F := F) c M) : sProp 𝕄 :=
  M.view.loc (c : Thread nD τ) ↦{fullShare.right} f

/-- What the region hands the body of the tables, table by table. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

variable (hO : Ok m)

/-- A window's block at a grid point. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of {c : Dev nD} (dat : Dat τ (Elt F) Unit ℕ (UR sig nD τ) ℕ (cfgM m hO) c) (hA : dat.A (0 : Fin 8) = V m c (Pipeline.arrRef spec0 (0 : Fin 8)))
    (hafter : ∀ t, dat.after (0 : Fin 8) t = iblk m hO c (0 : Fin 8) t) (t : Fin (cfgM m hO).N) (d) : dat.before (0 : Fin 8) t d = iblk m hO c (0 : Fin 8) t :=
  (dat.before_in_eq_fetched (0 : Fin 8) rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m hO) c) (hA : dat.A (1 : Fin 8) = V m c (Pipeline.arrRef spec0 (1 : Fin 8)))
    (hafter : ∀ t, dat.after (1 : Fin 8) t = iblk m hO c (1 : Fin 8) t) (t : Fin (cfgM m hO).N) (d) : dat.before (1 : Fin 8) t d = iblk m hO c (1 : Fin 8) t :=
  (dat.before_in_eq_fetched (1 : Fin 8) rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM m hO) c) (hA : dat.A (2 : Fin 8) = V m c (Pipeline.arrRef spec0 (2 : Fin 8)))
    (hafter : ∀ t, dat.after (2 : Fin 8) t = iblk m hO c (2 : Fin 8) t) (t : Fin (cfgM m hO).N) (d) : dat.before (2 : Fin 8) t d = iblk m hO c (2 : Fin 8) t :=
  (dat.before_in_eq_fetched (2 : Fin 8) rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM m hO) c) (hA : dat.A (3 : Fin 8) = V m c (Pipeline.arrRef spec0 (3 : Fin 8)))
    (hafter : ∀ t, dat.after (3 : Fin 8) t = iblk m hO c (3 : Fin 8) t) (t : Fin (cfgM m hO).N) (d) : dat.before (3 : Fin 8) t d = iblk m hO c (3 : Fin 8) t :=
  (dat.before_in_eq_fetched (3 : Fin 8) rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfgM m hO) c) (hA : dat.A (4 : Fin 8) = V m c (Pipeline.arrRef spec0 (4 : Fin 8)))
    (hafter : ∀ t, dat.after (4 : Fin 8) t = iblk m hO c (4 : Fin 8) t) (t : Fin (cfgM m hO).N) (d) : dat.before (4 : Fin 8) t d = iblk m hO c (4 : Fin 8) t :=
  (dat.before_in_eq_fetched (4 : Fin 8) rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfgM m hO) c) (hA : dat.A (5 : Fin 8) = V m c (Pipeline.arrRef spec0 (5 : Fin 8)))
    (hafter : ∀ t, dat.after (5 : Fin 8) t = iblk m hO c (5 : Fin 8) t) (t : Fin (cfgM m hO).N) (d) : dat.before (5 : Fin 8) t d = iblk m hO c (5 : Fin 8) t :=
  (dat.before_in_eq_fetched (5 : Fin 8) rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (cfgM m hO) c) (hA : dat.A (6 : Fin 8) = V m c (Pipeline.arrRef spec0 (6 : Fin 8)))
    (hafter : ∀ t, dat.after (6 : Fin 8) t = iblk m hO c (6 : Fin 8) t) (t : Fin (cfgM m hO).N) (d) : dat.before (6 : Fin 8) t d = iblk m hO c (6 : Fin 8) t :=
  (dat.before_in_eq_fetched (6 : Fin 8) rfl (fun _ => rfl) (fun _ _ _ => rfl) (fun t => by rw [hafter]; unfold Dat.blockOf iblk; rw [hA]; try rfl) t d).trans
    (by unfold Dat.fetched Dat.blockOf iblk; rw [hA]; try rfl)

end Cert.Kernel3Ideal.EX

end
-- ==== Proof.EX.Body.lean ====
module

public import proofs.«01_k».proof.Proof.EX.Kit

@[expose] public section

set_option maxRecDepth 16384

noncomputable section

namespace Cert.Kernel3Ideal.EX

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
abbrev rAll : Rect S1024x1024 := Rect.unit (s := S1024x1024) ![0, 0] S1024x1024.size inb_S1024x1024_S1024x1024_0_0
abbrev rUp : Rect S1x1024x512 := Rect.unit (s := S1x1024x512) ![0, 0, 0] S1x1024x512.size inb_S1x1024x512_S1x1024x512_0_0_0
abbrev rDown : Rect S1x512x1024 := Rect.unit (s := S1x512x1024) ![0, 0, 0] S1x512x1024.size inb_S1x512x1024_S1x512x1024_0_0_0

/-- What a step in use leaves in its result block: rows 0–511 from the first expert, rows 512–1023 from the second. -/
def outUsed (x0 : Vec F S1024x1024 .bf16) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) : S1024x1024.Idx → Elt F .bf16 :=
  View.canon [⟨rBot, k0_pay1 (k0_pay3 (View.ld x0 rBot) (View.ld x4 rUp) (View.ld x5 rUp)) (k0_pay5 (View.ld x6 rDown)) (constant S512x1024 .f32 0x00000000#32)⟩,
    ⟨rTop, k0_pay4 (View.ld x0 rTop) (View.ld x1 rUp) (View.ld x2 rUp) (View.ld x3 rDown)⟩]

/-- What a step past the blocks in use leaves in its result block: zero. -/
def outIdle : S1024x1024.Idx → Elt F .bf16 := View.canon [⟨rAll, k0_pay2 (F := F)⟩]

/-- What a step leaves in its result block, by the count of the blocks in use. -/
def blockOut (i : grid0.Coords) (n : Elt F .i32) (x0 : Vec F S1024x1024 .bf16) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) : S1024x1024.Idx → Elt F .bf16 :=
  if k0_cond1 i n = 1#1 then outUsed x0 x1 x2 x3 x4 x5 x6 else outIdle

/-- The one index of the count's table. -/
abbrev z1 : S1.Idx := fun a => ⟨0, by revert a; decide⟩

theorem idx1_eq (y : S1.Idx) : y = z1 := by
  funext a
  obtain rfl : a = (0 : Fin 1) := Subsingleton.elim _ _
  exact Subsingleton.elim (α := Fin 1) (y 0) (z1 0)

/-- The two conditions of a step are each other's negation. -/
theorem cond_flip : ∀ b : BitVec 1, (IntOp.cmpi .ne (BitVec.setWidth 32 (IntOp.xori b 1#1)) 0#32 = 1#1) ↔ ¬ (IntOp.cmpi .ne (BitVec.setWidth 32 b) 0#32 = 1#1) := by
  decide

theorem cond2_iff (i : grid0.Coords) (n : BitVec 32) : k0_cond2 i n = 1#1 ↔ ¬ k0_cond1 i n = 1#1 := cond_flip _

set_option maxHeartbeats 6000000 in
/-- The body's run. -/
theorem body_run (c : Dev nD) (i : grid0.Coords) (arg1 : Memref sig .tc .smem S392 .i32) (harg1 : arg1.IsWhole) (f : TbBuf (F := F) c tb1) (arg3 : Memref sig .tc .vmem S1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .bf16) (harg10 : arg10.IsWhole) (x0 : Vec F S1024x1024 .bf16) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (n : Elt F .i32)
    (hn : n = f z1) :
    ∀ (E : Set ℕ) (K : PUnit → sProp 𝕄), iprop(tbPt c tb1 f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗
      (iprop(tbPt c tb1 f ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (blockOut i n x0 x1 x2 x3 x4 x5 x6)) -∗ K ⟨⟩))
      ⊢ wp frame (wpE (defs₀ (F := F)) Variants.none c none) E (cc0__experts_kernel i arg1 harg1 tb1 (Memref.isWhole_whole _) arg3 harg3 arg4 harg4 arg5 harg5 arg6 harg6 arg7 harg7 arg8 harg8 arg9 harg9 arg10 harg10) K := by
  intro E K
  simp only [cc0__experts_kernel_eq_skeleton]
  unfold cc0__experts_kernel_skel
  simp only [k0_part1_eq_skeleton]
  unfold owns
  iintro ⟨HT, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [HT]
  · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  have hr : body_run.sl.r c f = n := by
    rw [hn]; unfold body_run.sl.r; exact congrArg f (idx1_eq _)
  rw [hr]
  unfold blockOut
  by_cases h : k0_cond1 i n = 1#1
  · rw [if_pos h, dif_neg (fun h2 => (cond2_iff i n).mp h2 h), dif_pos h]
    refine (View.read_writes_eq_canon _ _ _ ?_).trans ?_
    · exact View.cover_of_tiledL (s := S1024x1024) _ ![512, 1024] (by sl_kernel_rfl)
    rfl
  · rw [if_neg h, dif_pos ((cond2_iff i n).mpr h), dif_neg h]
    refine (View.read_writes_eq_canon _ _ _ ?_).trans ?_
    · exact View.cover_of_tiledL (s := S1024x1024) _ ![1024, 1024] (by sl_kernel_rfl)
    rfl

end Cert.Kernel3Ideal.EX

end
-- ==== Proof.EX.Run.lean ====
module

public import proofs.«01_k».proof.Proof.EX.Body

@[expose] public section

set_option maxRecDepth 16384

noncomputable section

namespace Cert.Kernel3Ideal.EX

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- The count of the blocks in use, as the body reads it. -/
def nw : Elt F .i32 := tbl m 1 z1

/-! The windows' blocks at their own shapes. -/
def ib0 (c : Dev nD) (t : Fin (cfgM m hO).N) : Vec F S1024x1024 .bf16 := iblk m hO c 0 t
def ib1 (c : Dev nD) (t : Fin (cfgM m hO).N) : Vec F S1x1024x512 .bf16 := iblk m hO c 1 t
def ib2 (c : Dev nD) (t : Fin (cfgM m hO).N) : Vec F S1x1024x512 .bf16 := iblk m hO c 2 t
def ib3 (c : Dev nD) (t : Fin (cfgM m hO).N) : Vec F S1x512x1024 .bf16 := iblk m hO c 3 t
def ib4 (c : Dev nD) (t : Fin (cfgM m hO).N) : Vec F S1x1024x512 .bf16 := iblk m hO c 4 t
def ib5 (c : Dev nD) (t : Fin (cfgM m hO).N) : Vec F S1x1024x512 .bf16 := iblk m hO c 5 t
def ib6 (c : Dev nD) (t : Fin (cfgM m hO).N) : Vec F S1x512x1024 .bf16 := iblk m hO c 6 t

/-- The result window. -/
def w7 : Fin (cfgM m hO).W := (7 : Fin 8)

/-- What a point leaves in the result window. -/
def out7 (c : Dev nD) (t : Fin (cfgM m hO).N) : ((cfgM m hO).win (w7 m hO)).block.Idx → Elt F ((cfgM m hO).win (w7 m hO)).elt :=
  blockOut (grid0.coords t) (nw m) (ib0 m hO c t) (ib1 m hO c t) (ib2 m hO c t) (ib3 m hO c t) (ib4 m hO c t) (ib5 m hO c t) (ib6 m hO c t)

/-- The proof data of the one pipelined region: the seven input windows keep their blocks and the result window holds `blockOut` of them. -/
def dats (_ : Fin 1) (c : Dev nD) : Dat τ (Elt F) Unit ℕ (UR sig nD τ) ℕ (cfgM m hO) c where
  A w := V m c (Pipeline.arrRef spec0 w)
  after w t := if h : w.val = 7 then (Fin.ext h : w = w7 m hO) ▸ out7 m hO c t else iblk m hO c w t
  Φ _ := iprop(Pipeline.ΦA spec0 c ∗ Pipeline.ΦT pre0 (tbl m) c)
  q w := Pipeline.shareOf spec0 w
  owed _ := 0

theorem A_eq (c : Dev nD) (w) : (dats m hO 0 c).A w = V m c (Pipeline.arrRef spec0 w) := by dsimp only [dats]

theorem after_ne (c : Dev nD) (w : Fin (cfgM m hO).W) (h : ¬ w.val = 7) (t) : (dats m hO 0 c).after w t = iblk m hO c w t := by
  dsimp only [dats]; exact dif_neg h
theorem after_w7 (c : Dev nD) (t) : (dats m hO 0 c).after (w7 m hO) t = out7 m hO c t := by
  dsimp only [dats]; exact dif_pos (c := (w7 m hO).val = 7) rfl
theorem after0_0 (c : Dev nD) (t) : (dats m hO 0 c).after (0 : Fin 8) t = iblk m hO c (0 : Fin 8) t := after_ne m hO c (0 : Fin 8) (show ¬ ((0 : Fin 8).val = 7) by decide) t
theorem after0_1 (c : Dev nD) (t) : (dats m hO 0 c).after (1 : Fin 8) t = iblk m hO c (1 : Fin 8) t := after_ne m hO c (1 : Fin 8) (show ¬ ((1 : Fin 8).val = 7) by decide) t
theorem after0_2 (c : Dev nD) (t) : (dats m hO 0 c).after (2 : Fin 8) t = iblk m hO c (2 : Fin 8) t := after_ne m hO c (2 : Fin 8) (show ¬ ((2 : Fin 8).val = 7) by decide) t
theorem after0_3 (c : Dev nD) (t) : (dats m hO 0 c).after (3 : Fin 8) t = iblk m hO c (3 : Fin 8) t := after_ne m hO c (3 : Fin 8) (show ¬ ((3 : Fin 8).val = 7) by decide) t
theorem after0_4 (c : Dev nD) (t) : (dats m hO 0 c).after (4 : Fin 8) t = iblk m hO c (4 : Fin 8) t := after_ne m hO c (4 : Fin 8) (show ¬ ((4 : Fin 8).val = 7) by decide) t
theorem after0_5 (c : Dev nD) (t) : (dats m hO 0 c).after (5 : Fin 8) t = iblk m hO c (5 : Fin 8) t := after_ne m hO c (5 : Fin 8) (show ¬ ((5 : Fin 8).val = 7) by decide) t
theorem after0_6 (c : Dev nD) (t) : (dats m hO 0 c).after (6 : Fin 8) t = iblk m hO c (6 : Fin 8) t := after_ne m hO c (6 : Fin 8) (show ¬ ((6 : Fin 8).val = 7) by decide) t
theorem after0_7 (c : Dev nD) (t) : (dats m hO 0 c).after (7 : Fin 8) t = out7 m hO c t := after_w7 m hO c t
theorem before0_0 (c : Dev nD) (t d) : (dats m hO 0 c).before (0 : Fin 8) t d = iblk m hO c (0 : Fin 8) t := before_0_of m hO (dats m hO 0 c) (A_eq m hO c (0 : Fin 8)) (after0_0 m hO c) t d
theorem before0_1 (c : Dev nD) (t d) : (dats m hO 0 c).before (1 : Fin 8) t d = iblk m hO c (1 : Fin 8) t := before_1_of m hO (dats m hO 0 c) (A_eq m hO c (1 : Fin 8)) (after0_1 m hO c) t d
theorem before0_2 (c : Dev nD) (t d) : (dats m hO 0 c).before (2 : Fin 8) t d = iblk m hO c (2 : Fin 8) t := before_2_of m hO (dats m hO 0 c) (A_eq m hO c (2 : Fin 8)) (after0_2 m hO c) t d
theorem before0_3 (c : Dev nD) (t d) : (dats m hO 0 c).before (3 : Fin 8) t d = iblk m hO c (3 : Fin 8) t := before_3_of m hO (dats m hO 0 c) (A_eq m hO c (3 : Fin 8)) (after0_3 m hO c) t d
theorem before0_4 (c : Dev nD) (t d) : (dats m hO 0 c).before (4 : Fin 8) t d = iblk m hO c (4 : Fin 8) t := before_4_of m hO (dats m hO 0 c) (A_eq m hO c (4 : Fin 8)) (after0_4 m hO c) t d
theorem before0_5 (c : Dev nD) (t d) : (dats m hO 0 c).before (5 : Fin 8) t d = iblk m hO c (5 : Fin 8) t := before_5_of m hO (dats m hO 0 c) (A_eq m hO c (5 : Fin 8)) (after0_5 m hO c) t d
theorem before0_6 (c : Dev nD) (t d) : (dats m hO 0 c).before (6 : Fin 8) t d = iblk m hO c (6 : Fin 8) t := before_6_of m hO (dats m hO 0 c) (A_eq m hO c (6 : Fin 8)) (after0_6 m hO c) t d

abbrev st_0 (t : Fin (cfgM m hO).N) := ((cfgM m hO).win (0 : Fin 8)).stage ((cfgM m hO).slots t (0 : Fin 8))
abbrev st_1 (t : Fin (cfgM m hO).N) := ((cfgM m hO).win (1 : Fin 8)).stage ((cfgM m hO).slots t (1 : Fin 8))
abbrev st_2 (t : Fin (cfgM m hO).N) := ((cfgM m hO).win (2 : Fin 8)).stage ((cfgM m hO).slots t (2 : Fin 8))
abbrev st_3 (t : Fin (cfgM m hO).N) := ((cfgM m hO).win (3 : Fin 8)).stage ((cfgM m hO).slots t (3 : Fin 8))
abbrev st_4 (t : Fin (cfgM m hO).N) := ((cfgM m hO).win (4 : Fin 8)).stage ((cfgM m hO).slots t (4 : Fin 8))
abbrev st_5 (t : Fin (cfgM m hO).N) := ((cfgM m hO).win (5 : Fin 8)).stage ((cfgM m hO).slots t (5 : Fin 8))
abbrev st_6 (t : Fin (cfgM m hO).N) := ((cfgM m hO).win (6 : Fin 8)).stage ((cfgM m hO).slots t (6 : Fin 8))
abbrev st_7 (t : Fin (cfgM m hO).N) := ((cfgM m hO).win (7 : Fin 8)).stage ((cfgM m hO).slots t (7 : Fin 8))

/-- The body as the pipeline runs it at a point. -/
abbrev bodyAt (t : Fin (cfgM m hO).N) : Prog (TpuEff nD τ sig (Elt F) Λ₀ .tc) PUnit :=
  cc0__experts_kernel (grid0.coords t) (Memref.whole main_v14) (Memref.isWhole_whole _) (Memref.whole main_arg2) (Memref.isWhole_whole _) (spec0_0.stage ((cfgM m hO).slots t (0 : Fin 8))) (hstage0_0 (((cfgM m hO).slots t (0 : Fin 8)).cast nbuf0_0)) (spec0_1.stage ((cfgM m hO).slots t (1 : Fin 8))) (hstage0_1 (((cfgM m hO).slots t (1 : Fin 8)).cast nbuf0_1)) (spec0_2.stage ((cfgM m hO).slots t (2 : Fin 8))) (hstage0_2 (((cfgM m hO).slots t (2 : Fin 8)).cast nbuf0_2)) (spec0_3.stage ((cfgM m hO).slots t (3 : Fin 8))) (hstage0_3 (((cfgM m hO).slots t (3 : Fin 8)).cast nbuf0_3)) (spec0_4.stage ((cfgM m hO).slots t (4 : Fin 8))) (hstage0_4 (((cfgM m hO).slots t (4 : Fin 8)).cast nbuf0_4)) (spec0_5.stage ((cfgM m hO).slots t (5 : Fin 8))) (hstage0_5 (((cfgM m hO).slots t (5 : Fin 8)).cast nbuf0_5)) (spec0_6.stage ((cfgM m hO).slots t (6 : Fin 8))) (hstage0_6 (((cfgM m hO).slots t (6 : Fin 8)).cast nbuf0_6)) (spec0_7.stage ((cfgM m hO).slots t (7 : Fin 8))) (hstage0_7 (((cfgM m hO).slots t (7 : Fin 8)).cast nbuf0_7))

/-- What the body is run from at point `t`. -/
def bodyPre (c : Dev nD) (t : Fin (cfgM m hO).N) : sProp 𝕄 := iprop((dats m hO 0 c).Φ t.castSucc ∗ (dats m hO 0 c).owesAt () t.castSucc ∗ (∃ d, owns (c : Thread nD τ) (st_0 m hO t) fullShare ((dats m hO 0 c).before (0 : Fin 8) t d)) ∗ (∃ d, owns (c : Thread nD τ) (st_1 m hO t) fullShare ((dats m hO 0 c).before (1 : Fin 8) t d)) ∗ (∃ d, owns (c : Thread nD τ) (st_2 m hO t) fullShare ((dats m hO 0 c).before (2 : Fin 8) t d)) ∗ (∃ d, owns (c : Thread nD τ) (st_3 m hO t) fullShare ((dats m hO 0 c).before (3 : Fin 8) t d)) ∗ (∃ d, owns (c : Thread nD τ) (st_4 m hO t) fullShare ((dats m hO 0 c).before (4 : Fin 8) t d)) ∗ (∃ d, owns (c : Thread nD τ) (st_5 m hO t) fullShare ((dats m hO 0 c).before (5 : Fin 8) t d)) ∗ (∃ d, owns (c : Thread nD τ) (st_6 m hO t) fullShare ((dats m hO 0 c).before (6 : Fin 8) t d)) ∗ (∃ d, owns (c : Thread nD τ) (st_7 m hO t) fullShare ((dats m hO 0 c).before (7 : Fin 8) t d)))
/-- What the body leaves at point `t`. -/
def bodyPost (c : Dev nD) (t : Fin (cfgM m hO).N) : sProp 𝕄 := iprop((dats m hO 0 c).Φ t.succ ∗ (dats m hO 0 c).owesAt () t.succ ∗ owns (c : Thread nD τ) (st_0 m hO t) fullShare ((dats m hO 0 c).after (0 : Fin 8) t) ∗ owns (c : Thread nD τ) (st_1 m hO t) fullShare ((dats m hO 0 c).after (1 : Fin 8) t) ∗ owns (c : Thread nD τ) (st_2 m hO t) fullShare ((dats m hO 0 c).after (2 : Fin 8) t) ∗ owns (c : Thread nD τ) (st_3 m hO t) fullShare ((dats m hO 0 c).after (3 : Fin 8) t) ∗ owns (c : Thread nD τ) (st_4 m hO t) fullShare ((dats m hO 0 c).after (4 : Fin 8) t) ∗ owns (c : Thread nD τ) (st_5 m hO t) fullShare ((dats m hO 0 c).after (5 : Fin 8) t) ∗ owns (c : Thread nD τ) (st_6 m hO t) fullShare ((dats m hO 0 c).after (6 : Fin 8) t) ∗ owns (c : Thread nD τ) (st_7 m hO t) fullShare ((dats m hO 0 c).after (7 : Fin 8) t))

set_option maxHeartbeats 2000000 in
/-- The body at every grid point takes what the pipeline hands it to what the pipeline expects back. -/
theorem sound_body (c : Dev nD) (t : Fin (cfgM m hO).N) : bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4, before0_5, before0_6]
  rw [show (dats m hO 0 c).Φ t.succ = (dats m hO 0 c).Φ t.castSucc from rfl, show (dats m hO 0 c).owesAt () t.succ = (dats m hO 0 c).owesAt () t.castSucc from rfl, after0_0, after0_1, after0_2, after0_3, after0_4, after0_5, after0_6, after0_7]
  rw [show (dats m hO 0 c).Φ t.castSucc = iprop(Pipeline.ΦA spec0 c ∗ Pipeline.ΦT pre0 (tbl m) c) from rfl, PhiT_eq]
  iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) (Memref.whole main_v14) (Memref.isWhole_whole _) (tbl m 1) _ _ _ _ _ _ _ _ _ _ _ _ _ _ _ _ (ib0 m hO c t) (ib1 m hO c t) (ib2 m hO c t) (ib3 m hO c t) (ib4 m hO c t) (ib5 m hO c t) (ib6 m hO c t) (nw m) rfl) Set.univ _)
  isplitl [HT1]
  · iexact HT1
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _; iexact H7
  iintro ⟨HT1, H0, H1, H2, H3, H4, H5, H6, H7⟩
  isplitl [HA HT0 HT1]
  · isplitl [HA]
    · iexact HA
    isplitl [HT0]
    · iexact HT0
    iexact HT1
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

theorem defs₀_row (t : Fin (cfgM m hO).N) : defs₀ (F := F) .tc (cfgM m hO).body ((cfgM m hO).bodyArgs t ((cfgM m hO).slots t)) = bodyAt m hO t := by unfold defs₀; rw [Defs.onTc_tc]

theorem idle7 (i : grid0.Coords) (n : BitVec 32) : (!(k0_cond1 i n == 1#1) && !(k0_cond2 i n == 1#1)) = false := by
  by_cases h : k0_cond1 i n = 1#1
  · rw [h]; rfl
  · rw [(cond2_iff i n).mpr h, Bool.and_comm]; rfl

theorem idle0_eq (pf : pre0.Contents (Elt F)) (w : Fin 8) (i : grid0.Coords) : idle0 pf w i = false := by
  match w with
  | 0 => rfl
  | 1 => rfl
  | 2 => rfl
  | 3 => rfl
  | 4 => rfl
  | 5 => rfl
  | 6 => rfl
  | 7 => exact idle7 i _

theorem idle_gen (a : (pcfg0 (F := F)).Adm) (w : Fin (cfg0 a).W) (i : (cfg0 a).grid.Coords) : (cfg0 a).idle w i = false :=
  idle0_eq a.1 w i

/-- Where no window is idle at any point, the body's obligation is the plain one. -/
theorem obligation_of_never_idle {cfg : Cfg sig Λ₀} {c : Dev nD} (dat : Dat τ (Elt F) Unit ℕ (UR sig nD τ) ℕ cfg c) (hi : cfg.idle = fun _ _ => false)
    (h : ∀ t : Fin cfg.N, iprop(dat.Φ t.castSucc ∗ dat.owesAt () t.castSucc ∗ bigSep Finset.univ fun w : Fin cfg.W => iprop(∃ d, owns c.tc ((cfg.win w).stage (cfg.slots t w)) fullShare (dat.before w t d)))
      ⊢ wp frame (wpE (defs₀ (F := F)) Variants.none c.tc none) Set.univ (defs₀ (F := F) .tc cfg.body (cfg.bodyArgs t (cfg.slots t))) fun _ =>
          iprop(dat.Φ t.succ ∗ dat.owesAt () t.succ ∗ bigSep Finset.univ fun w : Fin cfg.W => owns c.tc ((cfg.win w).stage (cfg.slots t w)) fullShare (dat.after w t))) :
    BodyObligation dat (defs₀ (F := F)) Variants.none () Set.univ := fun t => by
  rw [hi]
  exact h t

theorem body_obligation (c : Dev nD) : BodyObligation (dats (F := F) m hO 0 c) (defs₀ (F := F)) Variants.none () Set.univ :=
  obligation_of_never_idle (dats (F := F) m hO 0 c) (funext fun w => funext fun i => idle_gen (adm m hO) w i) fun t => by
    rw [bigSep_W0, bigSep_W0, defs₀_row]
    exact sound_body m hO c t

set_option backward.isDefEq.respectTransparency.types false in
/-- The whole run: every window's array ends at what its write-backs make of it, every other buffer as launched, every counter at zero. -/
theorem run_main : θ_run defs (onTc (τ := τ) (main (F := F))) (s₀ m ρ) (fun r => Pipeline.FramePost (Pipeline.pin pcfgs (fun _ => adm m hO)) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl) (howed := fun _ _ => rfl) (V := V m) (hmain := hmain m Variants.none) (hA := A_eq m hO) (hpf := V_pre m) (hΦ := fun _ _ => rfl)

set_option backward.isDefEq.respectTransparency.types false in
/-- The frame: the arguments end as launched, every counter at zero, and the result array is what the write-backs make of it. -/
theorem run (m : (ℓ : Loc nD τ sig) → Buf (Elt F) ℓ) (ρ : Dev nD → PrngReg) (hO : Ok m) :
    θ_run defs (onTc (τ := τ) (main (F := F))) ⟨m, fun _ => 0, ρ⟩ (fun r => (∀ c : Dev nD,
      (r.2.mem ((c.tc : Thread nD τ).loc main_v15) = (dats m hO 0 c).arrAt (7 : Fin 8) (cfgM m hO).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (7 : Fin 8),
      ((h.1 c).1 (0 : Fin 8)).trans (((dats m hO 0 c).arrAt_in (0 : Fin 8) rfl _).trans ((A_eq m hO c (0 : Fin 8)).trans (V_main_arg0 m c))),
      ((h.1 c).2 main_arg1 (Pipeline.mem_restRefs_of main_arg1 (by decide) (by decide : ∀ w : Fin 8, (spec0 w).arr.view.ref ≠ main_arg1))).trans (V_main_arg1 m c),
      ((h.1 c).2 main_arg2 (Pipeline.mem_restRefs_of main_arg2 (by decide) (by decide : ∀ w : Fin 8, (spec0 w).arr.view.ref ≠ main_arg2))).trans (V_main_arg2 m c),
      ((h.1 c).2 main_arg3 (Pipeline.mem_restRefs_of main_arg3 (by decide) (by decide : ∀ w : Fin 8, (spec0 w).arr.view.ref ≠ main_arg3))).trans (V_main_arg3 m c),
      ((h.1 c).2 main_arg4 (Pipeline.mem_restRefs_of main_arg4 (by decide) (by decide : ∀ w : Fin 8, (spec0 w).arr.view.ref ≠ main_arg4))).trans (V_main_arg4 m c),
      ((h.1 c).2 main_arg5 (Pipeline.mem_restRefs_of main_arg5 (by decide) (by decide : ∀ w : Fin 8, (spec0 w).arr.view.ref ≠ main_arg5))).trans (V_main_arg5 m c)⟩, h.2⟩) (run_main m ρ hO)

end Cert.Kernel3Ideal.EX

end
-- ==== Proof.EX.Tables.lean ====
module

public import proofs.«01_k».proof.Proof.EX.Body
public import Idealize.ShloMosaic.Lib.Routing.Words
public import Idealize.ShloMosaic.Lib.PlanTiles.Rows
public import Idealize.ShloMosaic.Lib.StableHlo.Predicate
public import Idealize.ShloMosaic.Lib.Pointwise

@[expose] public section

set_option maxRecDepth 16384

noncomputable section

namespace Cert.Kernel3Ideal.EX

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Routing Idealize.ShloMosaic.WordCmp Idealize.ShloMosaic.StableHlo.Predicate

/-! ## Words -/

/-- The pair of blocks a step reads, as its index map computes it: the lesser of the step and the floor of half of `v1`. -/
def pairOf (a v1 : BitVec 32) : BitVec 32 :=
  Scalar.minsi a (Scalar.select
    (Scalar.andi
      (Scalar.cmpi .ne (Scalar.subi (Scalar.extui (Scalar.cmpi .sgt v1 0#32) : BitVec 32) (Scalar.extui (Scalar.cmpi .slt v1 0#32)))
        (Scalar.subi (Scalar.extui (Scalar.cmpi .sgt 2#32 0#32)) (Scalar.extui (Scalar.cmpi .slt 2#32 0#32))))
      (Scalar.cmpi .ne (Scalar.remsi v1 2#32) 0#32))
    (Scalar.subi (Scalar.divsi v1 2#32) 1#32) (Scalar.divsi v1 2#32))

theorem minsi_nat {a b : ℕ} (ha : a < 2 ^ 31) (hb : b < 2 ^ 31) : IntOp.minsi (BitVec.ofNat 32 a) (BitVec.ofNat 32 b) = BitVec.ofNat 32 (min a b) := by
  unfold IntOp.minsi
  have h : (BitVec.ofNat 32 a).slt (BitVec.ofNat 32 b) = decide (a < b) := by
    show decide ((BitVec.ofNat 32 a).toInt < (BitVec.ofNat 32 b).toInt) = _
    rw [toInt_ofNat_of_lt ha, toInt_ofNat_of_lt hb]
    simp
  rw [h]
  by_cases hab : a < b
  · rw [decide_eq_true hab, if_pos rfl, min_eq_left (le_of_lt hab)]
  · rw [decide_eq_false hab, if_neg (by decide), min_eq_right (not_lt.mp hab)]

theorem divsi_two_nat {k : ℕ} (hk : k < 2 ^ 31) : Scalar.divsi (BitVec.ofNat 32 k) 2#32 = BitVec.ofNat 32 (k / 2) :=
  divsi_word _ hk (by decide) (by decide)

theorem pairOf_nat {a k : ℕ} (ha : a < 2 ^ 31) (hk : k < 2 ^ 31) : pairOf (BitVec.ofNat 32 a) (BitVec.ofNat 32 k) = BitVec.ofNat 32 (min a (k / 2)) := by
  have hlt : Scalar.cmpi .slt (BitVec.ofNat 32 k) 0#32 = 0#1 := by
    show BitVec.ofBool (decide ((BitVec.ofNat 32 k).toInt < 0)) = 0#1
    rw [toInt_ofNat_of_lt hk, decide_eq_false (by omega)]; rfl
  have hs : Scalar.andi
      (Scalar.cmpi .ne (Scalar.subi (Scalar.extui (Scalar.cmpi .sgt (BitVec.ofNat 32 k) 0#32) : BitVec 32) (Scalar.extui (Scalar.cmpi .slt (BitVec.ofNat 32 k) 0#32)))
        (Scalar.subi (Scalar.extui (Scalar.cmpi .sgt 2#32 0#32)) (Scalar.extui (Scalar.cmpi .slt 2#32 0#32))))
      (Scalar.cmpi .ne (Scalar.remsi (BitVec.ofNat 32 k) 2#32) 0#32) = 0#1 := by
    rw [hlt]
    rcases Nat.eq_zero_or_pos k with rfl | h0
    · rw [show Scalar.remsi (BitVec.ofNat 32 0) 2#32 = 0#32 from remsi_word _ (by decide) (by decide) (by decide)]
      decide
    · have hg : Scalar.cmpi .sgt (BitVec.ofNat 32 k) 0#32 = 1#1 := by
        show BitVec.ofBool (decide (0 < (BitVec.ofNat 32 k).toInt)) = 1#1
        rw [toInt_ofNat_of_lt hk, decide_eq_true (by omega)]; rfl
      rw [hg]
      generalize Scalar.cmpi .ne (Scalar.remsi (BitVec.ofNat 32 k) 2#32) 0#32 = b
      revert b
      decide
  unfold pairOf
  rw [hs, divsi_two_nat hk]
  exact minsi_nat ha (by omega)

/-- A signed word at least one, less one. -/
theorem pred_word (n : BitVec 32) (h : 1 ≤ n.toInt) : n.toNat < 2 ^ 31 ∧ 1 ≤ n.toNat ∧ IntOp.subi n 1#32 = BitVec.ofNat 32 (n.toNat - 1) := by
  have h31 : n.toNat < 2 ^ 31 := by
    by_contra hc
    have := BitVec.toInt_eq_toNat_cond n
    rw [if_neg (by omega)] at this
    have := n.isLt
    omega
  have hi : n.toInt = n.toNat := toInt_eq_toNat_of_lt_half h31
  have h1 : 1 ≤ n.toNat := by omega
  refine ⟨h31, h1, ?_⟩
  apply BitVec.eq_of_toNat_eq
  show (n - 1#32).toNat = _
  rw [BitVec.toNat_sub, BitVec.toNat_ofNat, BitVec.toNat_ofNat, show (1 : ℕ) % 2 ^ 32 = 1 from rfl]
  omega

/-- Where the host looks a block's expert up: the lesser of the block and the last block in use. -/
def lookOf (p n : BitVec 32) : BitVec 32 :=
  let v7 := IntOp.minsi p (IntOp.subi n 1#32)
  Scalar.select (IntOp.cmpi .slt v7 0#32) (IntOp.addi v7 392#32) v7

theorem lookOf_nat {p : ℕ} (hp : p < 2 ^ 31) (n : BitVec 32) (h : 1 ≤ n.toInt) : lookOf (BitVec.ofNat 32 p) n = BitVec.ofNat 32 (min p (n.toNat - 1)) := by
  obtain ⟨h31, h1, e⟩ := pred_word n h
  unfold lookOf
  rw [e, minsi_nat hp (by omega)]
  have hlt : IntOp.cmpi .slt (BitVec.ofNat 32 (min p (n.toNat - 1))) 0#32 = 0#1 := by
    show BitVec.ofBool (decide ((BitVec.ofNat 32 (min p (n.toNat - 1))).toInt < 0)) = 0#1
    rw [toInt_ofNat_of_lt (lt_of_le_of_lt (min_le_left _ _) hp), decide_eq_false (by omega)]; rfl
  show Scalar.select (IntOp.cmpi .slt (BitVec.ofNat 32 (min p (n.toNat - 1))) 0#32) _ _ = _
  rw [hlt]
  rfl

/-! ## The tables -/

variable (m : (ℓ : Loc nD τ sig) → Buf (Elt F) ℓ)

/-- The blocks' experts, as launched. -/
def be (p : Fin 392) : BitVec 32 := m ((0 : Dev nD), main_arg1) (ix1 (n0 := 392) p)
/-- The count of the blocks in use, as launched. -/
def nv : BitVec 32 := m ((0 : Dev nD), main_arg2) z1

/-- What the proofs read of the precondition: the experts are the sixteen, and some block is in use. -/
structure Disp : Prop where
  lo : ∀ p, 0 ≤ (be m p).toInt
  hi : ∀ p, (be m p).toInt < 16
  one : 1 ≤ (nv m).toInt

theorem tbl1_eq : tbl m 1 z1 = nv m := congrFun (V_main_arg2 m 0) z1

/-- The lesser of a block and the last block in use. -/
def last (p : ℕ) : Fin 392 := ⟨min (min p ((nv m).toNat - 1)) 391, by omega⟩

theorem tbl0_eq (hD : Disp m) (p : Fin 392) : tbl m 0 (ix1 (n0 := 392) p) = be m (last m p.val) := by
  have hg : tbl m 0 = Host.gather gather_S392_S392x1_S392_n_0_n_n_0_1_1 (m ((0 : Dev nD), main_arg1))
      (broadcastInDim S392x1 ![0] bcast_S392_S392x1_0 (select
        (cmpi .slt (minsi (iotaInDim S392 32 0) (broadcastInDim S392 ![] bcast_S_S392 (subi (shapeCast S_ (m ((0 : Dev nD), main_arg2)) shapeCasts_S1_S_) (constantI S_ 32 1#32)))) (broadcastInDim S392 ![] bcast_S_S392 (constantI S_ 32 0#32)))
        (addi (minsi (iotaInDim S392 32 0) (broadcastInDim S392 ![] bcast_S_S392 (subi (shapeCast S_ (m ((0 : Dev nD), main_arg2)) shapeCasts_S1_S_) (constantI S_ 32 1#32)))) (broadcastInDim S392 ![] bcast_S_S392 (constantI S_ 32 392#32)))
        (minsi (iotaInDim S392 32 0) (broadcastInDim S392 ![] bcast_S_S392 (subi (shapeCast S_ (m ((0 : Dev nD), main_arg2)) shapeCasts_S1_S_) (constantI S_ 32 1#32)))))) := by
    show StableHlo.after hostOps0 (fun b => m (0, b)) main_v14 = _
    after_results_simp
    rfl
  rw [hg]
  have e1 : (ix1 (n0 := 392) p) = Shape.Idx.ofFin p := by
    funext a
    obtain rfl : a = (0 : Fin 1) := Subsingleton.elim _ _
    exact Fin.ext rfl
  rw [e1, gather_take _ rfl rfl rfl rfl _ _ p (by decide)]
  have hc : shapeCast S_ (m ((0 : Dev nD), Proc.tc.devRef main_arg2)) shapeCasts_S1_S_ = fun _ => nv m := funext fun i => congrArg (m ((0 : Dev nD), Proc.tc.devRef main_arg2)) (idx1_eq _)
  rw [hc]
  have hl : ∀ (w : BitVec 32), w = BitVec.ofNat 32 (min p.val ((nv m).toNat - 1)) → min w.toInt.toNat (392 - 1) = min (min p.val ((nv m).toNat - 1)) 391 := by
    rintro w rfl
    rw [toInt_ofNat_of_lt (by have := p.isLt; omega)]
    rfl
  have hw := hl _ (lookOf_nat (p := p.val) (by have := p.isLt; omega) (nv m) hD.one)
  unfold be last
  refine congrArg (m ((0 : Dev nD), Proc.tc.devRef main_arg1)) ?_
  funext a
  obtain rfl : a = (0 : Fin 1) := Subsingleton.elim _ _
  exact Fin.ext hw

/-- Every entry of the looked-up table is one of the sixteen experts. -/
theorem tbl0_lt (hD : Disp m) (p : Fin 392) : (tbl m 0 (ix1 (n0 := 392) p)).toNat < 16 := by
  rw [tbl0_eq m hD]
  have hl := hD.lo (last m p.val)
  have hh := hD.hi (last m p.val)
  have := toInt_nonneg_iff_lt_half (be m (last m p.val))
  have h31 := this.mp hl
  rw [toInt_eq_toNat_of_lt_half h31] at hh
  omega

theorem t0_eq (hD : Disp m) (i : grid0.Coords) : cc0_transform_0 inb_S1_S1_0 numel1_S1 (tbl m) i = ![min (i 0).val (((nv m).toNat - 1) / 2), 0] := by
  obtain ⟨h31, h1, e⟩ := pred_word (nv m) hD.one
  have hi : (i 0).val < 196 := (i 0).isLt
  have hp : pairOf (BitVec.ofNat 32 (i 0).val) (IntOp.subi (nv m) 1#32) = BitVec.ofNat 32 (min (i 0).val (((nv m).toNat - 1) / 2)) := by
    rw [e]; exact pairOf_nat (by omega) (by omega)
  have h0 : cc0_transform_0 inb_S1_S1_0 numel1_S1 (tbl m) i = ![(pairOf (BitVec.ofNat 32 (i 0).val) (IntOp.subi (tbl m 1 z1) 1#32)).toNat, 0] := by
    unfold cc0_transform_0
    rw [show Pipeline.Prefetch.Contents.at (tbl m) 1 (Rect.unit (s := S1) ![0] S1.size inb_S1_S1_0) numel1_S1 = tbl m 1 z1 from congrArg (tbl m 1) (idx1_eq _)]
    rfl
  rw [h0, tbl1_eq, hp, BitVec.toNat_ofNat, Nat.mod_eq_of_lt (by omega)]

/-- The first block of a step. -/
def blk0 (i : grid0.Coords) : Fin 392 := ⟨2 * (i 0).val, by have h : (i 0).val < 196 := (i 0).isLt; omega⟩
/-- The second block of a step. -/
def blk1 (i : grid0.Coords) : Fin 392 := ⟨2 * (i 0).val + 1, by have h : (i 0).val < 196 := (i 0).isLt; omega⟩

theorem off0_eq : ∀ i : Fin 196, (Scalar.indexCast (Scalar.addi (Scalar.muli (BitVec.ofNat 32 i.val) 2#32) 0#32)).toNat = 2 * i.val := by decide +kernel
theorem off1_eq : ∀ i : Fin 196, (Scalar.indexCast (Scalar.addi (Scalar.muli (BitVec.ofNat 32 i.val) 2#32) 1#32)).toNat = 2 * i.val + 1 := by decide +kernel

theorem first0_eq (i : grid0.Coords) (h : ∀ a, (![(Scalar.indexCast (Scalar.addi (Scalar.muli (BitVec.ofNat 32 (i 0).val) 2#32) 0#32)).toNat] : Fin 1 → Nat) a + S1.size a ≤ S392.size a) :
    (Rect.unit (s := S392) ![(Scalar.indexCast (Scalar.addi (Scalar.muli (BitVec.ofNat 32 (i 0).val) 2#32) 0#32)).toNat] S1.size h).emb (Shape.Idx.first (numel1_S1.symm ▸ Nat.one_pos)) = ix1 (n0 := 392) (blk0 i) := by
  funext a
  obtain rfl : a = (0 : Fin 1) := Subsingleton.elim _ _
  apply Fin.ext
  have e := off0_eq (i 0)
  rw [idx1_eq (Shape.Idx.first (numel1_S1.symm ▸ Nat.one_pos))]
  simp [Rect.emb, blk0, z1]
  exact e

theorem first1_eq (i : grid0.Coords) (h : ∀ a, (![(Scalar.indexCast (Scalar.addi (Scalar.muli (BitVec.ofNat 32 (i 0).val) 2#32) 1#32)).toNat] : Fin 1 → Nat) a + S1.size a ≤ S392.size a) :
    (Rect.unit (s := S392) ![(Scalar.indexCast (Scalar.addi (Scalar.muli (BitVec.ofNat 32 (i 0).val) 2#32) 1#32)).toNat] S1.size h).emb (Shape.Idx.first (numel1_S1.symm ▸ Nat.one_pos)) = ix1 (n0 := 392) (blk1 i) := by
  funext a
  obtain rfl : a = (0 : Fin 1) := Subsingleton.elim _ _
  apply Fin.ext
  have e := off1_eq (i 0)
  rw [idx1_eq (Shape.Idx.first (numel1_S1.symm ▸ Nat.one_pos))]
  simp [Rect.emb, blk1, z1]
  exact e

theorem t1_eq (hD : Disp m) (i : grid0.Coords) : cc0_transform_1 k0_off1_inb numel1_S1 (tbl m) i = ![(be m (last m (blk0 i).val)).toNat, 0, 0] := by
  rw [← tbl0_eq m hD]
  exact congrArg (fun x : S392.Idx => (![(tbl m 0 x : BitVec 32).toNat, 0, 0] : Fin 3 → Nat)) (first0_eq i _)

theorem t2_eq (hD : Disp m) (i : grid0.Coords) : cc0_transform_2 k0_off1_inb numel1_S1 (tbl m) i = ![(be m (last m (blk0 i).val)).toNat, 0, 0] := by
  rw [← tbl0_eq m hD]
  exact congrArg (fun x : S392.Idx => (![(tbl m 0 x : BitVec 32).toNat, 0, 0] : Fin 3 → Nat)) (first0_eq i _)

theorem t3_eq (hD : Disp m) (i : grid0.Coords) : cc0_transform_3 k0_off1_inb numel1_S1 (tbl m) i = ![(be m (last m (blk0 i).val)).toNat, 0, 0] := by
  rw [← tbl0_eq m hD]
  exact congrArg (fun x : S392.Idx => (![(tbl m 0 x : BitVec 32).toNat, 0, 0] : Fin 3 → Nat)) (first0_eq i _)

theorem t4_eq (hD : Disp m) (i : grid0.Coords) : cc0_transform_4 k0_off1_inb numel1_S1 (tbl m) i = ![(be m (last m (blk1 i).val)).toNat, 0, 0] := by
  rw [← tbl0_eq m hD]
  exact congrArg (fun x : S392.Idx => (![(tbl m 0 x : BitVec 32).toNat, 0, 0] : Fin 3 → Nat)) (first1_eq i _)

theorem t5_eq (hD : Disp m) (i : grid0.Coords) : cc0_transform_5 k0_off1_inb numel1_S1 (tbl m) i = ![(be m (last m (blk1 i).val)).toNat, 0, 0] := by
  rw [← tbl0_eq m hD]
  exact congrArg (fun x : S392.Idx => (![(tbl m 0 x : BitVec 32).toNat, 0, 0] : Fin 3 → Nat)) (first1_eq i _)

theorem t6_eq (hD : Disp m) (i : grid0.Coords) : cc0_transform_6 k0_off1_inb numel1_S1 (tbl m) i = ![(be m (last m (blk1 i).val)).toNat, 0, 0] := by
  rw [← tbl0_eq m hD]
  exact congrArg (fun x : S392.Idx => (![(tbl m 0 x : BitVec 32).toNat, 0, 0] : Fin 3 → Nat)) (first1_eq i _)

theorem be_lt (hD : Disp m) (p : Fin 392) : (be m p).toNat < 16 := by
  have hl := hD.lo p
  have hh := hD.hi p
  have h31 := (toInt_nonneg_iff_lt_half (be m p)).mp hl
  rw [toInt_eq_toNat_of_lt_half h31] at hh
  omega

theorem ok1 (x : ℕ) (hx : x < 16) (f : Fin 3 → ℕ) (hf : f = ![x, 0, 0]) :
    ∃ h : (∀ a, (f a + 1) * S1x1024x512.size a ≤ S16x1024x512.size a), EltTy.bits .bf16 = 32 ∨ (Rect.block (s := S16x1024x512) S1x1024x512.size f h).WholeWords (EltTy.packing .bf16) := by
  subst hf
  refine ⟨fun a => ?_, .inr (Affine.block_words_dvd (of_decide_eq_true rfl) (by decide))⟩
  match a with
  | ⟨0, _⟩ => show (x + 1) * 1 ≤ 16; omega
  | ⟨1, _⟩ => show (0 + 1) * 1024 ≤ 1024; omega
  | ⟨2, _⟩ => show (0 + 1) * 512 ≤ 512; omega

theorem ok3 (x : ℕ) (hx : x < 16) (f : Fin 3 → ℕ) (hf : f = ![x, 0, 0]) :
    ∃ h : (∀ a, (f a + 1) * S1x512x1024.size a ≤ S16x512x1024.size a), EltTy.bits .bf16 = 32 ∨ (Rect.block (s := S16x512x1024) S1x512x1024.size f h).WholeWords (EltTy.packing .bf16) := by
  subst hf
  refine ⟨fun a => ?_, .inr (Affine.block_words_dvd (of_decide_eq_true rfl) (by decide))⟩
  match a with
  | ⟨0, _⟩ => show (x + 1) * 1 ≤ 16; omega
  | ⟨1, _⟩ => show (0 + 1) * 512 ≤ 512; omega
  | ⟨2, _⟩ => show (0 + 1) * 1024 ≤ 1024; omega

theorem okx (x : ℕ) (hx : x < 196) (f : Fin 2 → ℕ) (hf : f = ![x, 0]) :
    ∃ h : (∀ a, (f a + 1) * S1024x1024.size a ≤ S200704x1024.size a), EltTy.bits .bf16 = 32 ∨ (Rect.block (s := S200704x1024) S1024x1024.size f h).WholeWords (EltTy.packing .bf16) := by
  subst hf
  refine ⟨fun a => ?_, .inr (Affine.block_words_dvd (of_decide_eq_true rfl) (by decide))⟩
  match a with
  | ⟨0, _⟩ => show (x + 1) * 1024 ≤ 200704; omega
  | ⟨1, _⟩ => show (0 + 1) * 1024 ≤ 1024; omega

/-- Every block the index maps name is inside its array. -/
theorem ok_of (hD : Disp m) : Ok m :=
  ⟨fun i => okx (min (i 0).val (((nv m).toNat - 1) / 2)) (lt_of_le_of_lt (min_le_left _ _) (i 0).isLt) _ (t0_eq m hD i),
   fun i => ok1 _ (be_lt m hD _) _ (t1_eq m hD i), fun i => ok1 _ (be_lt m hD _) _ (t2_eq m hD i), fun i => ok3 _ (be_lt m hD _) _ (t3_eq m hD i),
   fun i => ok1 _ (be_lt m hD _) _ (t4_eq m hD i), fun i => ok1 _ (be_lt m hD _) _ (t5_eq m hD i), fun i => ok3 _ (be_lt m hD _) _ (t6_eq m hD i)⟩

end Cert.Kernel3Ideal.EX

end
-- ==== Proof.EX.Pre.lean ====
module

public import proofs.«01_k».proof.Pre_dispatched
public import Idealize.ShloMosaic.Lib.Pointwise
public import Idealize.ShloMosaic.Lib.ReduceAll
public import Idealize.ShloMosaic.Lib.WordCmp
public import Idealize.ShloMosaic.Lib.StableHlo.Predicate

@[expose] public section

noncomputable section

namespace Cert.EX

open Idealize.ShloMosaic Idealize.ShloMosaic.TcCoe Cert.Pre_dispatched

/-- The side conditions of the precondition's operations. -/
theorem factsDispatched : Cert.Pre_dispatched.Facts :=
  ⟨by decide, by decide, by decide, by decide, by decide, by decide, by decide, by decide, by decide, by decide, by decide, by decide⟩

theorem both_one (a b : BitVec 1) (h : IntOp.andi a b = 1#1) : a = 1#1 ∧ b = 1#1 := by
  revert a b
  decide

theorem either_one (a b : BitVec 1) (h : IntOp.ori a b = 1#1) : a = 1#1 ∨ b = 1#1 := by
  revert a b
  decide

theorem of_bit (b : Bool) (h : BitVec.ofBool b = 1#1) : b = true := by
  revert b
  decide

variable [Cert.Pre_dispatched.Facts]
open Cert.Pre_dispatched.Facts

theorem idx1_eq (y : S1.Idx) : y = ix1 (n0 := 1) 0 := by
  funext a
  obtain rfl : a = (0 : Fin 1) := Subsingleton.elim _ _
  exact Fin.ext (by have h : (y 0).val < 1 := (y 0).isLt; show (y 0).val = 0; omega)

/-- The experts of the blocks and the count of the blocks in use, as the precondition has them. -/
theorem dispatched_words {F : FTy → Type} [FloatOps F] (x : FVec F S200704x1024 .bf16) (be : IVec S392 32) (nv : IVec S1 32) (g u : FVec F S16x1024x512 .f32) (d : FVec F S16x512x1024 .f32)
    (h : fn (F := F) x be nv g u d = fun _ => 1#1) :
    (∀ p, 0 ≤ (be p).toInt) ∧ (∀ p, (be p).toInt < 16) ∧ (∀ p, 1 ≤ (nv p).toInt) := by
  have h0 := congrFun h ix0
  unfold fn fn_part1 at h0
  obtain ⟨h1, -⟩ := both_one _ _ h0
  obtain ⟨hb, hn⟩ := both_one _ _ h1
  haveI : Subsingleton S_.Idx := ⟨fun a b => funext fun x => x.elim0⟩
  refine ⟨fun p => ?_, fun p => ?_, fun p => ?_⟩
  · exact of_decide_eq_true (of_bit (decide (0 ≤ (be p).toInt)) (both_one _ _ (Host.reduce_andi_all _ _ _ _ _ hb p)).1)
  · exact of_decide_eq_true (of_bit (decide ((be p).toInt < 16)) (both_one _ _ (Host.reduce_andi_all _ _ _ _ _ hb p)).2)
  · exact of_decide_eq_true (of_bit (decide (1 ≤ (nv p).toInt)) (Host.reduce_andi_all _ _ _ _ _ hn p))

/-- The row of the dispatched tokens a block's row is. -/
def rowOf (b : Fin 392) (r : Fin 512) : Fin 200704 := ⟨b.val * 512 + r.val, by omega⟩

theorem zero_apply (x : FVec Ideal S200704x1024 .bf16) (n : BitVec 32) (b : Fin 392) (r : Fin 512) (j : Fin 1024) :
    ori (broadcastInDim S392x512x1024 ![0, 1, 2] bcast_S392x1x1_S392x512x1024_0_1_2 (broadcastInDim S392x1x1 ![0] bcast_S392_S392x1x1_0
          (cmpi .slt (iotaInDim S392 32 0) (broadcastInDim S392 ![] bcast_S_S392 (fun _ : S_.Idx => n)))))
        (cmpf .oeq (shapeCast S392x512x1024 (extf .f32 x bitsLt_bf16_f32) shapeCasts_S200704x1024_S392x512x1024) (broadcastInDim S392x512x1024 ![] bcast_S_S392x512x1024 (constant (F := Ideal) S_ .f32 0x00000000#32)))
        (ix3 (n0 := 392) (n1 := 512) (n2 := 1024) b r j)
      = IntOp.ori (IntOp.cmpi .slt (BitVec.ofNat 32 b.val) n) (Ideal.cmp .oeq (x (ix2 (n0 := 200704) (n1 := 1024) (rowOf b r) j)) 0) := by
  unfold rowOf
  pointwise []

/-- The rows of the blocks not in use are zero. -/
theorem dispatched_zero (x : FVec Ideal S200704x1024 .bf16) (be : IVec S392 32) (nv : IVec S1 32) (g u : FVec Ideal S16x1024x512 .f32) (d : FVec Ideal S16x512x1024 .f32)
    (h : fn (F := Ideal) x be nv g u d = fun _ => 1#1) (b : Fin 392) (hb : (nv (ix1 (n0 := 1) 0)).toNat ≤ b.val) (r : Fin 512) (j : Fin 1024) :
    x (ix2 (n0 := 200704) (n1 := 1024) (rowOf b r) j) = (0 : EReal) := by
  have hone := (dispatched_words x be nv g u d h).2.2 (ix1 (n0 := 1) 0)
  have h0 := congrFun h ix0
  unfold fn fn_part1 at h0
  obtain ⟨-, hz⟩ := both_one _ _ h0
  haveI : Subsingleton S_.Idx := ⟨fun a b => funext fun x => x.elim0⟩
  have hc : shapeCast S_ nv shapeCasts_S1_S_ = fun _ => nv (ix1 (n0 := 1) 0) := funext fun i => congrArg nv (idx1_eq _)
  have hv := Host.reduce_andi_all _ _ _ _ _ hz (ix3 (n0 := 392) (n1 := 512) (n2 := 1024) b r j)
  rw [hc] at hv
  rcases either_one _ _ ((zero_apply x _ b r j).symm.trans hv) with hl | hl
  · exfalso
    have hlt : (BitVec.ofNat 32 b.val).toInt < (nv (ix1 (n0 := 1) 0)).toInt := of_decide_eq_true (of_bit (decide _) hl)
    have hbi : (BitVec.ofNat 32 b.val).toInt = b.val := StableHlo.Predicate.toInt_ofNat_small _ (by have := b.isLt; omega)
    have hni := BitVec.toInt_eq_toNat_cond (nv (ix1 (n0 := 1) 0))
    rw [hbi] at hlt
    split at hni <;> omega
  · exact of_decide_eq_true (of_bit (decide _) hl)

end Cert.EX

end
-- ==== Proof.EX.Frames.lean ====
module

public import proofs.«01_k».proof.Defs
public import proofs.«01_k».proof.Proof.EX.Run
public import proofs.«01_k».proof.Proof.EX.Tables
public import proofs.«01_k».proof.Proof.EX.Pre
public import proofs.«01_k».proof.Proof.Gen.Kernel3
public import proofs.«01_k».proof.Proof.Gen.Reference3Ideal.Run

@[expose] public section

set_option maxRecDepth 16384

noncomputable section

namespace Cert.Proof

open Idealize.ShloMosaic Idealize.ShloMosaic.TcCoe Idealize.SL.Sem

section
variable {F : FTy → Type} [FloatOps F] [Cert.Pre_dispatched.Facts]

/-- The precondition on the idealized program's text, at any float values. -/
def Dispatched (m : (ℓ : Loc Cert.Kernel3Ideal.nD Cert.Kernel3Ideal.τ Cert.Kernel3Ideal.sig) → Buf (Elt F) ℓ) : Prop :=
  ∀ c : Dev Cert.Kernel3Ideal.nD,
    (Cert.Pre_dispatched.fn (F := F) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)))
      = (fun _ => 1#1)

theorem disp_of (m : (ℓ : Loc Cert.Kernel3Ideal.nD Cert.Kernel3Ideal.τ Cert.Kernel3Ideal.sig) → Buf (Elt F) ℓ) (h : Dispatched m) : Cert.Kernel3Ideal.EX.Disp m := by
  obtain ⟨h0, h1, h2⟩ := Cert.EX.dispatched_words _ _ _ _ _ _ (h 0)
  exact ⟨fun p => h0 _, fun p => h1 _, h2 _⟩

end

/-- The frame of the idealized program's text, read at the bit-exact values. -/
def frameExpertsAtBits [Cert.Pre_dispatched.Facts] : Prop :=
  ∀ (m : (ℓ : Loc Cert.Kernel3Ideal.nD Cert.Kernel3Ideal.τ Cert.Kernel3Ideal.sig) → Buf (Elt Bits) ℓ) (g : Dev Cert.Kernel3Ideal.nD → PrngReg), Dispatched m →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

variable [hPre : Cert.Pre_dispatched.Facts]

/-- It is proved by the run, which holds at any float values. -/
theorem frameExpertsAtBits_holds : frameExpertsAtBits := fun m ρ hp =>
  (θ_run Cert.Kernel3Ideal.defs _ _).mono (fun _ h => ⟨fun c => (h.1 c).2, h.2⟩) (Cert.Kernel3Ideal.EX.run (F := Bits) m ρ (Cert.Kernel3Ideal.EX.ok_of m (disp_of m hp)))

/-- The experts' frame: the idealized program has the kernel's text, so the two statements are the same. -/
theorem frame_experts : Cert.quiescent_Kernel3 :=
  (show frameExpertsAtBits = Cert.quiescent_Kernel3 by sl_kernel_rfl).mp frameExpertsAtBits_holds

/-- The idealized experts' frame. -/
theorem frame_experts_ideal : Cert.quiescent_Kernel3Ideal := fun m ρ hp =>
  (θ_run Cert.Kernel3Ideal.defs _ _).mono (fun _ h => ⟨fun c => (h.1 c).2, h.2⟩) (Cert.Kernel3Ideal.EX.run (F := Ideal) m ρ (Cert.Kernel3Ideal.EX.ok_of m (disp_of m hp)))

/-- The frame of the experts' reference: a program of host operations only, which has no semaphores. -/
theorem frame_reference_experts : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

end Cert.Proof

end
-- ==== Proof.EX.Spec.lean ====
module

public import Idealize.ShloMosaic.Lib.Pointwise.Index
public import Idealize.ShloMosaic.PureOps.Ideal

@[expose] public section

noncomputable section

namespace Cert.EX

open Idealize.ShloMosaic

/-- The dispatched tokens: row, feature. -/
abbrev Xs := (⟨2, ![200704, 1024]⟩ : Shape).Idx → EReal
/-- The experts' gate or up weights: expert, feature, hidden channel. -/
abbrev Wup := (⟨3, ![16, 1024, 512]⟩ : Shape).Idx → EReal
/-- The experts' down weights: expert, hidden channel, feature. -/
abbrev Wdn := (⟨3, ![16, 512, 1024]⟩ : Shape).Idx → EReal

/-- The gate's nonlinearity. -/
def silu (v : EReal) : EReal := v * Ideal.logistic v

/-- A hidden channel of a token. -/
def midOf (x : Fin 1024 → EReal) (g u : Fin 1024 → Fin 512 → EReal) (k : Fin 512) : EReal :=
  silu (∑ j : Fin 1024, x j * g j k) * (∑ j : Fin 1024, x j * u j k)

/-- What one expert makes of a token. -/
def ffn (x : Fin 1024 → EReal) (g u : Fin 1024 → Fin 512 → EReal) (d : Fin 512 → Fin 1024 → EReal) (c : Fin 1024) : EReal :=
  ∑ k : Fin 512, midOf x g u k * d k c

/-- An expert makes zero of a zero token. -/
theorem ffn_zero (x : Fin 1024 → EReal) (hx : ∀ j, x j = 0) (g u : Fin 1024 → Fin 512 → EReal) (d : Fin 512 → Fin 1024 → EReal) (c : Fin 1024) :
    ffn x g u d c = 0 := by
  unfold ffn
  refine Finset.sum_eq_zero fun k _ => ?_
  have h : midOf x g u k = 0 := by
    unfold midOf
    rw [show (∑ j : Fin 1024, x j * u j k) = 0 from Finset.sum_eq_zero fun j _ => by rw [hx j, zero_mul], mul_zero]
  rw [h, zero_mul]

/-- What expert `e` makes of row `n`. -/
def rowOut (x : Xs) (g u : Wup) (d : Wdn) (e : Fin 16) (n : Fin 200704) (c : Fin 1024) : EReal :=
  ffn (fun j => x (ix2 (n0 := 200704) (n1 := 1024) n j)) (fun j k => g (ix3 (n0 := 16) (n1 := 1024) (n2 := 512) e j k)) (fun j k => u (ix3 (n0 := 16) (n1 := 1024) (n2 := 512) e j k))
    (fun k c => d (ix3 (n0 := 16) (n1 := 512) (n2 := 1024) e k c)) c

/-- The expert a word names. -/
def expertOf (w : BitVec 32) : Fin 16 := ⟨min w.toNat 15, by omega⟩

/-- The block of a row. -/
def blockOf (n : Fin 200704) : Fin 392 := ⟨n.val / 512, by omega⟩

/-- The experts' results as a whole array: a row of a block in use is what the block's expert makes of it, every other row zero. -/
def moe (x : Xs) (be : Fin 392 → BitVec 32) (nv : ℕ) (g u : Wup) (d : Wdn) (n : Fin 200704) (c : Fin 1024) : EReal :=
  if (blockOf n).val < nv then rowOut x g u d (expertOf (be (blockOf n))) n c else 0

end Cert.EX

end
-- ==== Proof.EX.Pay.lean ====
module

public import proofs.«01_k».proof.Proof.Gen.Kernel3Ideal.Skeleton
public import proofs.«01_k».proof.Proof.EX.Spec
public import Idealize.ShloMosaic.Lib.Pointwise

@[expose] public section

set_option maxRecDepth 16384

noncomputable section

namespace Cert.Kernel3Ideal.EX

open Cert.Kernel3Ideal.Gen Cert.EX
open Idealize.ShloMosaic Idealize.ShloMosaic.TcCoe

theorem pay4_apply (x : Vec Ideal S512x1024 .bf16) (g u : Vec Ideal S1x1024x512 .bf16) (d : Vec Ideal S1x512x1024 .bf16) (r : Fin 512) (c : Fin 1024) :
    k0_pay4 (F := Ideal) x g u d (ix2 (n0 := 512) (n1 := 1024) r c)
      = ffn (fun j => x (ix2 (n0 := 512) (n1 := 1024) r j)) (fun j k => g (ix3 (n0 := 1) (n1 := 1024) (n2 := 512) 0 j k)) (fun j k => u (ix3 (n0 := 1) (n1 := 1024) (n2 := 512) 0 j k))
          (fun k c => d (ix3 (n0 := 1) (n1 := 512) (n2 := 1024) 0 k c)) c := by
  unfold ffn midOf silu
  pointwise [k0_pay4]

theorem pay1_apply (x : Vec Ideal S512x1024 .bf16) (g u : Vec Ideal S1x1024x512 .bf16) (d : Vec Ideal S1x512x1024 .bf16) (r : Fin 512) (c : Fin 1024) :
    k0_pay1 (F := Ideal) (k0_pay3 x g u) (k0_pay5 d) (constant S512x1024 .f32 0x00000000#32) (ix2 (n0 := 512) (n1 := 1024) r c)
      = ffn (fun j => x (ix2 (n0 := 512) (n1 := 1024) r j)) (fun j k => g (ix3 (n0 := 1) (n1 := 1024) (n2 := 512) 0 j k)) (fun j k => u (ix3 (n0 := 1) (n1 := 1024) (n2 := 512) 0 j k))
          (fun k c => d (ix3 (n0 := 1) (n1 := 512) (n2 := 1024) 0 k c)) c := by
  unfold ffn midOf silu
  pointwise [k0_pay1, k0_pay3, k0_pay5]

theorem pay2_apply (y : S1024x1024.Idx) : k0_pay2 (F := Ideal) y = (0 : EReal) := by
  show Ideal.ofBits .bf16 0x0000#16 = 0
  simp [Ideal.ofBits, Ideal.ieee]

end Cert.Kernel3Ideal.EX

end
-- ==== Proof.EX.Blocks.lean ====
module

public import proofs.«01_k».proof.Proof.EX.Run
public import proofs.«01_k».proof.Proof.EX.Tables
public import proofs.«01_k».proof.Proof.EX.Pay
public import Idealize.ShloMosaic.Lib.Pipeline.ValueKit

@[expose] public section

set_option maxRecDepth 16384

noncomputable section

namespace Cert.Kernel3Ideal.EX

open Cert.Kernel3Ideal.Gen Cert.EX
open Idealize.ShloMosaic Idealize.ShloMosaic.TcCoe
open Idealize.SL Idealize.SL.Sem
open Idealize.ShloMosaic.Pipeline (Dat Cfg Window)

/-! The windows' blocks read at an index, at any tables the pipeline admits. -/

section
variable (a : (pcfg0 (F := Ideal)).Adm) (t : Fin (cfg0 a).N)

theorem read0 (q : ℕ) (hq : q < 196) (h : cc0_transform_0 inb_S1_S1_0 numel1_S1 a.1 (grid0.coords t) = ![q, 0]) (X : Vec Ideal S200704x1024 .bf16) (r j : Fin 1024) :
    (((cfg0 a).win (0 : Fin 8)).blk t).view.read (Elt Ideal) X (ix2 (n0 := 1024) (n1 := 1024) r j) = X (ix2 (n0 := 200704) (n1 := 1024) ⟨1024 * q + r.val, by omega⟩ j) := by
  have hi : (pcfg0.win a (0 : Fin 8)).index t = ![q, 0] := h
  blk_simp
  congr 1
  blk_ext [hi]

theorem read1 (e : Fin 16) (h : cc0_transform_1 k0_off1_inb numel1_S1 a.1 (grid0.coords t) = ![e.val, 0, 0]) (X : Vec Ideal S16x1024x512 .bf16) (r : Fin 1024) (j : Fin 512) :
    (((cfg0 a).win (1 : Fin 8)).blk t).view.read (Elt Ideal) X (ix3 (n0 := 1) (n1 := 1024) (n2 := 512) 0 r j) = X (ix3 (n0 := 16) (n1 := 1024) (n2 := 512) e r j) := by
  have hi : (pcfg0.win a (1 : Fin 8)).index t = ![e.val, 0, 0] := h
  blk_simp
  congr 1
  blk_ext [hi]

theorem read2 (e : Fin 16) (h : cc0_transform_2 k0_off1_inb numel1_S1 a.1 (grid0.coords t) = ![e.val, 0, 0]) (X : Vec Ideal S16x1024x512 .bf16) (r : Fin 1024) (j : Fin 512) :
    (((cfg0 a).win (2 : Fin 8)).blk t).view.read (Elt Ideal) X (ix3 (n0 := 1) (n1 := 1024) (n2 := 512) 0 r j) = X (ix3 (n0 := 16) (n1 := 1024) (n2 := 512) e r j) := by
  have hi : (pcfg0.win a (2 : Fin 8)).index t = ![e.val, 0, 0] := h
  blk_simp
  congr 1
  blk_ext [hi]

theorem read4 (e : Fin 16) (h : cc0_transform_4 k0_off1_inb numel1_S1 a.1 (grid0.coords t) = ![e.val, 0, 0]) (X : Vec Ideal S16x1024x512 .bf16) (r : Fin 1024) (j : Fin 512) :
    (((cfg0 a).win (4 : Fin 8)).blk t).view.read (Elt Ideal) X (ix3 (n0 := 1) (n1 := 1024) (n2 := 512) 0 r j) = X (ix3 (n0 := 16) (n1 := 1024) (n2 := 512) e r j) := by
  have hi : (pcfg0.win a (4 : Fin 8)).index t = ![e.val, 0, 0] := h
  blk_simp
  congr 1
  blk_ext [hi]

theorem read5 (e : Fin 16) (h : cc0_transform_5 k0_off1_inb numel1_S1 a.1 (grid0.coords t) = ![e.val, 0, 0]) (X : Vec Ideal S16x1024x512 .bf16) (r : Fin 1024) (j : Fin 512) :
    (((cfg0 a).win (5 : Fin 8)).blk t).view.read (Elt Ideal) X (ix3 (n0 := 1) (n1 := 1024) (n2 := 512) 0 r j) = X (ix3 (n0 := 16) (n1 := 1024) (n2 := 512) e r j) := by
  have hi : (pcfg0.win a (5 : Fin 8)).index t = ![e.val, 0, 0] := h
  blk_simp
  congr 1
  blk_ext [hi]

theorem read3 (e : Fin 16) (h : cc0_transform_3 k0_off1_inb numel1_S1 a.1 (grid0.coords t) = ![e.val, 0, 0]) (X : Vec Ideal S16x512x1024 .bf16) (r : Fin 512) (j : Fin 1024) :
    (((cfg0 a).win (3 : Fin 8)).blk t).view.read (Elt Ideal) X (ix3 (n0 := 1) (n1 := 512) (n2 := 1024) 0 r j) = X (ix3 (n0 := 16) (n1 := 512) (n2 := 1024) e r j) := by
  have hi : (pcfg0.win a (3 : Fin 8)).index t = ![e.val, 0, 0] := h
  blk_simp
  congr 1
  blk_ext [hi]

theorem read6 (e : Fin 16) (h : cc0_transform_6 k0_off1_inb numel1_S1 a.1 (grid0.coords t) = ![e.val, 0, 0]) (X : Vec Ideal S16x512x1024 .bf16) (r : Fin 512) (j : Fin 1024) :
    (((cfg0 a).win (6 : Fin 8)).blk t).view.read (Elt Ideal) X (ix3 (n0 := 1) (n1 := 512) (n2 := 1024) 0 r j) = X (ix3 (n0 := 16) (n1 := 512) (n2 := 1024) e r j) := by
  have hi : (pcfg0.win a (6 : Fin 8)).index t = ![e.val, 0, 0] := h
  blk_simp
  congr 1
  blk_ext [hi]

theorem coords0 : ∀ t : Fin grid0.N, (grid0.coords t 0).val = t.val := by decide +kernel
theorem N_eq : grid0.N = 196 := by decide

theorem index7 : ((cfg0 a).win (7 : Fin 8)).index t = ![t.val, 0] := by
  have h : ∀ i : Fin 196, (BitVec.ofNat 32 i.val).toNat = i.val := by decide +kernel
  have e : cc0_transform_7 (grid0.coords t) = ![t.val, 0] := by
    unfold cc0_transform_7
    dsimp only
    rw [h (grid0.coords t 0), coords0 t]
    rfl
  exact e

theorem flush7 : ((cfg0 a).win (7 : Fin 8)).flush t = true := by
  unfold Window.flush
  refine Bool.and_eq_true_iff.mpr ⟨rfl, ?_⟩
  by_cases ht : t.val + 1 = grid0.N
  · exact Bool.or_eq_true_iff.mpr (.inl (decide_eq_true ht))
  · refine Bool.or_eq_true_iff.mpr (.inr (decide_eq_true ⟨lt_of_le_of_ne t.isLt ht, fun he => ?_⟩))
    rw [index7, index7] at he
    have h0 := congrFun he (0 : Fin 2)
    have h1 : t.val + 1 = t.val := h0
    omega

theorem covers7 : ((cfg0 a).win (7 : Fin 8)).Covers := by
  refine ⟨fun x => ?_, fun β => ?_⟩
  · match x with
    | ⟨0, _⟩ => show 0 < 1024; omega
    | ⟨1, _⟩ => show 0 < 1024; omega
  · have h0 : (β (0 : Fin 2)).val < 196 := lt_of_lt_of_eq (β (0 : Fin 2)).isLt (show (200704 + 1024 - 1) / 1024 = 196 by norm_num)
    have h1 : (β (1 : Fin 2)).val < 1 := lt_of_lt_of_eq (β (1 : Fin 2)).isLt (show (1024 + 1024 - 1) / 1024 = 1 by norm_num)
    refine ⟨⟨(β (0 : Fin 2)).val, lt_of_lt_of_eq h0 N_eq.symm⟩, flush7 a _, fun x => ⟨?_, .inl rfl⟩⟩
    rw [index7]
    match x with
    | ⟨0, _⟩ => rfl
    | ⟨1, _⟩ => exact (Nat.lt_one_iff.mp h1).symm

end

end Cert.Kernel3Ideal.EX

end
-- ==== Proof.EX.Value.lean ====
module

public import proofs.«01_k».proof.Proof.EX.Blocks
public import proofs.«01_k».proof.Proof.EX.Pre
public import Idealize.ShloMosaic.Lib.StableHlo.Predicate

@[expose] public section

set_option maxRecDepth 16384

noncomputable section

namespace Cert.Kernel3Ideal.EX

open Cert.Kernel3Ideal.Gen Cert.EX
open Idealize.ShloMosaic Idealize.ShloMosaic.TcCoe
open Idealize.SL Idealize.SL.Sem
open Idealize.ShloMosaic.Pipeline (Dat Cfg Window)

/-! ## The body's results read at an index -/

theorem ld_top (x : Vec Ideal S1024x1024 .bf16) (r : Fin 512) (j : Fin 1024) :
    View.ld (Val := Elt Ideal) (e' := .bf16) x rTop (ix2 (n0 := 512) (n1 := 1024) r j) = x (ix2 (n0 := 1024) (n1 := 1024) ⟨r.val, by omega⟩ j) := by
  refine congrArg x ?_
  funext a
  match a with
  | ⟨0, _⟩ => exact Fin.ext (by show 0 + 1 * r.val = r.val; omega)
  | ⟨1, _⟩ => exact Fin.ext (by show 0 + 1 * j.val = j.val; omega)

theorem ld_bot (x : Vec Ideal S1024x1024 .bf16) (r : Fin 512) (j : Fin 1024) :
    View.ld (Val := Elt Ideal) (e' := .bf16) x rBot (ix2 (n0 := 512) (n1 := 1024) r j) = x (ix2 (n0 := 1024) (n1 := 1024) ⟨512 + r.val, by omega⟩ j) := by
  refine congrArg x ?_
  funext a
  match a with
  | ⟨0, _⟩ => exact Fin.ext (by show 512 + 1 * r.val = 512 + r.val; omega)
  | ⟨1, _⟩ => exact Fin.ext (by show 0 + 1 * j.val = j.val; omega)

theorem ld_up (x : Vec Ideal S1x1024x512 .bf16) (j : Fin 1024) (k : Fin 512) :
    View.ld (Val := Elt Ideal) (e' := .bf16) x rUp (ix3 (n0 := 1) (n1 := 1024) (n2 := 512) 0 j k) = x (ix3 (n0 := 1) (n1 := 1024) (n2 := 512) 0 j k) := by
  refine congrArg x ?_
  funext a
  match a with
  | ⟨0, _⟩ => exact Fin.ext (by show 0 + 1 * 0 = 0; omega)
  | ⟨1, _⟩ => exact Fin.ext (by show 0 + 1 * j.val = j.val; omega)
  | ⟨2, _⟩ => exact Fin.ext (by show 0 + 1 * k.val = k.val; omega)

theorem ld_down (x : Vec Ideal S1x512x1024 .bf16) (k : Fin 512) (j : Fin 1024) :
    View.ld (Val := Elt Ideal) (e' := .bf16) x rDown (ix3 (n0 := 1) (n1 := 512) (n2 := 1024) 0 k j) = x (ix3 (n0 := 1) (n1 := 512) (n2 := 1024) 0 k j) := by
  refine congrArg x ?_
  funext a
  match a with
  | ⟨0, _⟩ => exact Fin.ext (by show 0 + 1 * 0 = 0; omega)
  | ⟨1, _⟩ => exact Fin.ext (by show 0 + 1 * k.val = k.val; omega)
  | ⟨2, _⟩ => exact Fin.ext (by show 0 + 1 * j.val = j.val; omega)

theorem emb_bot (r : Fin 512) (c : Fin 1024) : rBot.emb (ix2 (n0 := 512) (n1 := 1024) r c) = ix2 (n0 := 1024) (n1 := 1024) ⟨512 + r.val, by omega⟩ c := by
  funext a
  match a with
  | ⟨0, _⟩ => exact Fin.ext (by show 512 + 1 * r.val = 512 + r.val; omega)
  | ⟨1, _⟩ => exact Fin.ext (by show 0 + 1 * c.val = c.val; omega)

theorem emb_top (r : Fin 512) (c : Fin 1024) : rTop.emb (ix2 (n0 := 512) (n1 := 1024) r c) = ix2 (n0 := 1024) (n1 := 1024) ⟨r.val, by omega⟩ c := by
  funext a
  match a with
  | ⟨0, _⟩ => exact Fin.ext (by show 0 + 1 * r.val = r.val; omega)
  | ⟨1, _⟩ => exact Fin.ext (by show 0 + 1 * c.val = c.val; omega)

theorem not_mem_bot (r : Fin 512) (c : Fin 1024) : ix2 (n0 := 1024) (n1 := 1024) ⟨r.val, by omega⟩ c ∉ rBot.set := fun h => by
  obtain ⟨x, hx⟩ := rBot.exists_idx_of_mem h
  have h0 : 512 + 1 * (x (0 : Fin 2)).val = r.val := congrArg Fin.val (congrFun hx (0 : Fin 2))
  have := r.isLt
  omega

variable (x0 : Vec Ideal S1024x1024 .bf16) (x1 x2 : Vec Ideal S1x1024x512 .bf16) (x3 : Vec Ideal S1x512x1024 .bf16) (x4 x5 : Vec Ideal S1x1024x512 .bf16) (x6 : Vec Ideal S1x512x1024 .bf16)

theorem canon_top (w1 w2 : S512x1024.Idx → Elt Ideal .bf16) (r : Fin 512) (c : Fin 1024) :
    View.canon (Val := Elt Ideal) [(⟨rBot, w1⟩ : View.Piece (Elt Ideal) S1024x1024 .bf16), ⟨rTop, w2⟩] (ix2 (n0 := 1024) (n1 := 1024) ⟨r.val, by omega⟩ c) = w2 (ix2 (n0 := 512) (n1 := 1024) r c) :=
  (View.canon_cons_of_not_mem (⟨rBot, w1⟩ : View.Piece (Elt Ideal) S1024x1024 .bf16) [⟨rTop, w2⟩] (not_mem_bot r c)).trans ((congrArg _ (emb_top r c).symm).trans (View.canon_cons_emb (Val := Elt Ideal) rTop w2 [] (ix2 (n0 := 512) (n1 := 1024) r c)))

theorem canon_bot (w1 w2 : S512x1024.Idx → Elt Ideal .bf16) (r : Fin 512) (c : Fin 1024) :
    View.canon (Val := Elt Ideal) [(⟨rBot, w1⟩ : View.Piece (Elt Ideal) S1024x1024 .bf16), ⟨rTop, w2⟩] (ix2 (n0 := 1024) (n1 := 1024) ⟨512 + r.val, by omega⟩ c) = w1 (ix2 (n0 := 512) (n1 := 1024) r c) :=
  (congrArg _ (emb_bot r c).symm).trans (View.canon_cons_emb (Val := Elt Ideal) rBot w1 _ (ix2 (n0 := 512) (n1 := 1024) r c))

theorem ffn_congr {x x' : Fin 1024 → EReal} {g g' u u' : Fin 1024 → Fin 512 → EReal} {d d' : Fin 512 → Fin 1024 → EReal} (hx : ∀ j, x j = x' j) (hg : ∀ j k, g j k = g' j k) (hu : ∀ j k, u j k = u' j k)
    (hd : ∀ k c, d k c = d' k c) (c : Fin 1024) : ffn x g u d c = ffn x' g' u' d' c := by
  rw [show x = x' from funext hx, show g = g' from funext fun j => funext (hg j), show u = u' from funext fun j => funext (hu j), show d = d' from funext fun k => funext (hd k)]

theorem top_at (r : Fin 512) (c : Fin 1024) :
    outUsed x0 x1 x2 x3 x4 x5 x6 (ix2 (n0 := 1024) (n1 := 1024) ⟨r.val, by omega⟩ c)
      = ffn (fun j => x0 (ix2 (n0 := 1024) (n1 := 1024) ⟨r.val, by omega⟩ j)) (fun j k => x1 (ix3 (n0 := 1) (n1 := 1024) (n2 := 512) 0 j k)) (fun j k => x2 (ix3 (n0 := 1) (n1 := 1024) (n2 := 512) 0 j k))
          (fun k c => x3 (ix3 (n0 := 1) (n1 := 512) (n2 := 1024) 0 k c)) c :=
  (canon_top _ _ r c).trans ((pay4_apply _ _ _ _ r c).trans
    (ffn_congr (fun j => ld_top x0 r j) (fun j k => ld_up x1 j k) (fun j k => ld_up x2 j k) (fun k c => ld_down x3 k c) c))

theorem bot_at (r : Fin 512) (c : Fin 1024) :
    outUsed x0 x1 x2 x3 x4 x5 x6 (ix2 (n0 := 1024) (n1 := 1024) ⟨512 + r.val, by omega⟩ c)
      = ffn (fun j => x0 (ix2 (n0 := 1024) (n1 := 1024) ⟨512 + r.val, by omega⟩ j)) (fun j k => x4 (ix3 (n0 := 1) (n1 := 1024) (n2 := 512) 0 j k)) (fun j k => x5 (ix3 (n0 := 1) (n1 := 1024) (n2 := 512) 0 j k))
          (fun k c => x6 (ix3 (n0 := 1) (n1 := 512) (n2 := 1024) 0 k c)) c :=
  (canon_bot _ _ r c).trans ((pay1_apply _ _ _ _ r c).trans
    (ffn_congr (fun j => ld_bot x0 r j) (fun j k => ld_up x4 j k) (fun j k => ld_up x5 j k) (fun k c => ld_down x6 k c) c))

theorem emb_all (r c : Fin 1024) : rAll.emb (ix2 (n0 := 1024) (n1 := 1024) r c) = ix2 (n0 := 1024) (n1 := 1024) r c := by
  funext a
  match a with
  | ⟨0, _⟩ => exact Fin.ext (by show 0 + 1 * r.val = r.val; omega)
  | ⟨1, _⟩ => exact Fin.ext (by show 0 + 1 * c.val = c.val; omega)

theorem canon_all (w : S1024x1024.Idx → Elt Ideal .bf16) (r c : Fin 1024) :
    View.canon (Val := Elt Ideal) [(⟨rAll, w⟩ : View.Piece (Elt Ideal) S1024x1024 .bf16)] (ix2 (n0 := 1024) (n1 := 1024) r c) = w (ix2 (n0 := 1024) (n1 := 1024) r c) :=
  (congrArg _ (emb_all r c).symm).trans (View.canon_cons_emb (Val := Elt Ideal) rAll w _ (ix2 (n0 := 1024) (n1 := 1024) r c))

theorem idle_at (r c : Fin 1024) : outIdle (F := Ideal) (ix2 (n0 := 1024) (n1 := 1024) r c) = (0 : EReal) :=
  (canon_all _ r c).trans (pay2_apply _)

theorem blockOut_used (i : grid0.Coords) (n : BitVec 32) (h : k0_cond1 i n = 1#1) : blockOut (F := Ideal) i n x0 x1 x2 x3 x4 x5 x6 = outUsed x0 x1 x2 x3 x4 x5 x6 := if_pos h
theorem blockOut_idle (i : grid0.Coords) (n : BitVec 32) (h : ¬ k0_cond1 i n = 1#1) : blockOut (F := Ideal) i n x0 x1 x2 x3 x4 x5 x6 = outIdle := if_neg h

theorem bit_ne : ∀ b : BitVec 1, IntOp.cmpi .ne (BitVec.setWidth 32 b) 0#32 = b := by decide

theorem cond1_iff (i : grid0.Coords) (n : BitVec 32) (h : 1 ≤ n.toInt) : k0_cond1 i n = 1#1 ↔ 2 * (i 0).val < n.toNat := by
  have hi : (i 0).val < 196 := (i 0).isLt
  have h2 : ∀ i : Fin 196, (IntOp.muli (BitVec.ofNat 32 i.val) 2#32).toInt = 2 * i.val := by decide +kernel
  have hn := BitVec.toInt_eq_toNat_cond n
  have e : k0_cond1 i n = BitVec.ofBool (decide ((IntOp.muli (BitVec.ofNat 32 (i 0).val) 2#32).toInt < n.toInt)) := bit_ne _
  have hb : ∀ b : Bool, BitVec.ofBool b = 1#1 ↔ b = true := by decide
  rw [e, hb, decide_eq_true_iff, h2 ⟨(i 0).val, hi⟩]
  split at hn
  · show (2 * ((i 0).val : ℤ) < n.toInt) ↔ _
    omega
  · omega

/-! ## The final array -/

variable (m : (ℓ : Loc nD τ sig) → Buf (Elt Ideal) ℓ) (hD : Disp m) (c : Dev nD)

/-- The dispatched tokens, as launched. -/
def argX : Xs := m ((c : Thread nD τ).loc main_arg0)
/-- The gate weights, as launched. -/
def argG : Wup := m ((c : Thread nD τ).loc main_arg3)
/-- The up weights, as launched. -/
def argU : Wup := m ((c : Thread nD τ).loc main_arg4)
/-- The down weights, as launched. -/
def argD : Wdn := m ((c : Thread nD τ).loc main_arg5)

theorem V_v0 : (V m c main_v0 : Wup) = argG m c := by unfold V; after_results_simp; rfl
theorem V_v1 : (V m c main_v1 : Wup) = argU m c := by unfold V; after_results_simp; rfl
theorem V_v2 : (V m c main_v2 : Wdn) = argD m c := by unfold V; after_results_simp; rfl

/-- The expert whose weights a step is handed for a block. -/
def handed (p : ℕ) : Fin 16 := expertOf (be m (last m p))

theorem handed_val (hD : Disp m) (p : ℕ) : (handed m p).val = (be m (last m p)).toNat := by
  have := be_lt m hD (last m p)
  unfold handed expertOf
  show min _ 15 = _
  omega

theorem row0 (t : Fin grid0.N) : (blk0 (grid0.coords t)).val = 2 * t.val := congrArg (fun z => 2 * z) (coords0 t)
theorem row1 (t : Fin grid0.N) : (blk1 (grid0.coords t)).val = 2 * t.val + 1 := congrArg (fun z => 2 * z + 1) (coords0 t)

include hD in
theorem win0_eq (t : Fin grid0.N) (hu : 2 * t.val < (nv m).toNat) : cc0_transform_0 inb_S1_S1_0 numel1_S1 (tbl m) (grid0.coords t) = ![t.val, 0] := by
  rw [t0_eq m hD, coords0 t, show min t.val (((nv m).toNat - 1) / 2) = t.val by omega]

theorem ib0_at (t : Fin grid0.N) (hu : 2 * t.val < (nv m).toNat) (r j : Fin 1024) :
    ib0 m (ok_of m hD) c t (ix2 (n0 := 1024) (n1 := 1024) r j) = argX m c (ix2 (n0 := 200704) (n1 := 1024) ⟨1024 * t.val + r.val, by have := N_eq; omega⟩ j) :=
  (read0 (adm m (ok_of m hD)) t t.val (by have := N_eq; omega) (win0_eq m hD t hu) _ r j).trans (congrFun (V_main_arg0 m c) _)

theorem ib1_at (t : Fin grid0.N) (r : Fin 1024) (j : Fin 512) :
    ib1 m (ok_of m hD) c t (ix3 (n0 := 1) (n1 := 1024) (n2 := 512) 0 r j) = argG m c (ix3 (n0 := 16) (n1 := 1024) (n2 := 512) (handed m (2 * t.val)) r j) :=
  (read1 (adm m (ok_of m hD)) t (handed m (2 * t.val)) (by rw [handed_val m hD, ← row0 t]; exact t1_eq m hD (grid0.coords t)) _ r j).trans (congrFun (V_v0 m c) _)

theorem ib2_at (t : Fin grid0.N) (r : Fin 1024) (j : Fin 512) :
    ib2 m (ok_of m hD) c t (ix3 (n0 := 1) (n1 := 1024) (n2 := 512) 0 r j) = argU m c (ix3 (n0 := 16) (n1 := 1024) (n2 := 512) (handed m (2 * t.val)) r j) :=
  (read2 (adm m (ok_of m hD)) t (handed m (2 * t.val)) (by rw [handed_val m hD, ← row0 t]; exact t2_eq m hD (grid0.coords t)) _ r j).trans (congrFun (V_v1 m c) _)

theorem ib3_at (t : Fin grid0.N) (r : Fin 512) (j : Fin 1024) :
    ib3 m (ok_of m hD) c t (ix3 (n0 := 1) (n1 := 512) (n2 := 1024) 0 r j) = argD m c (ix3 (n0 := 16) (n1 := 512) (n2 := 1024) (handed m (2 * t.val)) r j) :=
  (read3 (adm m (ok_of m hD)) t (handed m (2 * t.val)) (by rw [handed_val m hD, ← row0 t]; exact t3_eq m hD (grid0.coords t)) _ r j).trans (congrFun (V_v2 m c) _)

theorem ib4_at (t : Fin grid0.N) (r : Fin 1024) (j : Fin 512) :
    ib4 m (ok_of m hD) c t (ix3 (n0 := 1) (n1 := 1024) (n2 := 512) 0 r j) = argG m c (ix3 (n0 := 16) (n1 := 1024) (n2 := 512) (handed m (2 * t.val + 1)) r j) :=
  (read4 (adm m (ok_of m hD)) t (handed m (2 * t.val + 1)) (by rw [handed_val m hD, ← row1 t]; exact t4_eq m hD (grid0.coords t)) _ r j).trans (congrFun (V_v0 m c) _)

theorem ib5_at (t : Fin grid0.N) (r : Fin 1024) (j : Fin 512) :
    ib5 m (ok_of m hD) c t (ix3 (n0 := 1) (n1 := 1024) (n2 := 512) 0 r j) = argU m c (ix3 (n0 := 16) (n1 := 1024) (n2 := 512) (handed m (2 * t.val + 1)) r j) :=
  (read5 (adm m (ok_of m hD)) t (handed m (2 * t.val + 1)) (by rw [handed_val m hD, ← row1 t]; exact t5_eq m hD (grid0.coords t)) _ r j).trans (congrFun (V_v1 m c) _)

theorem ib6_at (t : Fin grid0.N) (r : Fin 512) (j : Fin 1024) :
    ib6 m (ok_of m hD) c t (ix3 (n0 := 1) (n1 := 512) (n2 := 1024) 0 r j) = argD m c (ix3 (n0 := 16) (n1 := 512) (n2 := 1024) (handed m (2 * t.val + 1)) r j) :=
  (read6 (adm m (ok_of m hD)) t (handed m (2 * t.val + 1)) (by rw [handed_val m hD, ← row1 t]; exact t6_eq m hD (grid0.coords t)) _ r j).trans (congrFun (V_v2 m c) _)

/-- A block in use is handed its own expert. -/
theorem handed_used (p : ℕ) (hp : p < 392) (hu : p < (nv m).toNat) : handed m p = expertOf (be m ⟨p, hp⟩) := by
  unfold handed
  refine congrArg (fun z => expertOf (be m z)) (Fin.ext ?_)
  show min (min p ((nv m).toNat - 1)) 391 = p
  omega

theorem cond_at (hD : Disp m) (t : Fin grid0.N) : k0_cond1 (grid0.coords t) (nw m) = 1#1 ↔ 2 * t.val < (nv m).toNat := by
  have e : nw m = nv m := tbl1_eq m
  rw [e, ← coords0 t]
  exact cond1_iff _ _ hD.one

theorem block_top (t : Fin grid0.N) (r : Fin 512) (h : 1024 * t.val + r.val < 200704) (h' : 2 * t.val < 392) : blockOf ⟨1024 * t.val + r.val, h⟩ = ⟨2 * t.val, h'⟩ :=
  Fin.ext (by show (1024 * t.val + r.val) / 512 = 2 * t.val; omega)

theorem block_bot (t : Fin grid0.N) (r : Fin 512) (h : 1024 * t.val + (512 + r.val) < 200704) (h' : 2 * t.val + 1 < 392) : blockOf ⟨1024 * t.val + (512 + r.val), h⟩ = ⟨2 * t.val + 1, h'⟩ :=
  Fin.ext (by show (1024 * t.val + (512 + r.val)) / 512 = 2 * t.val + 1; omega)

/-- The first block of a step in use. -/
theorem step_top (t : Fin grid0.N) (hu : 2 * t.val < (nv m).toNat) (r : Fin 512) (k : Fin 1024) (h : 1024 * t.val + r.val < 200704) :
    out7 m (ok_of m hD) c t (ix2 (n0 := 1024) (n1 := 1024) ⟨r.val, by omega⟩ k)
      = moe (argX m c) (be m) (nv m).toNat (argG m c) (argU m c) (argD m c) ⟨1024 * t.val + r.val, h⟩ k := by
  have hN := N_eq
  have ht : 2 * t.val < 392 := by omega
  unfold moe
  rw [block_top t r h ht, if_pos hu, ← handed_used m (2 * t.val) ht hu]
  refine (congrFun (blockOut_used _ _ _ _ _ _ _ _ _ ((cond_at m hD t).mpr hu)) _).trans ((top_at _ _ _ _ _ _ _ r k).trans ?_)
  exact ffn_congr (fun j => ib0_at m hD c t hu _ j) (fun j k => ib1_at m hD c t j k) (fun j k => ib2_at m hD c t j k) (fun k c' => ib3_at m hD c t k c') k

/-- The second block of a step in use. -/
theorem step_bot (hz : ∀ b : Fin 392, (nv m).toNat ≤ b.val → ∀ (r : Fin 512) (j : Fin 1024), argX m c (ix2 (n0 := 200704) (n1 := 1024) (rowOf b r) j) = 0)
    (t : Fin grid0.N) (hu : 2 * t.val < (nv m).toNat) (r : Fin 512) (k : Fin 1024) (h : 1024 * t.val + (512 + r.val) < 200704) :
    out7 m (ok_of m hD) c t (ix2 (n0 := 1024) (n1 := 1024) ⟨512 + r.val, by omega⟩ k)
      = moe (argX m c) (be m) (nv m).toNat (argG m c) (argU m c) (argD m c) ⟨1024 * t.val + (512 + r.val), h⟩ k := by
  have hN := N_eq
  have ht : 2 * t.val + 1 < 392 := by omega
  unfold moe
  rw [block_bot t r h ht]
  refine (congrFun (blockOut_used _ _ _ _ _ _ _ _ _ ((cond_at m hD t).mpr hu)) _).trans ((bot_at _ _ _ _ _ _ _ r k).trans ?_)
  refine (ffn_congr (fun j => ib0_at m hD c t hu _ j) (fun j k => ib4_at m hD c t j k) (fun j k => ib5_at m hD c t j k) (fun k c' => ib6_at m hD c t k c') k).trans ?_
  by_cases hv : 2 * t.val + 1 < (nv m).toNat
  · rw [if_pos hv, ← handed_used m (2 * t.val + 1) ht hv]
    rfl
  · rw [if_neg hv]
    refine ffn_zero _ (fun j => ?_) _ _ _ _
    refine Eq.trans (congrArg (fun z => argX m c (ix2 (n0 := 200704) (n1 := 1024) z j)) (Fin.ext ?_)) (hz ⟨2 * t.val + 1, ht⟩ (by show _ ≤ 2 * t.val + 1; omega) r j)
    show 1024 * t.val + (512 + r.val) = (2 * t.val + 1) * 512 + r.val
    omega

/-- A step past the blocks in use. -/
theorem step_idle (t : Fin grid0.N) (hu : ¬ 2 * t.val < (nv m).toNat) (r : Fin 1024) (k : Fin 1024) (h : 1024 * t.val + r.val < 200704) :
    out7 m (ok_of m hD) c t (ix2 (n0 := 1024) (n1 := 1024) r k)
      = moe (argX m c) (be m) (nv m).toNat (argG m c) (argU m c) (argD m c) ⟨1024 * t.val + r.val, h⟩ k := by
  have hb : ¬ (blockOf ⟨1024 * t.val + r.val, h⟩).val < (nv m).toNat := by
    show ¬ (1024 * t.val + r.val) / 512 < _
    omega
  unfold moe
  rw [if_neg hb]
  exact (congrFun (blockOut_idle _ _ _ _ _ _ _ _ _ (fun hc => hu ((cond_at m hD t).mp hc))) _).trans (idle_at r k)

/-- What a step leaves is the experts' results on its rows. -/
theorem step_at (hz : ∀ b : Fin 392, (nv m).toNat ≤ b.val → ∀ (r : Fin 512) (j : Fin 1024), argX m c (ix2 (n0 := 200704) (n1 := 1024) (rowOf b r) j) = 0)
    (t : Fin grid0.N) (r k : Fin 1024) (h : 1024 * t.val + r.val < 200704) :
    out7 m (ok_of m hD) c t (ix2 (n0 := 1024) (n1 := 1024) r k)
      = moe (argX m c) (be m) (nv m).toNat (argG m c) (argU m c) (argD m c) ⟨1024 * t.val + r.val, h⟩ k := by
  by_cases hu : 2 * t.val < (nv m).toNat
  · by_cases hlo : r.val < 512
    · exact step_top m hD c t hu ⟨r.val, hlo⟩ k h
    · obtain ⟨r', hr', rfl⟩ : ∃ r' : Fin 512, ∃ h' : 512 + r'.val < 1024, r = ⟨512 + r'.val, h'⟩ :=
        ⟨⟨r.val - 512, by omega⟩, by show 512 + (r.val - 512) < 1024; omega, Fin.ext (by show r.val = 512 + (r.val - 512); omega)⟩
      exact step_bot m hD c hz t hu r' k h
  · exact step_idle m hD c t hu r k h

/-- The final array, where every step leaves its rows of it. -/
theorem final_gen (a : (pcfg0 (F := Ideal)).Adm) (c : Dev nD) (dat : Dat τ (Elt Ideal) Unit ℕ (UR sig nD τ) ℕ (cfg0 a) c)
    (out : Fin grid0.N → S1024x1024.Idx → EReal) (ha : ∀ t, dat.after (7 : Fin 8) t = out t) (G : S200704x1024.Idx → EReal)
    (hG : ∀ (t : Fin grid0.N) (r k : Fin 1024), out t (ix2 (n0 := 1024) (n1 := 1024) r k) = G (ix2 (n0 := 200704) (n1 := 1024) ⟨1024 * t.val + r.val, by have := N_eq; omega⟩ k)) :
    dat.arrAt (7 : Fin 8) (cfg0 a).N = G := by
  refine dat.arrAt_eq_of_covers (7 : Fin 8) _ (covers7 a) fun t hf y => ?_
  have hi : (pcfg0.win a (7 : Fin 8)).index t = ![t.val, 0] := index7 a t
  have hy : y = ix2 (n0 := 1024) (n1 := 1024) (y 0) (y 1) := (ix2_eta y).symm
  rw [hy]
  blk_simp
  rw [ha]
  refine (hG t (y 0) (y 1)).trans ?_
  congr 1
  blk_ext [hi]

theorem final (hz : ∀ b : Fin 392, (nv m).toNat ≤ b.val → ∀ (r : Fin 512) (j : Fin 1024), argX m c (ix2 (n0 := 200704) (n1 := 1024) (rowOf b r) j) = 0) :
    (dats m (ok_of m hD) 0 c).arrAt (7 : Fin 8) (cfgM m (ok_of m hD)).N
      = fun y : S200704x1024.Idx => moe (argX m c) (be m) (nv m).toNat (argG m c) (argU m c) (argD m c) (y 0) (y 1) :=
  final_gen (adm m (ok_of m hD)) c (dats m (ok_of m hD) 0 c) (out7 m (ok_of m hD) c) (after0_7 m (ok_of m hD) c) _ fun t r k => step_at m hD c hz t r k _

end Cert.Kernel3Ideal.EX

end
-- ==== Proof.EX.Ref.lean ====
module

public import proofs.«01_k».proof.Proof.Gen.Reference3Ideal.Read
public import proofs.«01_k».proof.Proof.EX.Spec
public import proofs.«01_k».proof.Proof.EX.Pre
public import Idealize.ShloMosaic.Lib.Pointwise
public import Idealize.ShloMosaic.Lib.StableHlo.Predicate

@[expose] public section

set_option maxRecDepth 16384

noncomputable section

namespace Cert.Reference3Ideal.EX

open Cert.Reference3Ideal Cert.Reference3Ideal.Gen Cert.Reference3Ideal.Read Cert.EX
open Idealize.ShloMosaic Idealize.ShloMosaic.TcCoe

/-! ## One slab per block, read at an index -/

/-- The dimension numbers of a choice of slabs: one row of the leading axis for each block, all of the other two axes. -/
abbrev slabDims (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem slab_apply {α : Type} {N R A B : ℕ} (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (b : Fin R) (i : Fin A) (j : Fin B) :
    Host.gather (slabDims N R A B wf) x idx (ix3 (n0 := R) (n1 := A) (n2 := B) b i j)
      = x (ix3 (n0 := N) (n1 := A) (n2 := B) ⟨min (idx (ix2 (n0 := R) (n1 := 1) b 0)).toInt.toNat (N - 1), by omega⟩ i j) := by
  unfold Host.gather
  congr 1
  funext a
  refine Fin.ext ?_
  show (slabDims N R A B wf).start _ idx a + (slabDims N R A B wf).batchCoord _ a + (slabDims N R A B wf).offCoord _ a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N R A B wf).startIndexMap from List.mem_singleton.mpr rfl)]
    have hsi : (slabDims N R A B wf).siIdx (ix3 (n0 := R) (n1 := A) (n2 := B) b i j) ⟨List.idxOf (0 : Fin 3) (slabDims N R A B wf).startIndexMap,
        List.idxOf_lt_length_iff.2 (List.mem_singleton.mpr rfl)⟩ = ix2 (n0 := R) (n1 := 1) b 0 := by
      funext b'; refine Fin.ext ?_
      match b' with
      | ⟨0, _⟩ => rfl
      | ⟨1, _⟩ => rfl
    rw [hsi]
    rfl
  · have hm : (1 : Fin 3) ∉ (slabDims N R A B wf).startIndexMap := fun h => by simp at h
    unfold GatherDims.start GatherDims.offCoord
    rw [dif_neg hm, dif_pos ((GatherDims.mem_sKept _ _).mpr ⟨fun h => by simp at h, List.not_mem_nil⟩)]
    simp only [Nat.zero_add, Nat.add_zero]
    rfl
  · have hm : (2 : Fin 3) ∉ (slabDims N R A B wf).startIndexMap := fun h => by simp at h
    unfold GatherDims.start GatherDims.offCoord
    rw [dif_neg hm, dif_pos ((GatherDims.mem_sKept _ _).mpr ⟨fun h => by simp at h, List.not_mem_nil⟩)]
    simp only [Nat.zero_add, Nat.add_zero]
    rfl

/-! ## The reference -/

variable (x0 : Vec Ideal S200704x1024 .bf16) (x1 : IVec S392 32) (x2 : IVec S1 32) (x3 x4 : Vec Ideal S16x1024x512 .f32) (x5 : Vec Ideal S16x512x1024 .f32)

/-- A nonnegative index is not wrapped. -/
theorem not_wrapped (w : BitVec 32) (h : 0 ≤ w.toInt) : Scalar.select (IntOp.cmpi .slt w 0#32) (IntOp.addi w 16#32) w = w := by
  have e : IntOp.cmpi .slt w 0#32 = 0#1 := by
    show BitVec.ofBool (decide (w.toInt < 0)) = 0#1
    rw [decide_eq_false (by omega)]; rfl
  rw [e]; rfl

theorem v7_apply (b : Fin 392) (h : 0 ≤ (x1 (ix1 (n0 := 392) b)).toInt) : val_main_v7 (F := Ideal) x1 (ix2 (n0 := 392) (n1 := 1) b 0) = x1 (ix1 (n0 := 392) b) := by
  refine Eq.trans ?_ (not_wrapped _ h)
  pointwise [val_main_v7, val_main_v6, val_main_v5, val_main_v4, val_main_v3, val_main_v2, val_main_c, val_main_c_0]
  try rfl

theorem expert_eq (w : BitVec 32) (h : 0 ≤ w.toInt) (hb : min w.toInt.toNat (16 - 1) < 16) : (⟨min w.toInt.toNat (16 - 1), hb⟩ : Fin 16) = expertOf w := by
  have hn := BitVec.toInt_eq_toNat_cond w
  refine Fin.ext ?_
  show min w.toInt.toNat (16 - 1) = min w.toNat 15
  split at hn <;> omega

/-- The expert chosen for a block. -/
theorem chosen (b : Fin 392) (h : 0 ≤ (x1 (ix1 (n0 := 392) b)).toInt) (v : IVec S392x1 32) (hv : v = val_main_v7 (F := Ideal) x1) (hb : min (v (ix2 (n0 := 392) (n1 := 1) b 0)).toInt.toNat (16 - 1) < 16) :
    (⟨min (v (ix2 (n0 := 392) (n1 := 1) b 0)).toInt.toNat (16 - 1), hb⟩ : Fin 16) = expertOf (x1 (ix1 (n0 := 392) b)) :=
  (Fin.ext (congrArg (fun w : BitVec 32 => min w.toInt.toNat (16 - 1)) ((congrFun hv _).trans (v7_apply x1 b h)))).trans (expert_eq _ h (by omega))

theorem gate_apply (b : Fin 392) (h : 0 ≤ (x1 (ix1 (n0 := 392) b)).toInt) (j : Fin 1024) (k : Fin 512) :
    val_main_v8 (F := Ideal) x1 x3 (ix3 (n0 := 392) (n1 := 1024) (n2 := 512) b j k) = x3 (ix3 (n0 := 16) (n1 := 1024) (n2 := 512) (expertOf (x1 (ix1 (n0 := 392) b))) j k) := by
  unfold val_main_v8
  exact (slab_apply (N := 16) (by omega) _ x3 _ b j k).trans (congrArg (fun z => x3 (ix3 (n0 := 16) (n1 := 1024) (n2 := 512) z j k)) (chosen x1 b h _ rfl _))

theorem up_apply (b : Fin 392) (h : 0 ≤ (x1 (ix1 (n0 := 392) b)).toInt) (j : Fin 1024) (k : Fin 512) :
    val_main_v16 (F := Ideal) x1 x4 (ix3 (n0 := 392) (n1 := 1024) (n2 := 512) b j k) = x4 (ix3 (n0 := 16) (n1 := 1024) (n2 := 512) (expertOf (x1 (ix1 (n0 := 392) b))) j k) := by
  unfold val_main_v16
  exact (slab_apply (N := 16) (by omega) _ x4 _ b j k).trans (congrArg (fun z => x4 (ix3 (n0 := 16) (n1 := 1024) (n2 := 512) z j k)) (chosen x1 b h _ rfl _))

theorem down_apply (b : Fin 392) (h : 0 ≤ (x1 (ix1 (n0 := 392) b)).toInt) (k : Fin 512) (c : Fin 1024) :
    val_main_v26 (F := Ideal) x1 x5 (ix3 (n0 := 392) (n1 := 512) (n2 := 1024) b k c) = x5 (ix3 (n0 := 16) (n1 := 512) (n2 := 1024) (expertOf (x1 (ix1 (n0 := 392) b))) k c) := by
  unfold val_main_v26
  exact (slab_apply (N := 16) (by omega) _ x5 _ b k c).trans (congrArg (fun z => x5 (ix3 (n0 := 16) (n1 := 512) (n2 := 1024) z k c)) (chosen x1 b h _ rfl _))

theorem tok_apply (b : Fin 392) (r : Fin 512) (j : Fin 1024) : val_main_v1 (F := Ideal) x0 (ix3 (n0 := 392) (n1 := 512) (n2 := 1024) b r j) = x0 (ix2 (n0 := 200704) (n1 := 1024) (rowOf b r) j) := by
  unfold rowOf
  pointwise [val_main_v1, val_main_v0]

theorem gdot_apply (b : Fin 392) (h : 0 ≤ (x1 (ix1 (n0 := 392) b)).toInt) (r : Fin 512) (k : Fin 512) :
    val_main_v9 (F := Ideal) x0 x1 x3 (ix3 (n0 := 392) (n1 := 512) (n2 := 512) b r k)
      = ∑ j : Fin 1024, x0 (ix2 (n0 := 200704) (n1 := 1024) (rowOf b r) j) * x3 (ix3 (n0 := 16) (n1 := 1024) (n2 := 512) (expertOf (x1 (ix1 (n0 := 392) b))) j k) := by
  pointwise [val_main_v9]
  exact Finset.sum_congr rfl fun j _ => congrArg₂ (fun y z => y * z) (tok_apply x0 b r j) (gate_apply x1 x3 b h j k)

theorem udot_apply (b : Fin 392) (h : 0 ≤ (x1 (ix1 (n0 := 392) b)).toInt) (r : Fin 512) (k : Fin 512) :
    val_main_v17 (F := Ideal) x0 x1 x4 (ix3 (n0 := 392) (n1 := 512) (n2 := 512) b r k)
      = ∑ j : Fin 1024, x0 (ix2 (n0 := 200704) (n1 := 1024) (rowOf b r) j) * x4 (ix3 (n0 := 16) (n1 := 1024) (n2 := 512) (expertOf (x1 (ix1 (n0 := 392) b))) j k) := by
  pointwise [val_main_v17]
  exact Finset.sum_congr rfl fun j _ => congrArg₂ (fun y z => y * z) (tok_apply x0 b r j) (up_apply x1 x4 b h j k)

theorem mid_apply (b : Fin 392) (r : Fin 512) (k : Fin 512) :
    val_main_v19 (F := Ideal) x0 x1 x3 x4 (ix3 (n0 := 392) (n1 := 512) (n2 := 512) b r k)
      = silu (val_main_v9 (F := Ideal) x0 x1 x3 (ix3 (n0 := 392) (n1 := 512) (n2 := 512) b r k)) * val_main_v17 (F := Ideal) x0 x1 x4 (ix3 (n0 := 392) (n1 := 512) (n2 := 512) b r k) := by
  unfold silu
  pointwise [val_main_v19, val_main_v18, val_main_call0_v5, val_main_call0_v4, val_main_call0_v3, val_main_call0_v2, val_main_call0_v1, val_main_call0_v0, val_main_call0_cst, val_main_call0_cst_0]
  rfl

theorem expert_apply (b : Fin 392) (h : 0 ≤ (x1 (ix1 (n0 := 392) b)).toInt) (r : Fin 512) (c : Fin 1024) :
    val_main_v27 (F := Ideal) x0 x1 x3 x4 x5 (ix3 (n0 := 392) (n1 := 512) (n2 := 1024) b r c) = rowOut x0 x3 x4 x5 (expertOf (x1 (ix1 (n0 := 392) b))) (rowOf b r) c := by
  unfold rowOut ffn midOf
  pointwise [val_main_v27]
  refine Finset.sum_congr rfl fun k _ => congrArg₂ (fun y z => y * z) ?_ (down_apply x1 x5 b h k c)
  rw [mid_apply, gdot_apply _ _ _ _ h, udot_apply _ _ _ _ h]

theorem inUse (b : Fin 392) (n : BitVec 32) (hn : 1 ≤ n.toInt) (x : EReal) : Scalar.select (IntOp.cmpi .slt (BitVec.ofNat 32 b.val) n) x 0 = if b.val < n.toNat then x else 0 := by
  have hbi : (BitVec.ofNat 32 b.val).toInt = b.val := StableHlo.Predicate.toInt_ofNat_small _ (by have := b.isLt; omega)
  have hni := BitVec.toInt_eq_toNat_cond n
  have e : IntOp.cmpi .slt (BitVec.ofNat 32 b.val) n = BitVec.ofBool (decide (b.val < n.toNat)) := by
    show BitVec.ofBool (decide ((BitVec.ofNat 32 b.val).toInt < n.toInt)) = _
    rw [hbi]
    refine congrArg BitVec.ofBool (decide_eq_decide.mpr ?_)
    split at hni <;> omega
  rw [e]
  by_cases hb : b.val < n.toNat
  · rw [if_pos hb, decide_eq_true hb]; rfl
  · rw [if_neg hb, decide_eq_false hb]; rfl

theorem count_eq : val_main_v29 (F := Ideal) x2 = fun _ => x2 (ix1 (n0 := 1) 0) := by
  unfold val_main_v29
  refine funext fun i => congrArg x2 (funext fun a => ?_)
  obtain rfl : a = (0 : Fin 1) := Subsingleton.elim _ _
  exact Subsingleton.elim (α := Fin 1) _ _

theorem out_apply (h : ∀ b, 0 ≤ (x1 (ix1 (n0 := 392) b)).toInt) (h2 : 1 ≤ (x2 (ix1 (n0 := 1) 0)).toInt) (n : Fin 200704) (c : Fin 1024) :
    val_main_v35 (F := Ideal) x0 x1 x2 x3 x4 x5 (ix2 (n0 := 200704) (n1 := 1024) n c) = moe x0 (fun b => x1 (ix1 (n0 := 392) b)) (x2 (ix1 (n0 := 1) 0)).toNat x3 x4 x5 n c := by
  unfold moe
  rw [← inUse _ _ h2]
  have hr : n = rowOf (blockOf n) ⟨n.val % 512, by omega⟩ := Fin.ext (by show n.val = n.val / 512 * 512 + n.val % 512; omega)
  have e := expert_apply x0 x1 x3 x4 x5 (blockOf n) (h _) ⟨n.val % 512, by omega⟩ c
  rw [← hr] at e
  rw [← e]
  unfold blockOf
  pointwise [val_main_v35, val_main_v34, val_main_v33, val_main_v32, val_main_v31, val_main_v30, val_main_v28, val_main_call1_v2, val_main_call1_v1, val_main_call1_v0, val_main_cst, count_eq x2]
  exact congrArg (fun z => Scalar.select _ _ z) (show Ideal.ofBits .f32 0x00000000#32 = 0 by simp [Ideal.ofBits, Ideal.ieee])

end Cert.Reference3Ideal.EX

end
-- ==== Proof.EX.Algebraic.lean ====
module

public import proofs.«01_k».proof.Proof.EX.Frames
public import proofs.«01_k».proof.Proof.EX.Value
public import proofs.«01_k».proof.Proof.EX.Ref
public import proofs.«01_k».proof.Proof.PJ.Algebraic

@[expose] public section

set_option maxRecDepth 16384

noncomputable section

namespace Cert.Proof

open Idealize.ShloMosaic Idealize.ShloMosaic.TcCoe Idealize.SL.Sem Cert.EX

/-- The experts' results as a whole array, of the memory the kernel is launched on. -/
def moeArr (m : (ℓ : Loc Cert.Kernel3Ideal.nD Cert.Kernel3Ideal.τ Cert.Kernel3Ideal.sig) → Buf (Elt Ideal) ℓ) (c : Dev Cert.Kernel3Ideal.nD) : (⟨2, ![200704, 1024]⟩ : Shape).Idx → EReal := fun y =>
  moe (Cert.Kernel3Ideal.EX.argX m c) (Cert.Kernel3Ideal.EX.be m) (Cert.Kernel3Ideal.EX.nv m).toNat (Cert.Kernel3Ideal.EX.argG m c) (Cert.Kernel3Ideal.EX.argU m c) (Cert.Kernel3Ideal.EX.argD m c) (y 0) (y 1)

/-- The count of the blocks in use, read as the claim's arguments are. -/
theorem count_word (m : (ℓ : Loc Cert.Kernel3Ideal.nD Cert.Kernel3Ideal.τ Cert.Kernel3Ideal.sig) → Buf (Elt Ideal) ℓ) :
    (m (((0 : Dev Cert.Kernel3Ideal.nD).tc : Thread Cert.Kernel3Ideal.nD Cert.Kernel3Ideal.τ).loc Cert.Kernel3Ideal.main_arg2) : IVec Cert.Kernel3Ideal.S1 32) (ix1 (n0 := 1) 0) = Cert.Kernel3Ideal.EX.nv m :=
  congrArg (m (((0 : Dev Cert.Kernel3Ideal.nD).tc : Thread Cert.Kernel3Ideal.nD Cert.Kernel3Ideal.τ).loc Cert.Kernel3Ideal.main_arg2) : IVec Cert.Kernel3Ideal.S1 32) (Cert.Kernel3Ideal.EX.idx1_eq _)

variable [hPre : Cert.Pre_dispatched.Facts]

/-- The idealized experts and their reference end with the same result, wherever the dispatch's own properties hold. -/
theorem algebraic_experts :
    Cert.algebraic_Kernel3Ideal_Reference3Ideal (hKernel3Ideal := Cert.Kernel3Ideal.Gen.facts) (hReference3Ideal := Cert.Reference3Ideal.Gen.facts) (hPre_dispatched := hPre) := fun m g m' g' hpre hargs => by
  have hD := disp_of m hpre
  refine ⟨fun c => moeArr m c, ?_, ?_⟩
  · refine (θ_run Cert.Kernel3Ideal.defs _ _).mono (fun r h c => ?_) (Cert.Kernel3Ideal.EX.run (F := Ideal) m g (Cert.Kernel3Ideal.EX.ok_of m hD))
    obtain ⟨h7, ha⟩ := h.1 c
    obtain rfl : c = 0 := Subsingleton.elim _ _
    exact ⟨h7.trans (Cert.Kernel3Ideal.EX.final m hD 0 fun b hb r j => dispatched_zero _ _ _ _ _ _ (hpre 0) b (le_of_eq_of_le (congrArg BitVec.toNat (count_word m)) hb) r j), ha⟩
  · refine (θ_run Cert.Reference3Ideal.defs _ _).mono (fun r h c => ?_) (Cert.Reference3Ideal.Value.run (F := Ideal) m' g')
    obtain ⟨h0, ha⟩ := h c
    obtain ⟨e0, e1, e2, e3, e4, e5⟩ := hargs c
    obtain rfl : c = 0 := Subsingleton.elim _ _
    refine ⟨h0.trans ((Cert.Reference3Ideal.Read.val_main_v35_eq (F := Ideal) _ _ _ _ _ _).trans ?_), ha⟩
    rw [e0, e1, e2, e3, e4, e5]
    exact matrix_ext _ _ fun n k => by
      refine (Cert.Reference3Ideal.EX.out_apply _ _ _ _ _ _ (fun b => hD.lo b) ?_ n k).trans ?_
      · rw [count_word m]
        exact hD.one
      · rw [count_word m]
        rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference2Ideal
public import proofs.«01_k».proof.Proof.Gen.Reference2Ideal.Run
public import proofs.«01_k».proof.Proof.Gen.Reference2Ideal.Read
public import proofs.«01_k».proof.Proof.NA.Frames
public import proofs.«01_k».proof.Proof.NA.Algebraic
public import proofs.«01_k».proof.Proof.PJ.Algebraic
public import proofs.«01_k».proof.Proof.EX.Frames
public import proofs.«01_k».proof.Proof.EX.Algebraic
public import Idealize.ShloMosaic.Adequacy
public import Idealize.ShloMosaic.Init

@[expose] public section

noncomputable section

namespace Cert.Proof

open Idealize.ShloMosaic Idealize.SL.Sem Cert.Kernel

theorem claim : Cert.Claim := haveI := factsFinite; haveI := Cert.EX.factsDispatched
  ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, factsFinite, Cert.EX.factsDispatched,
  frame_kernel, frame_ideal, fun m g _ => frame_ideal m g trivial, frame_reference, fun m g _ => frame_reference m g trivial,
  fun m g _ => Cert.Kernel2.Gen.frame m g, fun m g _ => Cert.Kernel2Ideal.Gen.frame m g, frame_reference_proj,
  frame_experts, frame_experts_ideal, frame_reference_experts, fun m g _ => frame_reference_experts m g trivial,
  trivial, algebraic (hPre := factsFinite), trivial, algebraic_proj,
  trivial, algebraic_experts (hPre := Cert.EX.factsDispatched)⟩

end Cert.Proof

end
